-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "a2" .f32 0x413DD552#32 ((815327732025 / 68719476736 : ℝ) : EReal)
  ∧ IdealRules.named_const.Statement Cert.KernelIdeal.κ "a3" .f32 0x4223785E#32 ((736204252270633875 / 18014398509481984 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v41_10) = v2 c
          ∧ r.2.mem ((c.tc : Thread Cert.ReferenceIdeal.nD Cert.ReferenceIdeal.τ).loc Cert.ReferenceIdeal.main_v41_11) = v3 c
          ∧ r.2.mem ((c.tc : Thread Cert.ReferenceIdeal.nD Cert.ReferenceIdeal.τ).loc Cert.ReferenceIdeal.main_v41_12) = v4 c
          ∧ r.2.mem ((c.tc : Thread Cert.ReferenceIdeal.nD Cert.ReferenceIdeal.τ).loc Cert.ReferenceIdeal.main_v50) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_v54) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x896x3072 : Shape := ⟨3, ![2, 896, 3072]⟩
abbrev S2x896x12 : Shape := ⟨3, ![2, 896, 12]⟩
abbrev S12x640x256 : Shape := ⟨3, ![12, 640, 256]⟩
abbrev S12x256x640 : Shape := ⟨3, ![12, 256, 640]⟩
abbrev S_ : Shape := ⟨0, ![]⟩

class Facts : Prop where
  bcast_S_S2x896x3072 : S_.BroadcastsInDim S2x896x3072 (![] : Fin 0 → Fin S2x896x3072.rank)
  reducesTo_S2x896x3072_S_d0_1_2 : S2x896x3072.ReducesTo [0, 1, 2] S_
  h_S_ : 0 < S_.numel
  bcast_S_S2x896x12 : S_.BroadcastsInDim S2x896x12 (![] : Fin 0 → Fin S2x896x12.rank)
  reducesTo_S2x896x12_S_d0_1_2 : S2x896x12.ReducesTo [0, 1, 2] S_
  bcast_S_S12x640x256 : S_.BroadcastsInDim S12x640x256 (![] : Fin 0 → Fin S12x640x256.rank)
  reducesTo_S12x640x256_S_d0_1_2 : S12x640x256.ReducesTo [0, 1, 2] S_
  bcast_S_S12x256x640 : S_.BroadcastsInDim S12x256x640 (![] : Fin 0 → Fin S12x256x640.rank)
  reducesTo_S12x256x640_S_d0_1_2 : S12x256x640.ReducesTo [0, 1, 2] S_

variable [Facts]

def fn_part2 {F : FTy → Type} [FloatOps F] (main_arg8 : FVec F S12x256x640 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S12x256x640 .f32 := Host.absf main_arg8
  let main_cst_14 : FVec F S_ .f32 := constant S_ .f32 0x7F800000#32
  let main_v33 : FVec F S12x256x640 .f32 := broadcastInDim S12x256x640 ![] bcast_S_S12x256x640 main_cst_14
  let main_v34 : IVec S12x256x640 1 := cmpf .olt main_v32 main_v33
  let main_c_15 : IVec S_ 1 := constantI S_ 1 1#1
  let main_v35 : IVec S_ 1 := (fun x v => Host.reduce IntOp.andi x v reducesTo_S12x256x640_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S2x896x3072 .bf16) (main_arg5 : FVec F S2x896x12 .f32) (main_arg6 : FVec F S12x640x256 .f32) (main_arg7 : FVec F S12x640x256 .f32) (main_arg8 : FVec F S12x256x640 .f32) (main_v3 : IVec S_ 1) (main_v7 : IVec S_ 1) (main_v11 : IVec S_ 1) (main_v15 : IVec S_ 1) : IVec S_ 1 :=
  let main_v16 : FVec F S2x896x3072 .bf16 := Host.absf main_arg4
  let main_cst_6 : FVec F S_ .bf16 := constant S_ .bf16 0x7F80#16
  let main_v17 : FVec F S2x896x3072 .bf16 := broadcastInDim S2x896x3072 ![] bcast_S_S2x896x3072 main_cst_6
  let main_v18 : IVec S2x896x3072 1 := cmpf .olt main_v16 main_v17
  let main_c_7 : IVec S_ 1 := constantI S_ 1 1#1
  let main_v19 : IVec S_ 1 := (fun x v => Host.reduce IntOp.andi x v reducesTo_S2x896x3072_S_d0_1_2 h_S_) main_v18 main_c_7
  let main_v20 : FVec F S2x896x12 .f32 := Host.absf main_arg5
  let main_cst_8 : FVec F S_ .f32 := constant S_ .f32 0x7F800000#32
  let main_v21 : FVec F S2x896x12 .f32 := broadcastInDim S2x896x12 ![] bcast_S_S2x896x12 main_cst_8
  let main_v22 : IVec S2x896x12 1 := cmpf .olt main_v20 main_v21
  let main_c_9 : IVec S_ 1 := constantI S_ 1 1#1
  let main_v23 : IVec S_ 1 := (fun x v => Host.reduce IntOp.andi x v reducesTo_S2x896x12_S_d0_1_2 h_S_) main_v22 main_c_9
  let main_v24 : FVec F S12x640x256 .f32 := Host.absf main_arg6
  let main_cst_10 : FVec F S_ .f32 := constant S_ .f32 0x7F800000#32
  let main_v25 : FVec F S12x640x256 .f32 := broadcastInDim S12x640x256 ![] bcast_S_S12x640x256 main_cst_10
  let main_v26 : IVec S12x640x256 1 := cmpf .olt main_v24 main_v25
  let main_c_11 : IVec S_ 1 := constantI S_ 1 1#1
  let main_v27 : IVec S_ 1 := (fun x v => Host.reduce IntOp.andi x v reducesTo_S12x640x256_S_d0_1_2 h_S_) main_v26 main_c_11
  let main_v28 : FVec F S12x640x256 .f32 := Host.absf main_arg7
  let main_cst_12 : FVec F S_ .f32 := constant S_ .f32 0x7F800000#32
  let main_v29 : FVec F S12x640x256 .f32 := broadcastInDim S12x640x256 ![] bcast_S_S12x640x256 main_cst_12
  let main_v30 : IVec S12x640x256 1 := cmpf .olt main_v28 main_v29
  let main_c_13 : IVec S_ 1 := constantI S_ 1 1#1
  let main_v31 : IVec S_ 1 := (fun x v => Host.reduce IntOp.andi x v reducesTo_S12x640x256_S_d0_1_2 h_S_) main_v30 main_c_13
  fn_part2 (F := F) main_arg8 main_v3 main_v7 main_v11 main_v15 main_v19 main_v23 main_v27 main_v31

def fn {F : FTy → Type} [FloatOps F] (main_arg0 : FVec F S2x896x3072 .f32) (main_arg1 : FVec F S2x896x12 .f32) (main_arg2 : FVec F S2x896x3072 .f32) (main_arg3 : FVec F S2x896x12 .f32) (main_arg4 : FVec F S2x896x3072 .bf16) (main_arg5 : FVec F S2x896x12 .f32) (main_arg6 : FVec F S12x640x256 .f32) (main_arg7 : FVec F S12x640x256 .f32) (main_arg8 : FVec F S12x256x640 .f32) : IVec S_ 1 :=
  let main_v0 : FVec F S2x896x3072 .f32 := Host.absf main_arg0
  let main_cst : FVec F S_ .f32 := constant S_ .f32 0x7F800000#32
  let main_v1 : FVec F S2x896x3072 .f32 := broadcastInDim S2x896x3072 ![] bcast_S_S2x896x3072 main_cst
  let main_v2 : IVec S2x896x3072 1 := cmpf .olt main_v0 main_v1
  let main_c : IVec S_ 1 := constantI S_ 1 1#1
  let main_v3 : IVec S_ 1 := (fun x v => Host.reduce IntOp.andi x v reducesTo_S2x896x3072_S_d0_1_2 h_S_) main_v2 main_c
  let main_v4 : FVec F S2x896x12 .f32 := Host.absf main_arg1
  let main_cst_0 : FVec F S_ .f32 := constant S_ .f32 0x7F800000#32
  let main_v5 : FVec F S2x896x12 .f32 := broadcastInDim S2x896x12 ![] bcast_S_S2x896x12 main_cst_0
  let main_v6 : IVec S2x896x12 1 := cmpf .olt main_v4 main_v5
  let main_c_1 : IVec S_ 1 := constantI S_ 1 1#1
  let main_v7 : IVec S_ 1 := (fun x v => Host.reduce IntOp.andi x v reducesTo_S2x896x12_S_d0_1_2 h_S_) main_v6 main_c_1
  let main_v8 : FVec F S2x896x3072 .f32 := Host.absf main_arg2
  let main_cst_2 : FVec F S_ .f32 := constant S_ .f32 0x7F800000#32
  let main_v9 : FVec F S2x896x3072 .f32 := broadcastInDim S2x896x3072 ![] bcast_S_S2x896x3072 main_cst_2
  let main_v10 : IVec S2x896x3072 1 := cmpf .olt main_v8 main_v9
  let main_c_3 : IVec S_ 1 := constantI S_ 1 1#1
  let main_v11 : IVec S_ 1 := (fun x v => Host.reduce IntOp.andi x v reducesTo_S2x896x3072_S_d0_1_2 h_S_) main_v10 main_c_3
  let main_v12 : FVec F S2x896x12 .f32 := Host.absf main_arg3
  let main_cst_4 : FVec F S_ .f32 := constant S_ .f32 0x7F800000#32
  let main_v13 : FVec F S2x896x12 .f32 := broadcastInDim S2x896x12 ![] bcast_S_S2x896x12 main_cst_4
  let main_v14 : IVec S2x896x12 1 := cmpf .olt main_v12 main_v13
  let main_c_5 : IVec S_ 1 := constantI S_ 1 1#1
  let main_v15 : IVec S_ 1 := (fun x v => Host.reduce IntOp.andi x v reducesTo_S2x896x12_S_d0_1_2 h_S_) main_v14 main_c_5
  fn_part1 (F := F) main_arg4 main_arg5 main_arg6 main_arg7 main_arg8 main_v3 main_v7 main_v11 main_v15
-- ==== Kernel.lean ====
abbrev S2x896x3072 : Shape := ⟨3, ![2, 896, 3072]⟩
abbrev S2x896x12 : Shape := ⟨3, ![2, 896, 12]⟩
abbrev S12x640x256 : Shape := ⟨3, ![12, 640, 256]⟩
abbrev S12x256x640 : Shape := ⟨3, ![12, 256, 640]⟩
abbrev S2x896x7680 : Shape := ⟨3, ![2, 896, 7680]⟩
abbrev S2x12x640x256 : Shape := ⟨4, ![2, 12, 640, 256]⟩
abbrev S2x12x256x640 : Shape := ⟨4, ![2, 12, 256, 640]⟩
abbrev S1x384x256 : Shape := ⟨3, ![1, 384, 256]⟩
abbrev S1x384x12 : Shape := ⟨3, ![1, 384, 12]⟩
abbrev S1x640x256 : Shape := ⟨3, ![1, 640, 256]⟩
abbrev S1x256x640 : Shape := ⟨3, ![1, 256, 640]⟩
abbrev S1x384x640 : Shape := ⟨3, ![1, 384, 640]⟩
abbrev S1x1x640x256 : Shape := ⟨4, ![1, 1, 640, 256]⟩
abbrev S1x1x256x640 : Shape := ⟨4, ![1, 1, 256, 640]⟩
abbrev S256x640 : Shape := ⟨2, ![256, 640]⟩
abbrev S1x640 : Shape := ⟨2, ![1, 640]⟩
abbrev S256x1 : Shape := ⟨2, ![256, 1]⟩
abbrev S640x256 : Shape := ⟨2, ![640, 256]⟩
abbrev S640 : Shape := ⟨1, ![640]⟩
abbrev S256 : Shape := ⟨1, ![256]⟩
abbrev S384x1 : Shape := ⟨2, ![384, 1]⟩
abbrev S384x12 : Shape := ⟨2, ![384, 12]⟩
abbrev S384 : Shape := ⟨1, ![384]⟩
abbrev S384x256 : Shape := ⟨2, ![384, 256]⟩
abbrev S384x640 : Shape := ⟨2, ![384, 640]⟩
abbrev S1 : Shape := ⟨1, ![1]⟩
abbrev S1x1x1 : Shape := ⟨3, ![1, 1, 1]⟩
abbrev S256x2560 : Shape := ⟨2, ![256, 2560]⟩
abbrev S256x256 : Shape := ⟨2, ![256, 256]⟩
abbrev S256x1024 : Shape := ⟨2, ![256, 1024]⟩
abbrev S256x1536 : Shape := ⟨2, ![256, 1536]⟩
abbrev S1536x256 : Shape := ⟨2, ![1536, 256]⟩
abbrev S1536x640 : Shape := ⟨2, ![1536, 640]⟩
abbrev S2x896x12x640 : Shape := ⟨4, ![2, 896, 12, 640]⟩

abbrev nBuf : Space → Nat
  | .hbm => 20
  | .vmem => 40
  | .smem => 0
  | _ => 0

abbrev bufTy : (tb : Table) → Fin (tcTables nBuf tb) → BufTy
  | .hbm, ⟨0, _⟩ => ⟨S2x896x3072, .f32⟩
  | .hbm, ⟨1, _⟩ => ⟨S2x896x12, .f32⟩
  | .hbm, ⟨2, _⟩ => ⟨S2x896x3072, .f32⟩
  | .hbm, ⟨3, _⟩ => ⟨S2x896x12, .f32⟩
  | .hbm, ⟨4, _⟩ => ⟨S2x896x3072, .bf16⟩
  | .hbm, ⟨5, _⟩ => ⟨S2x896x12, .f32⟩
  | .hbm, ⟨6, _⟩ => ⟨S12x640x256, .f32⟩
  | .hbm, ⟨7, _⟩ => ⟨S12x640x256, .f32⟩
  | .hbm, ⟨8, _⟩ => ⟨S12x256x640, .f32⟩
  | .hbm, ⟨9, _⟩ => ⟨S2x896x3072, .fp8e4m3⟩
  | .hbm, ⟨10, _⟩ => ⟨S2x896x3072, .fp8e4m3⟩
  | .hbm, ⟨11, _⟩ => ⟨S2x896x3072, .bf16⟩
  | .hbm, ⟨12, _⟩ => ⟨S2x896x7680, .bf16⟩
  | .hbm, ⟨13, _⟩ => ⟨S2x12x640x256, .f32⟩
  | .hbm, ⟨14, _⟩ => ⟨S2x12x640x256, .f32⟩
  | .hbm, ⟨15, _⟩ => ⟨S2x12x256x640, .f32⟩
  | .hbm, ⟨16, _⟩ => ⟨S2x12x640x256, .f32⟩
  | .hbm, ⟨17, _⟩ => ⟨S2x12x640x256, .f32⟩
  | .hbm, ⟨18, _⟩ => ⟨S2x12x256x640, .f32⟩
  | .hbm, ⟨19, _⟩ => ⟨S2x896x12x640, .bf16⟩
  | .local _ .vmem, ⟨0, _⟩ => ⟨S1x384x256, .fp8e4m3⟩
  | .local _ .vmem, ⟨1, _⟩ => ⟨S1x384x256, .fp8e4m3⟩
  | .local _ .vmem, ⟨2, _⟩ => ⟨S1x384x12, .f32⟩
  | .local _ .vmem, ⟨3, _⟩ => ⟨S1x384x12, .f32⟩
  | .local _ .vmem, ⟨4, _⟩ => ⟨S1x384x256, .fp8e4m3⟩
  | .local _ .vmem, ⟨5, _⟩ => ⟨S1x384x256, .fp8e4m3⟩
  | .local _ .vmem, ⟨6, _⟩ => ⟨S1x384x12, .f32⟩
  | .local _ .vmem, ⟨7, _⟩ => ⟨S1x384x12, .f32⟩
  | .local _ .vmem, ⟨8, _⟩ => ⟨S1x384x256, .bf16⟩
  | .local _ .vmem, ⟨9, _⟩ => ⟨S1x384x256, .bf16⟩
  | .local _ .vmem, ⟨10, _⟩ => ⟨S1x384x12, .f32⟩
  | .local _ .vmem, ⟨11, _⟩ => ⟨S1x384x12, .f32⟩
  | .local _ .vmem, ⟨12, _⟩ => ⟨S1x640x256, .f32⟩
  | .local _ .vmem, ⟨13, _⟩ => ⟨S1x640x256, .f32⟩
  | .local _ .vmem, ⟨14, _⟩ => ⟨S1x640x256, .f32⟩
  | .local _ .vmem, ⟨15, _⟩ => ⟨S1x640x256, .f32⟩
  | .local _ .vmem, ⟨16, _⟩ => ⟨S1x256x640, .f32⟩
  | .local _ .vmem, ⟨17, _⟩ => ⟨S1x256x640, .f32⟩
  | .local _ .vmem, ⟨18, _⟩ => ⟨S1x384x256, .bf16⟩
  | .local _ .vmem, ⟨19, _⟩ => ⟨S1x384x256, .bf16⟩
  | .local _ .vmem, ⟨20, _⟩ => ⟨S1x384x640, .bf16⟩
  | .local _ .vmem, ⟨21, _⟩ => ⟨S1x384x640, .bf16⟩
  | .local _ .vmem, ⟨22, _⟩ => ⟨S1x1x640x256, .f32⟩
  | .local _ .vmem, ⟨23, _⟩ => ⟨S1x1x640x256, .f32⟩
  | .local _ .vmem, ⟨24, _⟩ => ⟨S1x1x640x256, .f32⟩
  | .local _ .vmem, ⟨25, _⟩ => ⟨S1x1x640x256, .f32⟩
  | .local _ .vmem, ⟨26, _⟩ => ⟨S1x1x256x640, .f32⟩
  | .local _ .vmem, ⟨27, _⟩ => ⟨S1x1x256x640, .f32⟩
  | .local _ .vmem, ⟨28, _⟩ => ⟨S1x1x640x256, .f32⟩
  | .local _ .vmem, ⟨29, _⟩ => ⟨S1x1x640x256, .f32⟩
  | .local _ .vmem, ⟨30, _⟩ => ⟨S1x1x640x256, .f32⟩
  | .local _ .vmem, ⟨31, _⟩ => ⟨S1x1x640x256, .f32⟩
  | .local _ .vmem, ⟨32, _⟩ => ⟨S1x1x256x640, .f32⟩
  | .local _ .vmem, ⟨33, _⟩ => ⟨S1x1x256x640, .f32⟩
  | .local _ .vmem, ⟨34, _⟩ => ⟨S256x640, .f32⟩
  | .local _ .vmem, ⟨35, _⟩ => ⟨S256x640, .f32⟩
  | .local _ .vmem, ⟨36, _⟩ => ⟨S256x640, .f32⟩
  | .local _ .vmem, ⟨37, _⟩ => ⟨S1x640, .f32⟩
  | .local _ .vmem, ⟨38, _⟩ => ⟨S1x640, .f32⟩
  | .local _ .vmem, ⟨39, _⟩ => ⟨S256x1, .f32⟩
  | _, _ => ⟨S2x896x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev main_v2_7 : Ref sig .tc := ⟨.hbm, 18, rfl⟩
abbrev main_v3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![12, 2, 3], ![false, false, false]⟩

def k0_cond3 (i : grid0.Coords) : BitVec 1 :=
  let arg2 : BitVec 32 := BitVec.ofNat 32 (i 2).val
  let c2_i32 : BitVec 32 := 2#32
  let v1197 : BitVec 1 := Scalar.cmpi .eq arg2 c2_i32
  let v1198 : BitVec 32 := Scalar.extui v1197
  let c0_i32_278 : BitVec 32 := 0#32
  let v1199 : BitVec 1 := Scalar.cmpi .ne v1198 c0_i32_278
  v1199

def k0_cond2 (i : grid0.Coords) : BitVec 1 :=
  let arg2 : BitVec 32 := BitVec.ofNat 32 (i 2).val
  let c0_i32_252 : BitVec 32 := 0#32
  let v1149 : BitVec 1 := Scalar.cmpi .eq arg2 c0_i32_252
  let v1150 : BitVec 32 := Scalar.extui v1149
  let c0_i32_253 : BitVec 32 := 0#32
  let v1151 : BitVec 1 := Scalar.cmpi .ne v1150 c0_i32_253
  v1151

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x384x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x384x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x384x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x384x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x384x12 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x640x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x640x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x384x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x384x640 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x640x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x640x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x256x640 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1x640x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x1x640x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1x1x256x640 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]
-- ==== KernelIdeal.lean ====
variable {F : FTy → Type} [FloatOps F] [Named F]
def κ : String → Option EReal := fun
  | "a2" => some ((815327732025 / 68719476736 : ℝ) : EReal)
  | "a3" => some ((736204252270633875 / 18014398509481984 : ℝ) : EReal)
  | _ => none
-- ==== ReferenceIdeal.lean ====
abbrev S2x896x3072 : Shape := ⟨3, ![2, 896, 3072]⟩
abbrev S2x896x12 : Shape := ⟨3, ![2, 896, 12]⟩
abbrev S12x640x256 : Shape := ⟨3, ![12, 640, 256]⟩
abbrev S12x256x640 : Shape := ⟨3, ![12, 256, 640]⟩
abbrev S2x896x12x256 : Shape := ⟨4, ![2, 896, 12, 256]⟩
abbrev S_ : Shape := ⟨0, ![]⟩
abbrev S2x1152x12x256 : Shape := ⟨4, ![2, 1152, 12, 256]⟩
abbrev S2x3x384x12x256 : Shape := ⟨5, ![2, 3, 384, 12, 256]⟩
abbrev S3x2x384x12x256 : Shape := ⟨5, ![3, 2, 384, 12, 256]⟩
abbrev S2x1152x12 : Shape := ⟨3, ![2, 1152, 12]⟩
abbrev S2x3x384x12 : Shape := ⟨4, ![2, 3, 384, 12]⟩
abbrev S3x2x384x12 : Shape := ⟨4, ![3, 2, 384, 12]⟩
abbrev S12x640 : Shape := ⟨2, ![12, 640]⟩
abbrev S12x256 : Shape := ⟨2, ![12, 256]⟩
abbrev S2x12x640x256 : Shape := ⟨4, ![2, 12, 640, 256]⟩
abbrev S2x12x256x640 : Shape := ⟨4, ![2, 12, 256, 640]⟩
abbrev S3x2x384x12x640 : Shape := ⟨5, ![3, 2, 384, 12, 640]⟩
abbrev S3x2x12x640x256 : Shape := ⟨5, ![3, 2, 12, 640, 256]⟩
abbrev S3x2x12x256x640 : Shape := ⟨5, ![3, 2, 12, 256, 640]⟩
abbrev S1x2x384x12x256 : Shape := ⟨5, ![1, 2, 384, 12, 256]⟩
abbrev S2x384x12x256 : Shape := ⟨4, ![2, 384, 12, 256]⟩
abbrev S1x2x384x12 : Shape := ⟨4, ![1, 2, 384, 12]⟩
abbrev S2x384x12 : Shape := ⟨3, ![2, 384, 12]⟩
abbrev S2x384x12x1 : Shape := ⟨4, ![2, 384, 12, 1]⟩
abbrev S2x12x640x384 : Shape := ⟨4, ![2, 12, 640, 384]⟩
abbrev S2x384x12x640 : Shape := ⟨4, ![2, 384, 12, 640]⟩
abbrev S2x12 : Shape := ⟨2, ![2, 12]⟩
abbrev S2x12x1x1 : Shape := ⟨4, ![2, 12, 1, 1]⟩
abbrev S2x12x256x256 : Shape := ⟨4, ![2, 12, 256, 256]⟩
abbrev S2x12x640 : Shape := ⟨3, ![2, 12, 640]⟩
abbrev S2x12x640x1 : Shape := ⟨4, ![2, 12, 640, 1]⟩
abbrev S12x640x1 : Shape := ⟨3, ![12, 640, 1]⟩
abbrev S1x12x640x1 : Shape := ⟨4, ![1, 12, 640, 1]⟩
abbrev S2x12x256 : Shape := ⟨3, ![2, 12, 256]⟩
abbrev S2x12x256x1 : Shape := ⟨4, ![2, 12, 256, 1]⟩
abbrev S12x256x1 : Shape := ⟨3, ![12, 256, 1]⟩
abbrev S1x12x256x1 : Shape := ⟨4, ![1, 12, 256, 1]⟩
abbrev S2x12x256x384 : Shape := ⟨4, ![2, 12, 256, 384]⟩
abbrev S1x2x384x12x640 : Shape := ⟨5, ![1, 2, 384, 12, 640]⟩
abbrev S1x2x12x640x256 : Shape := ⟨5, ![1, 2, 12, 640, 256]⟩
abbrev S1x2x12x256x640 : Shape := ⟨5, ![1, 2, 12, 256, 640]⟩
abbrev S2x1152x3072 : Shape := ⟨3, ![2, 1152, 3072]⟩
abbrev S2x3x384x12x640 : Shape := ⟨5, ![2, 3, 384, 12, 640]⟩
abbrev S2x1152x12x640 : Shape := ⟨4, ![2, 1152, 12, 640]⟩
abbrev S2x896x12x640 : Shape := ⟨4, ![2, 896, 12, 640]⟩

abbrev nBuf : Space → Nat
  | .hbm => 538
  | .vmem => 4
  | .smem => 0
  | _ => 0

abbrev hbmTy0_0 (i : Nat) : BufTy := match i % 128 with
  | 0 => ⟨S2x896x3072, .f32⟩
  | 1 => ⟨S2x896x12, .f32⟩
  | 2 => ⟨S2x896x3072, .f32⟩
  | 3 => ⟨S2x896x12, .f32⟩
  | 4 => ⟨S2x896x3072, .bf16⟩
  | 5 => ⟨S2x896x12, .f32⟩
  | 6 => ⟨S12x640x256, .f32⟩
  | 7 => ⟨S12x640x256, .f32⟩
  | 8 => ⟨S12x256x640, .f32⟩
  | 9 => ⟨S2x896x3072, .fp8e4m3⟩
  | 10 => ⟨S2x896x3072, .fp8e4m3⟩
  | 11 => ⟨S2x896x3072, .bf16⟩
  | 12 => ⟨S2x896x3072, .bf16⟩
  | 13 => ⟨S2x896x12x256, .bf16⟩
  | 14 => ⟨S_, .i32⟩
  | 15 => ⟨S_, .bf16⟩
  | 16 => ⟨S2x1152x12x256, .bf16⟩
  | 17 => ⟨S2x3x384x12x256, .bf16⟩
  | 18 => ⟨S3x2x384x12x256, .bf16⟩
  | 19 => ⟨S_, .f32⟩
  | 20 => ⟨S_, .f32⟩
  | 21 => ⟨S2x1152x12, .f32⟩
  | 22 => ⟨S2x3x384x12, .f32⟩
  | 23 => ⟨S3x2x384x12, .f32⟩
  | 24 => ⟨S2x896x12x256, .bf16⟩
  | 25 => ⟨S_, .i32⟩
  | 26 => ⟨S_, .bf16⟩
  | 27 => ⟨S2x1152x12x256, .bf16⟩
  | 28 => ⟨S2x3x384x12x256, .bf16⟩
  | 29 => ⟨S3x2x384x12x256, .bf16⟩
  | 30 => ⟨S_, .f32⟩
  | 31 => ⟨S_, .f32⟩
  | 32 => ⟨S2x1152x12, .f32⟩
  | 33 => ⟨S2x3x384x12, .f32⟩
  | 34 => ⟨S3x2x384x12, .f32⟩
  | 35 => ⟨S2x896x12x256, .bf16⟩
  | 36 => ⟨S_, .i32⟩
  | 37 => ⟨S_, .bf16⟩
  | 38 => ⟨S2x1152x12x256, .bf16⟩
  | 39 => ⟨S2x3x384x12x256, .bf16⟩
  | 40 => ⟨S3x2x384x12x256, .bf16⟩
  | 41 => ⟨S_, .f32⟩
  | 42 => ⟨S_, .f32⟩
  | 43 => ⟨S2x1152x12, .f32⟩
  | 44 => ⟨S2x3x384x12, .f32⟩
  | 45 => ⟨S3x2x384x12, .f32⟩
  | 46 => ⟨S12x640x256, .f32⟩
  | 47 => ⟨S_, .f32⟩
  | 48 => ⟨S12x640, .f32⟩
  | 49 => ⟨S12x640, .f32⟩
  | 50 => ⟨S12x640x256, .f32⟩
  | 51 => ⟨S_, .f32⟩
  | 52 => ⟨S12x640, .f32⟩
  | 53 => ⟨S12x640, .f32⟩
  | 54 => ⟨S12x256x640, .f32⟩
  | 55 => ⟨S_, .f32⟩
  | 56 => ⟨S12x256, .f32⟩
  | 57 => ⟨S12x256, .f32⟩
  | 58 => ⟨S2x12x640x256, .f32⟩
  | 59 => ⟨S2x12x640x256, .f32⟩
  | 60 => ⟨S2x12x256x640, .f32⟩
  | 61 => ⟨S_, .f32⟩
  | 62 => ⟨S3x2x384x12x256, .f32⟩
  | 63 => ⟨S_, .bf16⟩
  | 64 => ⟨S3x2x384x12x640, .bf16⟩
  | 65 => ⟨S_, .f32⟩
  | 66 => ⟨S3x2x12x640x256, .f32⟩
  | 67 => ⟨S_, .f32⟩
  | 68 => ⟨S3x2x12x640x256, .f32⟩
  | 69 => ⟨S_, .f32⟩
  | 70 => ⟨S3x2x12x256x640, .f32⟩
  | 71 => ⟨S_, .i32⟩
  | 72 => ⟨S3x2x384x12x256, .bf16⟩
  | 73 => ⟨S3x2x384x12, .f32⟩
  | 74 => ⟨S3x2x384x12x256, .bf16⟩
  | 75 => ⟨S3x2x384x12, .f32⟩
  | 76 => ⟨S3x2x384x12x256, .bf16⟩
  | 77 => ⟨S3x2x384x12, .f32⟩
  | 78 => ⟨S12x640, .f32⟩
  | 79 => ⟨S12x640, .f32⟩
  | 80 => ⟨S12x256, .f32⟩
  | 81 => ⟨S_, .i32⟩
  | 82 => ⟨S2x12x640x256, .f32⟩
  | 83 => ⟨S2x12x640x256, .f32⟩
  | 84 => ⟨S2x12x256x640, .f32⟩
  | 85 => ⟨S3x2x384x12x256, .f32⟩
  | 86 => ⟨S3x2x384x12x640, .bf16⟩
  | 87 => ⟨S3x2x12x640x256, .f32⟩
  | 88 => ⟨S3x2x12x640x256, .f32⟩
  | 89 => ⟨S3x2x12x256x640, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x2x384x12x256, .bf16⟩
  | 97 => ⟨S2x384x12x256, .bf16⟩
  | 98 => ⟨S_, .i32⟩
  | 99 => ⟨S_, .i32⟩
  | 100 => ⟨S_, .i32⟩
  | 101 => ⟨S1x2x384x12, .f32⟩
  | 102 => ⟨S2x384x12, .f32⟩
  | 103 => ⟨S_, .i32⟩
  | 104 => ⟨S_, .i32⟩
  | 105 => ⟨S_, .i32⟩
  | 106 => ⟨S_, .i32⟩
  | 107 => ⟨S1x2x384x12x256, .bf16⟩
  | 108 => ⟨S2x384x12x256, .bf16⟩
  | 109 => ⟨S_, .i32⟩
  | 110 => ⟨S_, .i32⟩
  | 111 => ⟨S_, .i32⟩
  | 112 => ⟨S1x2x384x12, .f32⟩
  | 113 => ⟨S2x384x12, .f32⟩
  | 114 => ⟨S_, .i32⟩
  | 115 => ⟨S_, .i32⟩
  | 116 => ⟨S_, .i32⟩
  | 117 => ⟨S_, .i32⟩
  | 118 => ⟨S1x2x384x12x256, .bf16⟩
  | 119 => ⟨S2x384x12x256, .bf16⟩
  | 120 => ⟨S_, .i32⟩
  | 121 => ⟨S_, .i32⟩
  | 122 => ⟨S_, .i32⟩
  | 123 => ⟨S1x2x384x12, .f32⟩
  | 124 => ⟨S2x384x12, .f32⟩
  | 125 => ⟨S2x12x640x256, .bf16⟩
  | 126 => ⟨S2x12x640x256, .bf16⟩
  | 127 => ⟨S2x12x256x640, .bf16⟩
  | _ => ⟨S2x896x3072, .f32⟩

abbrev hbmTy0_1 (i : Nat) : BufTy := match i % 128 with
  | 0 => ⟨S2x384x12x1, .f32⟩
  | 1 => ⟨S2x12x640x384, .f32⟩
  | 2 => ⟨S2x384x12x640, .f32⟩
  | 3 => ⟨S2x384x12x640, .f32⟩
  | 4 => ⟨S2x384x12x640, .f32⟩
  | 5 => ⟨S2x12x640x384, .f32⟩
  | 6 => ⟨S2x384x12x640, .f32⟩
  | 7 => ⟨S2x384x12x640, .f32⟩
  | 8 => ⟨S2x384x12x640, .f32⟩
  | 9 => ⟨S2x384x12x640, .f32⟩
  | 10 => ⟨S2x384x12x640, .f32⟩
  | 11 => ⟨S_, .f32⟩
  | 12 => ⟨S2x384x12x640, .f32⟩
  | 13 => ⟨S2x384x12x640, .f32⟩
  | 14 => ⟨S_, .f32⟩
  | 15 => ⟨S2x384x12x640, .f32⟩
  | 16 => ⟨S2x384x12x640, .f32⟩
  | 17 => ⟨S2x384x12x640, .f32⟩
  | 18 => ⟨S2x384x12x640, .f32⟩
  | 19 => ⟨S2x384x12x640, .bf16⟩
  | 20 => ⟨S2x384x12x1, .f32⟩
  | 21 => ⟨S2x384x12x1, .f32⟩
  | 22 => ⟨S2x384x12x256, .f32⟩
  | 23 => ⟨S2x384x12x256, .f32⟩
  | 24 => ⟨S2x384x12x256, .f32⟩
  | 25 => ⟨S2x384x12x1, .f32⟩
  | 26 => ⟨S2x12x640x384, .f32⟩
  | 27 => ⟨S2x384x12x640, .f32⟩
  | 28 => ⟨S2x384x12x640, .f32⟩
  | 29 => ⟨S2x384x12x640, .f32⟩
  | 30 => ⟨S2x384x12x640, .f32⟩
  | 31 => ⟨S2x384x12x640, .f32⟩
  | 32 => ⟨S2x384x12x640, .f32⟩
  | 33 => ⟨S_, .f32⟩
  | 34 => ⟨S2x384x12x640, .f32⟩
  | 35 => ⟨S2x384x12x640, .f32⟩
  | 36 => ⟨S2x384x12x640, .f32⟩
  | 37 => ⟨S_, .f32⟩
  | 38 => ⟨S2x384x12x640, .f32⟩
  | 39 => ⟨S2x384x12x640, .f32⟩
  | 40 => ⟨S2x384x12x640, .f32⟩
  | 41 => ⟨S2x384x12, .bf16⟩
  | 42 => ⟨S2x384x12x1, .bf16⟩
  | 43 => ⟨S2x384x12x256, .bf16⟩
  | 44 => ⟨S2x384x12x256, .bf16⟩
  | 45 => ⟨S2x384x12x256, .bf16⟩
  | 46 => ⟨S2x12x256x640, .f32⟩
  | 47 => ⟨S2x384x12x640, .bf16⟩
  | 48 => ⟨S2x12x640x256, .f32⟩
  | 49 => ⟨S2x384x12x640, .bf16⟩
  | 50 => ⟨S2x12x640x256, .f32⟩
  | 51 => ⟨S2x12x256x640, .f32⟩
  | 52 => ⟨S2x12x256x640, .f32⟩
  | 53 => ⟨S_, .f32⟩
  | 54 => ⟨S2x12, .f32⟩
  | 55 => ⟨S2x12x1x1, .f32⟩
  | 56 => ⟨S2x12x1x1, .f32⟩
  | 57 => ⟨S_, .f32⟩
  | 58 => ⟨S2x12x1x1, .f32⟩
  | 59 => ⟨S2x12x1x1, .f32⟩
  | 60 => ⟨S2x12x256x640, .f32⟩
  | 61 => ⟨S2x12x256x640, .f32⟩
  | 62 => ⟨S2x12x256x256, .f32⟩
  | 63 => ⟨S_, .f32⟩
  | 64 => ⟨S2x12x256x256, .f32⟩
  | 65 => ⟨S2x12x256x256, .f32⟩
  | 66 => ⟨S2x12x256x256, .f32⟩
  | 67 => ⟨S_, .f32⟩
  | 68 => ⟨S2x12x256x256, .f32⟩
  | 69 => ⟨S2x12x256x256, .f32⟩
  | 70 => ⟨S2x12x256x256, .f32⟩
  | 71 => ⟨S_, .f32⟩
  | 72 => ⟨S2x12x256x640, .f32⟩
  | 73 => ⟨S2x12x256x640, .f32⟩
  | 74 => ⟨S2x12x256x640, .f32⟩
  | 75 => ⟨S2x12x256x640, .f32⟩
  | 76 => ⟨S2x12x256x256, .f32⟩
  | 77 => ⟨S_, .f32⟩
  | 78 => ⟨S2x12x256x256, .f32⟩
  | 79 => ⟨S2x12x256x256, .f32⟩
  | 80 => ⟨S2x12x256x256, .f32⟩
  | 81 => ⟨S_, .f32⟩
  | 82 => ⟨S2x12x256x256, .f32⟩
  | 83 => ⟨S2x12x256x256, .f32⟩
  | 84 => ⟨S2x12x256x256, .f32⟩
  | 85 => ⟨S_, .f32⟩
  | 86 => ⟨S2x12x256x640, .f32⟩
  | 87 => ⟨S2x12x256x640, .f32⟩
  | 88 => ⟨S2x12x256x640, .f32⟩
  | 89 => ⟨S2x12x256x640, .f32⟩
  | 90 => ⟨S2x12x256x256, .f32⟩
  | 91 => ⟨S_, .f32⟩
  | 92 => ⟨S2x12x256x256, .f32⟩
  | 93 => ⟨S2x12x256x256, .f32⟩
  | 94 => ⟨S2x12x256x256, .f32⟩
  | 95 => ⟨S_, .f32⟩
  | 96 => ⟨S2x12x256x256, .f32⟩
  | 97 => ⟨S2x12x256x256, .f32⟩
  | 98 => ⟨S2x12x256x256, .f32⟩
  | 99 => ⟨S_, .f32⟩
  | 100 => ⟨S2x12x256x640, .f32⟩
  | 101 => ⟨S2x12x256x640, .f32⟩
  | 102 => ⟨S2x12x256x640, .f32⟩
  | 103 => ⟨S2x12x256x640, .f32⟩
  | 104 => ⟨S2x12x256x256, .f32⟩
  | 105 => ⟨S_, .f32⟩
  | 106 => ⟨S2x12x256x256, .f32⟩
  | 107 => ⟨S2x12x256x256, .f32⟩
  | 108 => ⟨S2x12x256x256, .f32⟩
  | 109 => ⟨S_, .f32⟩
  | 110 => ⟨S2x12x256x256, .f32⟩
  | 111 => ⟨S2x12x256x256, .f32⟩
  | 112 => ⟨S2x12x256x256, .f32⟩
  | 113 => ⟨S_, .f32⟩
  | 114 => ⟨S2x12x256x640, .f32⟩
  | 115 => ⟨S2x12x256x640, .f32⟩
  | 116 => ⟨S2x12x256x640, .f32⟩
  | 117 => ⟨S2x12x256x640, .f32⟩
  | 118 => ⟨S2x12x256x256, .f32⟩
  | 119 => ⟨S_, .f32⟩
  | 120 => ⟨S2x12x256x256, .f32⟩
  | 121 => ⟨S2x12x256x256, .f32⟩
  | 122 => ⟨S2x12x256x256, .f32⟩
  | 123 => ⟨S_, .f32⟩
  | 124 => ⟨S2x12x256x256, .f32⟩
  | 125 => ⟨S2x12x256x256, .f32⟩
  | 126 => ⟨S2x12x256x256, .f32⟩
  | 127 => ⟨S_, .f32⟩
  | _ => ⟨S2x896x3072, .f32⟩

abbrev hbmTy0_2 (i : Nat) : BufTy := match i % 128 with
  | 0 => ⟨S2x12x256x640, .f32⟩
  | 1 => ⟨S2x12x256x640, .f32⟩
  | 2 => ⟨S2x12x256x640, .f32⟩
  | 3 => ⟨S2x12x256x640, .f32⟩
  | 4 => ⟨S2x12x640x256, .f32⟩
  | 5 => ⟨S2x12x256x640, .f32⟩
  | 6 => ⟨S2x12x256x640, .f32⟩
  | 7 => ⟨S_, .f32⟩
  | 8 => ⟨S2x12, .f32⟩
  | 9 => ⟨S2x12x1x1, .f32⟩
  | 10 => ⟨S2x12x1x1, .f32⟩
  | 11 => ⟨S_, .f32⟩
  | 12 => ⟨S2x12x1x1, .f32⟩
  | 13 => ⟨S2x12x1x1, .f32⟩
  | 14 => ⟨S2x12x256x640, .f32⟩
  | 15 => ⟨S2x12x256x640, .f32⟩
  | 16 => ⟨S2x12x256x256, .f32⟩
  | 17 => ⟨S_, .f32⟩
  | 18 => ⟨S2x12x256x256, .f32⟩
  | 19 => ⟨S2x12x256x256, .f32⟩
  | 20 => ⟨S2x12x256x256, .f32⟩
  | 21 => ⟨S_, .f32⟩
  | 22 => ⟨S2x12x256x256, .f32⟩
  | 23 => ⟨S2x12x256x256, .f32⟩
  | 24 => ⟨S2x12x256x256, .f32⟩
  | 25 => ⟨S_, .f32⟩
  | 26 => ⟨S2x12x256x640, .f32⟩
  | 27 => ⟨S2x12x256x640, .f32⟩
  | 28 => ⟨S2x12x256x640, .f32⟩
  | 29 => ⟨S2x12x256x640, .f32⟩
  | 30 => ⟨S2x12x256x256, .f32⟩
  | 31 => ⟨S_, .f32⟩
  | 32 => ⟨S2x12x256x256, .f32⟩
  | 33 => ⟨S2x12x256x256, .f32⟩
  | 34 => ⟨S2x12x256x256, .f32⟩
  | 35 => ⟨S_, .f32⟩
  | 36 => ⟨S2x12x256x256, .f32⟩
  | 37 => ⟨S2x12x256x256, .f32⟩
  | 38 => ⟨S2x12x256x256, .f32⟩
  | 39 => ⟨S_, .f32⟩
  | 40 => ⟨S2x12x256x640, .f32⟩
  | 41 => ⟨S2x12x256x640, .f32⟩
  | 42 => ⟨S2x12x256x640, .f32⟩
  | 43 => ⟨S2x12x256x640, .f32⟩
  | 44 => ⟨S2x12x256x256, .f32⟩
  | 45 => ⟨S_, .f32⟩
  | 46 => ⟨S2x12x256x256, .f32⟩
  | 47 => ⟨S2x12x256x256, .f32⟩
  | 48 => ⟨S2x12x256x256, .f32⟩
  | 49 => ⟨S_, .f32⟩
  | 50 => ⟨S2x12x256x256, .f32⟩
  | 51 => ⟨S2x12x256x256, .f32⟩
  | 52 => ⟨S2x12x256x256, .f32⟩
  | 53 => ⟨S_, .f32⟩
  | 54 => ⟨S2x12x256x640, .f32⟩
  | 55 => ⟨S2x12x256x640, .f32⟩
  | 56 => ⟨S2x12x256x640, .f32⟩
  | 57 => ⟨S2x12x256x640, .f32⟩
  | 58 => ⟨S2x12x256x256, .f32⟩
  | 59 => ⟨S_, .f32⟩
  | 60 => ⟨S2x12x256x256, .f32⟩
  | 61 => ⟨S2x12x256x256, .f32⟩
  | 62 => ⟨S2x12x256x256, .f32⟩
  | 63 => ⟨S_, .f32⟩
  | 64 => ⟨S2x12x256x256, .f32⟩
  | 65 => ⟨S2x12x256x256, .f32⟩
  | 66 => ⟨S2x12x256x256, .f32⟩
  | 67 => ⟨S_, .f32⟩
  | 68 => ⟨S2x12x256x640, .f32⟩
  | 69 => ⟨S2x12x256x640, .f32⟩
  | 70 => ⟨S2x12x256x640, .f32⟩
  | 71 => ⟨S2x12x256x640, .f32⟩
  | 72 => ⟨S2x12x256x256, .f32⟩
  | 73 => ⟨S_, .f32⟩
  | 74 => ⟨S2x12x256x256, .f32⟩
  | 75 => ⟨S2x12x256x256, .f32⟩
  | 76 => ⟨S2x12x256x256, .f32⟩
  | 77 => ⟨S_, .f32⟩
  | 78 => ⟨S2x12x256x256, .f32⟩
  | 79 => ⟨S2x12x256x256, .f32⟩
  | 80 => ⟨S2x12x256x256, .f32⟩
  | 81 => ⟨S_, .f32⟩
  | 82 => ⟨S2x12x256x640, .f32⟩
  | 83 => ⟨S2x12x256x640, .f32⟩
  | 84 => ⟨S2x12x256x640, .f32⟩
  | 85 => ⟨S2x12x256x640, .f32⟩
  | 86 => ⟨S2x12x640x256, .f32⟩
  | 87 => ⟨S2x12x256x640, .f32⟩
  | 88 => ⟨S_, .f32⟩
  | 89 => ⟨S2x12, .f32⟩
  | 90 => ⟨S2x12x1x1, .f32⟩
  | 91 => ⟨S2x12x1x1, .f32⟩
  | 92 => ⟨S_, .f32⟩
  | 93 => ⟨S2x12x1x1, .f32⟩
  | 94 => ⟨S2x12x1x1, .f32⟩
  | 95 => ⟨S2x12x256x640, .f32⟩
  | 96 => ⟨S2x12x256x640, .f32⟩
  | 97 => ⟨S2x12x256x256, .f32⟩
  | 98 => ⟨S_, .f32⟩
  | 99 => ⟨S2x12x256x256, .f32⟩
  | 100 => ⟨S2x12x256x256, .f32⟩
  | 101 => ⟨S2x12x256x256, .f32⟩
  | 102 => ⟨S_, .f32⟩
  | 103 => ⟨S2x12x256x256, .f32⟩
  | 104 => ⟨S2x12x256x256, .f32⟩
  | 105 => ⟨S2x12x256x256, .f32⟩
  | 106 => ⟨S_, .f32⟩
  | 107 => ⟨S2x12x256x640, .f32⟩
  | 108 => ⟨S2x12x256x640, .f32⟩
  | 109 => ⟨S2x12x256x640, .f32⟩
  | 110 => ⟨S2x12x256x640, .f32⟩
  | 111 => ⟨S2x12x256x256, .f32⟩
  | 112 => ⟨S_, .f32⟩
  | 113 => ⟨S2x12x256x256, .f32⟩
  | 114 => ⟨S2x12x256x256, .f32⟩
  | 115 => ⟨S2x12x256x256, .f32⟩
  | 116 => ⟨S_, .f32⟩
  | 117 => ⟨S2x12x256x256, .f32⟩
  | 118 => ⟨S2x12x256x256, .f32⟩
  | 119 => ⟨S2x12x256x256, .f32⟩
  | 120 => ⟨S_, .f32⟩
  | 121 => ⟨S2x12x256x640, .f32⟩
  | 122 => ⟨S2x12x256x640, .f32⟩
  | 123 => ⟨S2x12x256x640, .f32⟩
  | 124 => ⟨S2x12x256x640, .f32⟩
  | 125 => ⟨S2x12x256x256, .f32⟩
  | 126 => ⟨S_, .f32⟩
  | 127 => ⟨S2x12x256x256, .f32⟩
  | _ => ⟨S2x896x3072, .f32⟩

abbrev hbmTy0_3 (i : Nat) : BufTy := match i % 128 with
  | 0 => ⟨S2x12x256x256, .f32⟩
  | 1 => ⟨S2x12x256x256, .f32⟩
  | 2 => ⟨S_, .f32⟩
  | 3 => ⟨S2x12x256x256, .f32⟩
  | 4 => ⟨S2x12x256x256, .f32⟩
  | 5 => ⟨S2x12x256x256, .f32⟩
  | 6 => ⟨S_, .f32⟩
  | 7 => ⟨S2x12x256x640, .f32⟩
  | 8 => ⟨S2x12x256x640, .f32⟩
  | 9 => ⟨S2x12x256x640, .f32⟩
  | 10 => ⟨S2x12x256x640, .f32⟩
  | 11 => ⟨S2x12x256x256, .f32⟩
  | 12 => ⟨S_, .f32⟩
  | 13 => ⟨S2x12x256x256, .f32⟩
  | 14 => ⟨S2x12x256x256, .f32⟩
  | 15 => ⟨S2x12x256x256, .f32⟩
  | 16 => ⟨S_, .f32⟩
  | 17 => ⟨S2x12x256x256, .f32⟩
  | 18 => ⟨S2x12x256x256, .f32⟩
  | 19 => ⟨S2x12x256x256, .f32⟩
  | 20 => ⟨S_, .f32⟩
  | 21 => ⟨S2x12x256x640, .f32⟩
  | 22 => ⟨S2x12x256x640, .f32⟩
  | 23 => ⟨S2x12x256x640, .f32⟩
  | 24 => ⟨S2x12x256x640, .f32⟩
  | 25 => ⟨S2x12x256x256, .f32⟩
  | 26 => ⟨S_, .f32⟩
  | 27 => ⟨S2x12x256x256, .f32⟩
  | 28 => ⟨S2x12x256x256, .f32⟩
  | 29 => ⟨S2x12x256x256, .f32⟩
  | 30 => ⟨S_, .f32⟩
  | 31 => ⟨S2x12x256x256, .f32⟩
  | 32 => ⟨S2x12x256x256, .f32⟩
  | 33 => ⟨S2x12x256x256, .f32⟩
  | 34 => ⟨S_, .f32⟩
  | 35 => ⟨S2x12x256x640, .f32⟩
  | 36 => ⟨S2x12x256x640, .f32⟩
  | 37 => ⟨S2x12x256x640, .f32⟩
  | 38 => ⟨S2x12x256x640, .f32⟩
  | 39 => ⟨S2x12x640x256, .f32⟩
  | 40 => ⟨S2x12x640x256, .f32⟩
  | 41 => ⟨S_, .f32⟩
  | 42 => ⟨S2x12x640, .f32⟩
  | 43 => ⟨S2x12x640x1, .f32⟩
  | 44 => ⟨S2x12x640x1, .f32⟩
  | 45 => ⟨S_, .f32⟩
  | 46 => ⟨S2x12x640x1, .f32⟩
  | 47 => ⟨S2x12x640x1, .f32⟩
  | 48 => ⟨S2x12x640x256, .f32⟩
  | 49 => ⟨S2x12x640x256, .f32⟩
  | 50 => ⟨S12x640x1, .f32⟩
  | 51 => ⟨S1x12x640x1, .f32⟩
  | 52 => ⟨S2x12x640x256, .f32⟩
  | 53 => ⟨S2x12x640x256, .f32⟩
  | 54 => ⟨S2x12x640x256, .f32⟩
  | 55 => ⟨S2x12x640x256, .f32⟩
  | 56 => ⟨S_, .f32⟩
  | 57 => ⟨S2x12x640, .f32⟩
  | 58 => ⟨S2x12x640x1, .f32⟩
  | 59 => ⟨S2x12x640x1, .f32⟩
  | 60 => ⟨S_, .f32⟩
  | 61 => ⟨S2x12x640x1, .f32⟩
  | 62 => ⟨S2x12x640x1, .f32⟩
  | 63 => ⟨S2x12x640x256, .f32⟩
  | 64 => ⟨S2x12x640x256, .f32⟩
  | 65 => ⟨S12x640x1, .f32⟩
  | 66 => ⟨S1x12x640x1, .f32⟩
  | 67 => ⟨S2x12x640x256, .f32⟩
  | 68 => ⟨S2x12x640x256, .f32⟩
  | 69 => ⟨S2x12x256x640, .f32⟩
  | 70 => ⟨S2x12x256x640, .f32⟩
  | 71 => ⟨S_, .f32⟩
  | 72 => ⟨S2x12x256, .f32⟩
  | 73 => ⟨S2x12x256x1, .f32⟩
  | 74 => ⟨S2x12x256x1, .f32⟩
  | 75 => ⟨S_, .f32⟩
  | 76 => ⟨S2x12x256x1, .f32⟩
  | 77 => ⟨S2x12x256x1, .f32⟩
  | 78 => ⟨S2x12x256x640, .f32⟩
  | 79 => ⟨S2x12x256x640, .f32⟩
  | 80 => ⟨S12x256x1, .f32⟩
  | 81 => ⟨S1x12x256x1, .f32⟩
  | 82 => ⟨S2x12x256x640, .f32⟩
  | 83 => ⟨S2x12x256x640, .f32⟩
  | 84 => ⟨S2x12x640x256, .bf16⟩
  | 85 => ⟨S2x12x640x256, .bf16⟩
  | 86 => ⟨S2x12x256x640, .bf16⟩
  | 87 => ⟨S2x384x12x1, .f32⟩
  | 88 => ⟨S2x12x640x384, .f32⟩
  | 89 => ⟨S2x384x12x640, .f32⟩
  | 90 => ⟨S2x384x12x640, .f32⟩
  | 91 => ⟨S2x384x12x640, .f32⟩
  | 92 => ⟨S2x12x640x384, .f32⟩
  | 93 => ⟨S2x384x12x640, .f32⟩
  | 94 => ⟨S2x384x12x640, .f32⟩
  | 95 => ⟨S2x384x12x640, .f32⟩
  | 96 => ⟨S2x384x12x640, .f32⟩
  | 97 => ⟨S2x384x12x640, .f32⟩
  | 98 => ⟨S_, .f32⟩
  | 99 => ⟨S2x384x12x640, .f32⟩
  | 100 => ⟨S2x384x12x640, .f32⟩
  | 101 => ⟨S_, .f32⟩
  | 102 => ⟨S2x384x12x640, .f32⟩
  | 103 => ⟨S2x384x12x640, .f32⟩
  | 104 => ⟨S2x384x12x640, .f32⟩
  | 105 => ⟨S2x384x12x640, .f32⟩
  | 106 => ⟨S2x384x12x640, .bf16⟩
  | 107 => ⟨S2x12x256x384, .f32⟩
  | 108 => ⟨S2x384x12x256, .f32⟩
  | 109 => ⟨S1x2x384x12x256, .f32⟩
  | 110 => ⟨S_, .i32⟩
  | 111 => ⟨S_, .i32⟩
  | 112 => ⟨S_, .i32⟩
  | 113 => ⟨S_, .i32⟩
  | 114 => ⟨S3x2x384x12x256, .f32⟩
  | 115 => ⟨S1x2x384x12x640, .bf16⟩
  | 116 => ⟨S_, .i32⟩
  | 117 => ⟨S_, .i32⟩
  | 118 => ⟨S_, .i32⟩
  | 119 => ⟨S_, .i32⟩
  | 120 => ⟨S3x2x384x12x640, .bf16⟩
  | 121 => ⟨S1x2x12x640x256, .f32⟩
  | 122 => ⟨S_, .i32⟩
  | 123 => ⟨S_, .i32⟩
  | 124 => ⟨S_, .i32⟩
  | 125 => ⟨S_, .i32⟩
  | 126 => ⟨S3x2x12x640x256, .f32⟩
  | 127 => ⟨S1x2x12x640x256, .f32⟩
  | _ => ⟨S2x896x3072, .f32⟩

abbrev hbmTy0_4 (i : Nat) : BufTy := match i % 128 with
  | 0 => ⟨S_, .i32⟩
  | 1 => ⟨S_, .i32⟩
  | 2 => ⟨S_, .i32⟩
  | 3 => ⟨S_, .i32⟩
  | 4 => ⟨S3x2x12x640x256, .f32⟩
  | 5 => ⟨S1x2x12x256x640, .f32⟩
  | 6 => ⟨S_, .i32⟩
  | 7 => ⟨S_, .i32⟩
  | 8 => ⟨S_, .i32⟩
  | 9 => ⟨S_, .i32⟩
  | 10 => ⟨S3x2x12x256x640, .f32⟩
  | 11 => ⟨S_, .i32⟩
  | 12 => ⟨S_, .i32⟩
  | 13 => ⟨S2x3x384x12x256, .f32⟩
  | 14 => ⟨S2x1152x3072, .f32⟩
  | 15 => ⟨S2x896x3072, .f32⟩
  | 16 => ⟨S2x896x3072, .bf16⟩
  | 17 => ⟨S2x3x384x12x640, .bf16⟩
  | 18 => ⟨S2x1152x12x640, .bf16⟩
  | 19 => ⟨S2x896x12x640, .bf16⟩
  | 20 => ⟨S1x2x12x640x256, .f32⟩
  | 21 => ⟨S2x12x640x256, .f32⟩
  | 22 => ⟨S1x2x12x640x256, .f32⟩
  | 23 => ⟨S2x12x640x256, .f32⟩
  | 24 => ⟨S1x2x12x256x640, .f32⟩
  | 25 => ⟨S2x12x256x640, .f32⟩
  | _ => ⟨S2x896x3072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x896x3072, .f32⟩

abbrev bufTy : (tb : Table) → Fin (tcTables nBuf tb) → BufTy
  | .hbm, ⟨i, _⟩ => hbmTy i
  | .local _ .vmem, ⟨0, _⟩ => ⟨S2x896x3072, .fp8e4m3⟩
  | .local _ .vmem, ⟨1, _⟩ => ⟨S2x896x3072, .fp8e4m3⟩
  | .local _ .vmem, ⟨2, _⟩ => ⟨S2x896x3072, .bf16⟩
  | .local _ .vmem, ⟨3, _⟩ => ⟨S2x896x3072, .bf16⟩
  | _, _ => ⟨S2x896x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_call3_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_call4_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_call5_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_cst_11 : Ref sig .tc := ⟨.hbm, 69, rfl⟩
abbrev main_v40 : Ref sig .tc := ⟨.hbm, 70, rfl⟩
abbrev main_c_12 : Ref sig .tc := ⟨.hbm, 71, rfl⟩
abbrev main_v41_0 : Ref sig .tc := ⟨.hbm, 72, rfl⟩
abbrev main_v41_1 : Ref sig .tc := ⟨.hbm, 73, rfl⟩
abbrev main_v41_2 : Ref sig .tc := ⟨.hbm, 74, rfl⟩
abbrev main_v41_3 : Ref sig .tc := ⟨.hbm, 75, rfl⟩
abbrev main_v41_4 : Ref sig .tc := ⟨.hbm, 76, rfl⟩
abbrev main_v41_5 : Ref sig .tc := ⟨.hbm, 77, rfl⟩
abbrev main_v41_6 : Ref sig .tc := ⟨.hbm, 78, rfl⟩
abbrev main_v41_7 : Ref sig .tc := ⟨.hbm, 79, rfl⟩
abbrev main_v41_8 : Ref sig .tc := ⟨.hbm, 80, rfl⟩
abbrev main_v41_9 : Ref sig .tc := ⟨.hbm, 81, rfl⟩
abbrev main_v41_10 : Ref sig .tc := ⟨.hbm, 82, rfl⟩
abbrev main_v41_11 : Ref sig .tc := ⟨.hbm, 83, rfl⟩
abbrev main_v41_12 : Ref sig .tc := ⟨.hbm, 84, rfl⟩
abbrev main_v41_13 : Ref sig .tc := ⟨.hbm, 85, rfl⟩
abbrev main_v41_14 : Ref sig .tc := ⟨.hbm, 86, rfl⟩
abbrev main_v41_15 : Ref sig .tc := ⟨.hbm, 87, rfl⟩
abbrev main_v41_16 : Ref sig .tc := ⟨.hbm, 88, rfl⟩
abbrev main_v41_17 : Ref sig .tc := ⟨.hbm, 89, rfl⟩
abbrev main_while0c_c_30 : Ref sig .tc := ⟨.hbm, 90, rfl⟩
abbrev main_while0c_v55 : Ref sig .tc := ⟨.hbm, 91, rfl⟩
abbrev main_while0b_call6_c : Ref sig .tc := ⟨.hbm, 92, rfl⟩
abbrev main_while0b_call6_c_0 : Ref sig .tc := ⟨.hbm, 93, rfl⟩
abbrev main_while0b_call6_c_1 : Ref sig .tc := ⟨.hbm, 94, rfl⟩
abbrev main_while0b_call6_c_2 : Ref sig .tc := ⟨.hbm, 95, rfl⟩
abbrev main_while0b_call6_v0 : Ref sig .tc := ⟨.hbm, 96, rfl⟩
abbrev main_while0b_v55 : Ref sig .tc := ⟨.hbm, 97, rfl⟩
abbrev main_while0b_call7_c : Ref sig .tc := ⟨.hbm, 98, rfl⟩
abbrev main_while0b_call7_c_0 : Ref sig .tc := ⟨.hbm, 99, rfl⟩
abbrev main_while0b_call7_c_1 : Ref sig .tc := ⟨.hbm, 100, rfl⟩
abbrev main_while0b_call7_v0 : Ref sig .tc := ⟨.hbm, 101, rfl⟩
abbrev main_while0b_v56 : Ref sig .tc := ⟨.hbm, 102, rfl⟩
abbrev main_while0b_call8_c : Ref sig .tc := ⟨.hbm, 103, rfl⟩
abbrev main_while0b_call8_c_0 : Ref sig .tc := ⟨.hbm, 104, rfl⟩
abbrev main_while0b_call8_c_1 : Ref sig .tc := ⟨.hbm, 105, rfl⟩
abbrev main_while0b_call8_c_2 : Ref sig .tc := ⟨.hbm, 106, rfl⟩
abbrev main_while0b_call8_v0 : Ref sig .tc := ⟨.hbm, 107, rfl⟩
abbrev main_while0b_v57 : Ref sig .tc := ⟨.hbm, 108, rfl⟩
abbrev main_while0b_call9_c : Ref sig .tc := ⟨.hbm, 109, rfl⟩
abbrev main_while0b_call9_c_0 : Ref sig .tc := ⟨.hbm, 110, rfl⟩
abbrev main_while0b_call9_c_1 : Ref sig .tc := ⟨.hbm, 111, rfl⟩
abbrev main_while0b_call9_v0 : Ref sig .tc := ⟨.hbm, 112, rfl⟩
abbrev main_while0b_v58 : Ref sig .tc := ⟨.hbm, 113, rfl⟩
abbrev main_while0b_call10_c : Ref sig .tc := ⟨.hbm, 114, rfl⟩
abbrev main_while0b_call10_c_0 : Ref sig .tc := ⟨.hbm, 115, rfl⟩
abbrev main_while0b_call10_c_1 : Ref sig .tc := ⟨.hbm, 116, rfl⟩
abbrev main_while0b_call10_c_2 : Ref sig .tc := ⟨.hbm, 117, rfl⟩
abbrev main_while0b_call10_v0 : Ref sig .tc := ⟨.hbm, 118, rfl⟩
abbrev main_while0b_v59 : Ref sig .tc := ⟨.hbm, 119, rfl⟩
abbrev main_while0b_call11_c : Ref sig .tc := ⟨.hbm, 120, rfl⟩
abbrev main_while0b_call11_c_0 : Ref sig .tc := ⟨.hbm, 121, rfl⟩
abbrev main_while0b_call11_c_1 : Ref sig .tc := ⟨.hbm, 122, rfl⟩
abbrev main_while0b_call11_v0 : Ref sig .tc := ⟨.hbm, 123, rfl⟩
abbrev main_while0b_v60 : Ref sig .tc := ⟨.hbm, 124, rfl⟩
abbrev main_while0b_v61 : Ref sig .tc := ⟨.hbm, 125, rfl⟩
abbrev main_while0b_v62 : Ref sig .tc := ⟨.hbm, 126, rfl⟩
abbrev main_while0b_v63 : Ref sig .tc := ⟨.hbm, 127, rfl⟩
abbrev main_while0b_v64 : Ref sig .tc := ⟨.hbm, 128, rfl⟩
abbrev main_while0b_v65 : Ref sig .tc := ⟨.hbm, 129, rfl⟩
abbrev main_while0b_v66 : Ref sig .tc := ⟨.hbm, 130, rfl⟩
abbrev main_while0b_v67 : Ref sig .tc := ⟨.hbm, 131, rfl⟩
abbrev main_while0b_v68 : Ref sig .tc := ⟨.hbm, 132, rfl⟩
abbrev main_while0b_v69 : Ref sig .tc := ⟨.hbm, 133, rfl⟩
abbrev main_while0b_v70 : Ref sig .tc := ⟨.hbm, 134, rfl⟩
abbrev main_while0b_v71 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_cst_30 : Ref sig .tc := ⟨.hbm, 139, rfl⟩
abbrev main_while0b_v75 : Ref sig .tc := ⟨.hbm, 140, rfl⟩
abbrev main_while0b_v76 : Ref sig .tc := ⟨.hbm, 141, rfl⟩
abbrev main_while0b_cst_31 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_v81 : Ref sig .tc := ⟨.hbm, 147, rfl⟩
abbrev main_while0b_v82 : Ref sig .tc := ⟨.hbm, 148, rfl⟩
abbrev main_while0b_v83 : Ref sig .tc := ⟨.hbm, 149, rfl⟩
abbrev main_while0b_v84 : Ref sig .tc := ⟨.hbm, 150, rfl⟩
abbrev main_while0b_v85 : Ref sig .tc := ⟨.hbm, 151, rfl⟩
abbrev main_while0b_v86 : Ref sig .tc := ⟨.hbm, 152, rfl⟩
abbrev main_while0b_v87 : Ref sig .tc := ⟨.hbm, 153, rfl⟩
abbrev main_while0b_v88 : Ref sig .tc := ⟨.hbm, 154, rfl⟩
abbrev main_while0b_v89 : Ref sig .tc := ⟨.hbm, 155, rfl⟩
abbrev main_while0b_v90 : Ref sig .tc := ⟨.hbm, 156, rfl⟩
abbrev main_while0b_v91 : Ref sig .tc := ⟨.hbm, 157, rfl⟩
abbrev main_while0b_v92 : Ref sig .tc := ⟨.hbm, 158, rfl⟩
abbrev main_while0b_v93 : Ref sig .tc := ⟨.hbm, 159, rfl⟩
abbrev main_while0b_v94 : Ref sig .tc := ⟨.hbm, 160, rfl⟩
abbrev main_while0b_cst_32 : Ref sig .tc := ⟨.hbm, 161, rfl⟩
abbrev main_while0b_v95 : Ref sig .tc := ⟨.hbm, 162, rfl⟩
abbrev main_while0b_v96 : Ref sig .tc := ⟨.hbm, 163, rfl⟩
abbrev main_while0b_v97 : Ref sig .tc := ⟨.hbm, 164, rfl⟩
abbrev main_while0b_cst_33 : Ref sig .tc := ⟨.hbm, 165, rfl⟩
abbrev main_while0b_v98 : Ref sig .tc := ⟨.hbm, 166, rfl⟩
abbrev main_while0b_v99 : Ref sig .tc := ⟨.hbm, 167, rfl⟩
abbrev main_while0b_v100 : Ref sig .tc := ⟨.hbm, 168, rfl⟩
abbrev main_while0b_v101 : Ref sig .tc := ⟨.hbm, 169, rfl⟩
abbrev main_while0b_v102 : Ref sig .tc := ⟨.hbm, 170, rfl⟩
abbrev main_while0b_v103 : Ref sig .tc := ⟨.hbm, 171, rfl⟩
abbrev main_while0b_v104 : Ref sig .tc := ⟨.hbm, 172, rfl⟩
abbrev main_while0b_v105 : Ref sig .tc := ⟨.hbm, 173, rfl⟩
abbrev main_while0b_v106 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_v112 : Ref sig .tc := ⟨.hbm, 180, rfl⟩
abbrev main_while0b_cst_34 : Ref sig .tc := ⟨.hbm, 181, rfl⟩
abbrev main_while0b_v113 : Ref sig .tc := ⟨.hbm, 182, rfl⟩
abbrev main_while0b_v114 : Ref sig .tc := ⟨.hbm, 183, rfl⟩
abbrev main_while0b_v115 : Ref sig .tc := ⟨.hbm, 184, rfl⟩
abbrev main_while0b_cst_35 : Ref sig .tc := ⟨.hbm, 185, rfl⟩
abbrev main_while0b_v116 : Ref sig .tc := ⟨.hbm, 186, rfl⟩
abbrev main_while0b_v117 : Ref sig .tc := ⟨.hbm, 187, rfl⟩
abbrev main_while0b_v118 : Ref sig .tc := ⟨.hbm, 188, rfl⟩
abbrev main_while0b_v119 : Ref sig .tc := ⟨.hbm, 189, rfl⟩
abbrev main_while0b_v120 : Ref sig .tc := ⟨.hbm, 190, rfl⟩
abbrev main_while0b_cst_36 : Ref sig .tc := ⟨.hbm, 191, rfl⟩
abbrev main_while0b_v121 : Ref sig .tc := ⟨.hbm, 192, rfl⟩
abbrev main_while0b_v122 : Ref sig .tc := ⟨.hbm, 193, rfl⟩
abbrev main_while0b_v123 : Ref sig .tc := ⟨.hbm, 194, rfl⟩
abbrev main_while0b_cst_37 : Ref sig .tc := ⟨.hbm, 195, rfl⟩
abbrev main_while0b_v124 : Ref sig .tc := ⟨.hbm, 196, rfl⟩
abbrev main_while0b_v125 : Ref sig .tc := ⟨.hbm, 197, rfl⟩
abbrev main_while0b_v126 : Ref sig .tc := ⟨.hbm, 198, rfl⟩
abbrev main_while0b_cst_38 : Ref sig .tc := ⟨.hbm, 199, rfl⟩
abbrev main_while0b_v127 : Ref sig .tc := ⟨.hbm, 200, rfl⟩
abbrev main_while0b_v128 : Ref sig .tc := ⟨.hbm, 201, rfl⟩
abbrev main_while0b_v129 : Ref sig .tc := ⟨.hbm, 202, rfl⟩
abbrev main_while0b_v130 : Ref sig .tc := ⟨.hbm, 203, rfl⟩
abbrev main_while0b_v131 : Ref sig .tc := ⟨.hbm, 204, rfl⟩
abbrev main_while0b_cst_39 : Ref sig .tc := ⟨.hbm, 205, rfl⟩
abbrev main_while0b_v132 : Ref sig .tc := ⟨.hbm, 206, rfl⟩
abbrev main_while0b_v133 : Ref sig .tc := ⟨.hbm, 207, rfl⟩
abbrev main_while0b_v134 : Ref sig .tc := ⟨.hbm, 208, rfl⟩
abbrev main_while0b_cst_40 : Ref sig .tc := ⟨.hbm, 209, rfl⟩
abbrev main_while0b_v135 : Ref sig .tc := ⟨.hbm, 210, rfl⟩
abbrev main_while0b_v136 : Ref sig .tc := ⟨.hbm, 211, rfl⟩
abbrev main_while0b_v137 : Ref sig .tc := ⟨.hbm, 212, rfl⟩
abbrev main_while0b_cst_41 : Ref sig .tc := ⟨.hbm, 213, rfl⟩
abbrev main_while0b_v138 : Ref sig .tc := ⟨.hbm, 214, rfl⟩
abbrev main_while0b_v139 : Ref sig .tc := ⟨.hbm, 215, rfl⟩
abbrev main_while0b_v140 : Ref sig .tc := ⟨.hbm, 216, rfl⟩
abbrev main_while0b_v141 : Ref sig .tc := ⟨.hbm, 217, rfl⟩
abbrev main_while0b_v142 : Ref sig .tc := ⟨.hbm, 218, rfl⟩
abbrev main_while0b_cst_42 : Ref sig .tc := ⟨.hbm, 219, rfl⟩
abbrev main_while0b_v143 : Ref sig .tc := ⟨.hbm, 220, rfl⟩
abbrev main_while0b_v144 : Ref sig .tc := ⟨.hbm, 221, rfl⟩
abbrev main_while0b_v145 : Ref sig .tc := ⟨.hbm, 222, rfl⟩
abbrev main_while0b_cst_43 : Ref sig .tc := ⟨.hbm, 223, rfl⟩
abbrev main_while0b_v146 : Ref sig .tc := ⟨.hbm, 224, rfl⟩
abbrev main_while0b_v147 : Ref sig .tc := ⟨.hbm, 225, rfl⟩
abbrev main_while0b_v148 : Ref sig .tc := ⟨.hbm, 226, rfl⟩
abbrev main_while0b_cst_44 : Ref sig .tc := ⟨.hbm, 227, rfl⟩
abbrev main_while0b_v149 : Ref sig .tc := ⟨.hbm, 228, rfl⟩
abbrev main_while0b_v150 : Ref sig .tc := ⟨.hbm, 229, rfl⟩
abbrev main_while0b_v151 : Ref sig .tc := ⟨.hbm, 230, rfl⟩
abbrev main_while0b_v152 : Ref sig .tc := ⟨.hbm, 231, rfl⟩
abbrev main_while0b_v153 : Ref sig .tc := ⟨.hbm, 232, rfl⟩
abbrev main_while0b_cst_45 : Ref sig .tc := ⟨.hbm, 233, rfl⟩
abbrev main_while0b_v154 : Ref sig .tc := ⟨.hbm, 234, rfl⟩
abbrev main_while0b_v155 : Ref sig .tc := ⟨.hbm, 235, rfl⟩
abbrev main_while0b_v156 : Ref sig .tc := ⟨.hbm, 236, rfl⟩
abbrev main_while0b_cst_46 : Ref sig .tc := ⟨.hbm, 237, rfl⟩
abbrev main_while0b_v157 : Ref sig .tc := ⟨.hbm, 238, rfl⟩
abbrev main_while0b_v158 : Ref sig .tc := ⟨.hbm, 239, rfl⟩
abbrev main_while0b_v159 : Ref sig .tc := ⟨.hbm, 240, rfl⟩
abbrev main_while0b_cst_47 : Ref sig .tc := ⟨.hbm, 241, rfl⟩
abbrev main_while0b_v160 : Ref sig .tc := ⟨.hbm, 242, rfl⟩
abbrev main_while0b_v161 : Ref sig .tc := ⟨.hbm, 243, rfl⟩
abbrev main_while0b_v162 : Ref sig .tc := ⟨.hbm, 244, rfl⟩
abbrev main_while0b_v163 : Ref sig .tc := ⟨.hbm, 245, rfl⟩
abbrev main_while0b_v164 : Ref sig .tc := ⟨.hbm, 246, rfl⟩
abbrev main_while0b_cst_48 : Ref sig .tc := ⟨.hbm, 247, rfl⟩
abbrev main_while0b_v165 : Ref sig .tc := ⟨.hbm, 248, rfl⟩
abbrev main_while0b_v166 : Ref sig .tc := ⟨.hbm, 249, rfl⟩
abbrev main_while0b_v167 : Ref sig .tc := ⟨.hbm, 250, rfl⟩
abbrev main_while0b_cst_49 : Ref sig .tc := ⟨.hbm, 251, rfl⟩
abbrev main_while0b_v168 : Ref sig .tc := ⟨.hbm, 252, rfl⟩
abbrev main_while0b_v169 : Ref sig .tc := ⟨.hbm, 253, rfl⟩
abbrev main_while0b_v170 : Ref sig .tc := ⟨.hbm, 254, rfl⟩
abbrev main_while0b_cst_50 : Ref sig .tc := ⟨.hbm, 255, rfl⟩
abbrev main_while0b_v171 : Ref sig .tc := ⟨.hbm, 256, rfl⟩
abbrev main_while0b_v172 : Ref sig .tc := ⟨.hbm, 257, rfl⟩
abbrev main_while0b_v173 : Ref sig .tc := ⟨.hbm, 258, rfl⟩
abbrev main_while0b_v174 : Ref sig .tc := ⟨.hbm, 259, rfl⟩
abbrev main_while0b_v175 : Ref sig .tc := ⟨.hbm, 260, rfl⟩
abbrev main_while0b_v176 : Ref sig .tc := ⟨.hbm, 261, rfl⟩
abbrev main_while0b_v177 : Ref sig .tc := ⟨.hbm, 262, rfl⟩
abbrev main_while0b_cst_51 : Ref sig .tc := ⟨.hbm, 263, rfl⟩
abbrev main_while0b_v178 : Ref sig .tc := ⟨.hbm, 264, rfl⟩
abbrev main_while0b_v179 : Ref sig .tc := ⟨.hbm, 265, rfl⟩
abbrev main_while0b_v180 : Ref sig .tc := ⟨.hbm, 266, rfl⟩
abbrev main_while0b_cst_52 : Ref sig .tc := ⟨.hbm, 267, rfl⟩
abbrev main_while0b_v181 : Ref sig .tc := ⟨.hbm, 268, rfl⟩
abbrev main_while0b_v182 : Ref sig .tc := ⟨.hbm, 269, rfl⟩
abbrev main_while0b_v183 : Ref sig .tc := ⟨.hbm, 270, rfl⟩
abbrev main_while0b_v184 : Ref sig .tc := ⟨.hbm, 271, rfl⟩
abbrev main_while0b_v185 : Ref sig .tc := ⟨.hbm, 272, rfl⟩
abbrev main_while0b_cst_53 : Ref sig .tc := ⟨.hbm, 273, rfl⟩
abbrev main_while0b_v186 : Ref sig .tc := ⟨.hbm, 274, rfl⟩
abbrev main_while0b_v187 : Ref sig .tc := ⟨.hbm, 275, rfl⟩
abbrev main_while0b_v188 : Ref sig .tc := ⟨.hbm, 276, rfl⟩
abbrev main_while0b_cst_54 : Ref sig .tc := ⟨.hbm, 277, rfl⟩
abbrev main_while0b_v189 : Ref sig .tc := ⟨.hbm, 278, rfl⟩
abbrev main_while0b_v190 : Ref sig .tc := ⟨.hbm, 279, rfl⟩
abbrev main_while0b_v191 : Ref sig .tc := ⟨.hbm, 280, rfl⟩
abbrev main_while0b_cst_55 : Ref sig .tc := ⟨.hbm, 281, rfl⟩
abbrev main_while0b_v192 : Ref sig .tc := ⟨.hbm, 282, rfl⟩
abbrev main_while0b_v193 : Ref sig .tc := ⟨.hbm, 283, rfl⟩
abbrev main_while0b_v194 : Ref sig .tc := ⟨.hbm, 284, rfl⟩
abbrev main_while0b_v195 : Ref sig .tc := ⟨.hbm, 285, rfl⟩
abbrev main_while0b_v196 : Ref sig .tc := ⟨.hbm, 286, rfl⟩
abbrev main_while0b_cst_56 : Ref sig .tc := ⟨.hbm, 287, rfl⟩
abbrev main_while0b_v197 : Ref sig .tc := ⟨.hbm, 288, rfl⟩
abbrev main_while0b_v198 : Ref sig .tc := ⟨.hbm, 289, rfl⟩
abbrev main_while0b_v199 : Ref sig .tc := ⟨.hbm, 290, rfl⟩
abbrev main_while0b_cst_57 : Ref sig .tc := ⟨.hbm, 291, rfl⟩
abbrev main_while0b_v200 : Ref sig .tc := ⟨.hbm, 292, rfl⟩
abbrev main_while0b_v201 : Ref sig .tc := ⟨.hbm, 293, rfl⟩
abbrev main_while0b_v202 : Ref sig .tc := ⟨.hbm, 294, rfl⟩
abbrev main_while0b_cst_58 : Ref sig .tc := ⟨.hbm, 295, rfl⟩
abbrev main_while0b_v203 : Ref sig .tc := ⟨.hbm, 296, rfl⟩
abbrev main_while0b_v204 : Ref sig .tc := ⟨.hbm, 297, rfl⟩
abbrev main_while0b_v205 : Ref sig .tc := ⟨.hbm, 298, rfl⟩
abbrev main_while0b_v206 : Ref sig .tc := ⟨.hbm, 299, rfl⟩
abbrev main_while0b_v207 : Ref sig .tc := ⟨.hbm, 300, rfl⟩
abbrev main_while0b_cst_59 : Ref sig .tc := ⟨.hbm, 301, rfl⟩
abbrev main_while0b_v208 : Ref sig .tc := ⟨.hbm, 302, rfl⟩
abbrev main_while0b_v209 : Ref sig .tc := ⟨.hbm, 303, rfl⟩
abbrev main_while0b_v210 : Ref sig .tc := ⟨.hbm, 304, rfl⟩
abbrev main_while0b_cst_60 : Ref sig .tc := ⟨.hbm, 305, rfl⟩
abbrev main_while0b_v211 : Ref sig .tc := ⟨.hbm, 306, rfl⟩
abbrev main_while0b_v212 : Ref sig .tc := ⟨.hbm, 307, rfl⟩
abbrev main_while0b_v213 : Ref sig .tc := ⟨.hbm, 308, rfl⟩
abbrev main_while0b_cst_61 : Ref sig .tc := ⟨.hbm, 309, rfl⟩
abbrev main_while0b_v214 : Ref sig .tc := ⟨.hbm, 310, rfl⟩
abbrev main_while0b_v215 : Ref sig .tc := ⟨.hbm, 311, rfl⟩
abbrev main_while0b_v216 : Ref sig .tc := ⟨.hbm, 312, rfl⟩
abbrev main_while0b_v217 : Ref sig .tc := ⟨.hbm, 313, rfl⟩
abbrev main_while0b_v218 : Ref sig .tc := ⟨.hbm, 314, rfl⟩
abbrev main_while0b_cst_62 : Ref sig .tc := ⟨.hbm, 315, rfl⟩
abbrev main_while0b_v219 : Ref sig .tc := ⟨.hbm, 316, rfl⟩
abbrev main_while0b_v220 : Ref sig .tc := ⟨.hbm, 317, rfl⟩
abbrev main_while0b_v221 : Ref sig .tc := ⟨.hbm, 318, rfl⟩
abbrev main_while0b_cst_63 : Ref sig .tc := ⟨.hbm, 319, rfl⟩
abbrev main_while0b_v222 : Ref sig .tc := ⟨.hbm, 320, rfl⟩
abbrev main_while0b_v223 : Ref sig .tc := ⟨.hbm, 321, rfl⟩
abbrev main_while0b_v224 : Ref sig .tc := ⟨.hbm, 322, rfl⟩
abbrev main_while0b_cst_64 : Ref sig .tc := ⟨.hbm, 323, rfl⟩
abbrev main_while0b_v225 : Ref sig .tc := ⟨.hbm, 324, rfl⟩
abbrev main_while0b_v226 : Ref sig .tc := ⟨.hbm, 325, rfl⟩
abbrev main_while0b_v227 : Ref sig .tc := ⟨.hbm, 326, rfl⟩
abbrev main_while0b_v228 : Ref sig .tc := ⟨.hbm, 327, rfl⟩
abbrev main_while0b_v229 : Ref sig .tc := ⟨.hbm, 328, rfl⟩
abbrev main_while0b_cst_65 : Ref sig .tc := ⟨.hbm, 329, rfl⟩
abbrev main_while0b_v230 : Ref sig .tc := ⟨.hbm, 330, rfl⟩
abbrev main_while0b_v231 : Ref sig .tc := ⟨.hbm, 331, rfl⟩
abbrev main_while0b_v232 : Ref sig .tc := ⟨.hbm, 332, rfl⟩
abbrev main_while0b_cst_66 : Ref sig .tc := ⟨.hbm, 333, rfl⟩
abbrev main_while0b_v233 : Ref sig .tc := ⟨.hbm, 334, rfl⟩
abbrev main_while0b_v234 : Ref sig .tc := ⟨.hbm, 335, rfl⟩
abbrev main_while0b_v235 : Ref sig .tc := ⟨.hbm, 336, rfl⟩
abbrev main_while0b_cst_67 : Ref sig .tc := ⟨.hbm, 337, rfl⟩
abbrev main_while0b_v236 : Ref sig .tc := ⟨.hbm, 338, rfl⟩
abbrev main_while0b_v237 : Ref sig .tc := ⟨.hbm, 339, rfl⟩
abbrev main_while0b_v238 : Ref sig .tc := ⟨.hbm, 340, rfl⟩
abbrev main_while0b_v239 : Ref sig .tc := ⟨.hbm, 341, rfl⟩
abbrev main_while0b_v240 : Ref sig .tc := ⟨.hbm, 342, rfl⟩
abbrev main_while0b_v241 : Ref sig .tc := ⟨.hbm, 343, rfl⟩
abbrev main_while0b_cst_68 : Ref sig .tc := ⟨.hbm, 344, rfl⟩
abbrev main_while0b_v242 : Ref sig .tc := ⟨.hbm, 345, rfl⟩
abbrev main_while0b_v243 : Ref sig .tc := ⟨.hbm, 346, rfl⟩
abbrev main_while0b_v244 : Ref sig .tc := ⟨.hbm, 347, rfl⟩
abbrev main_while0b_cst_69 : Ref sig .tc := ⟨.hbm, 348, rfl⟩
abbrev main_while0b_v245 : Ref sig .tc := ⟨.hbm, 349, rfl⟩
abbrev main_while0b_v246 : Ref sig .tc := ⟨.hbm, 350, rfl⟩
abbrev main_while0b_v247 : Ref sig .tc := ⟨.hbm, 351, rfl⟩
abbrev main_while0b_v248 : Ref sig .tc := ⟨.hbm, 352, rfl⟩
abbrev main_while0b_v249 : Ref sig .tc := ⟨.hbm, 353, rfl⟩
abbrev main_while0b_cst_70 : Ref sig .tc := ⟨.hbm, 354, rfl⟩
abbrev main_while0b_v250 : Ref sig .tc := ⟨.hbm, 355, rfl⟩
abbrev main_while0b_v251 : Ref sig .tc := ⟨.hbm, 356, rfl⟩
abbrev main_while0b_v252 : Ref sig .tc := ⟨.hbm, 357, rfl⟩
abbrev main_while0b_cst_71 : Ref sig .tc := ⟨.hbm, 358, rfl⟩
abbrev main_while0b_v253 : Ref sig .tc := ⟨.hbm, 359, rfl⟩
abbrev main_while0b_v254 : Ref sig .tc := ⟨.hbm, 360, rfl⟩
abbrev main_while0b_v255 : Ref sig .tc := ⟨.hbm, 361, rfl⟩
abbrev main_while0b_cst_72 : Ref sig .tc := ⟨.hbm, 362, rfl⟩
abbrev main_while0b_v256 : Ref sig .tc := ⟨.hbm, 363, rfl⟩
abbrev main_while0b_v257 : Ref sig .tc := ⟨.hbm, 364, rfl⟩
abbrev main_while0b_v258 : Ref sig .tc := ⟨.hbm, 365, rfl⟩
abbrev main_while0b_v259 : Ref sig .tc := ⟨.hbm, 366, rfl⟩
abbrev main_while0b_v260 : Ref sig .tc := ⟨.hbm, 367, rfl⟩
abbrev main_while0b_cst_73 : Ref sig .tc := ⟨.hbm, 368, rfl⟩
abbrev main_while0b_v261 : Ref sig .tc := ⟨.hbm, 369, rfl⟩
abbrev main_while0b_v262 : Ref sig .tc := ⟨.hbm, 370, rfl⟩
abbrev main_while0b_v263 : Ref sig .tc := ⟨.hbm, 371, rfl⟩
abbrev main_while0b_cst_74 : Ref sig .tc := ⟨.hbm, 372, rfl⟩
abbrev main_while0b_v264 : Ref sig .tc := ⟨.hbm, 373, rfl⟩
abbrev main_while0b_v265 : Ref sig .tc := ⟨.hbm, 374, rfl⟩
abbrev main_while0b_v266 : Ref sig .tc := ⟨.hbm, 375, rfl⟩
abbrev main_while0b_cst_75 : Ref sig .tc := ⟨.hbm, 376, rfl⟩
abbrev main_while0b_v267 : Ref sig .tc := ⟨.hbm, 377, rfl⟩
abbrev main_while0b_v268 : Ref sig .tc := ⟨.hbm, 378, rfl⟩
abbrev main_while0b_v269 : Ref sig .tc := ⟨.hbm, 379, rfl⟩
abbrev main_while0b_v270 : Ref sig .tc := ⟨.hbm, 380, rfl⟩
abbrev main_while0b_v271 : Ref sig .tc := ⟨.hbm, 381, rfl⟩
abbrev main_while0b_cst_76 : Ref sig .tc := ⟨.hbm, 382, rfl⟩
abbrev main_while0b_v272 : Ref sig .tc := ⟨.hbm, 383, rfl⟩
abbrev main_while0b_v273 : Ref sig .tc := ⟨.hbm, 384, rfl⟩
abbrev main_while0b_v274 : Ref sig .tc := ⟨.hbm, 385, rfl⟩
abbrev main_while0b_cst_77 : Ref sig .tc := ⟨.hbm, 386, rfl⟩
abbrev main_while0b_v275 : Ref sig .tc := ⟨.hbm, 387, rfl⟩
abbrev main_while0b_v276 : Ref sig .tc := ⟨.hbm, 388, rfl⟩
abbrev main_while0b_v277 : Ref sig .tc := ⟨.hbm, 389, rfl⟩
abbrev main_while0b_cst_78 : Ref sig .tc := ⟨.hbm, 390, rfl⟩
abbrev main_while0b_v278 : Ref sig .tc := ⟨.hbm, 391, rfl⟩
abbrev main_while0b_v279 : Ref sig .tc := ⟨.hbm, 392, rfl⟩
abbrev main_while0b_v280 : Ref sig .tc := ⟨.hbm, 393, rfl⟩
abbrev main_while0b_v281 : Ref sig .tc := ⟨.hbm, 394, rfl⟩
abbrev main_while0b_v282 : Ref sig .tc := ⟨.hbm, 395, rfl⟩
abbrev main_while0b_cst_79 : Ref sig .tc := ⟨.hbm, 396, rfl⟩
abbrev main_while0b_v283 : Ref sig .tc := ⟨.hbm, 397, rfl⟩
abbrev main_while0b_v284 : Ref sig .tc := ⟨.hbm, 398, rfl⟩
abbrev main_while0b_v285 : Ref sig .tc := ⟨.hbm, 399, rfl⟩
abbrev main_while0b_cst_80 : Ref sig .tc := ⟨.hbm, 400, rfl⟩
abbrev main_while0b_v286 : Ref sig .tc := ⟨.hbm, 401, rfl⟩
abbrev main_while0b_v287 : Ref sig .tc := ⟨.hbm, 402, rfl⟩
abbrev main_while0b_v288 : Ref sig .tc := ⟨.hbm, 403, rfl⟩
abbrev main_while0b_cst_81 : Ref sig .tc := ⟨.hbm, 404, rfl⟩
abbrev main_while0b_v289 : Ref sig .tc := ⟨.hbm, 405, rfl⟩
abbrev main_while0b_v290 : Ref sig .tc := ⟨.hbm, 406, rfl⟩
abbrev main_while0b_v291 : Ref sig .tc := ⟨.hbm, 407, rfl⟩
abbrev main_while0b_v292 : Ref sig .tc := ⟨.hbm, 408, rfl⟩
abbrev main_while0b_v293 : Ref sig .tc := ⟨.hbm, 409, rfl⟩
abbrev main_while0b_cst_82 : Ref sig .tc := ⟨.hbm, 410, rfl⟩
abbrev main_while0b_v294 : Ref sig .tc := ⟨.hbm, 411, rfl⟩
abbrev main_while0b_v295 : Ref sig .tc := ⟨.hbm, 412, rfl⟩
abbrev main_while0b_v296 : Ref sig .tc := ⟨.hbm, 413, rfl⟩
abbrev main_while0b_cst_83 : Ref sig .tc := ⟨.hbm, 414, rfl⟩
abbrev main_while0b_v297 : Ref sig .tc := ⟨.hbm, 415, rfl⟩
abbrev main_while0b_v298 : Ref sig .tc := ⟨.hbm, 416, rfl⟩
abbrev main_while0b_v299 : Ref sig .tc := ⟨.hbm, 417, rfl⟩
abbrev main_while0b_cst_84 : Ref sig .tc := ⟨.hbm, 418, rfl⟩
abbrev main_while0b_v300 : Ref sig .tc := ⟨.hbm, 419, rfl⟩
abbrev main_while0b_v301 : Ref sig .tc := ⟨.hbm, 420, rfl⟩
abbrev main_while0b_v302 : Ref sig .tc := ⟨.hbm, 421, rfl⟩
abbrev main_while0b_v303 : Ref sig .tc := ⟨.hbm, 422, rfl⟩
abbrev main_while0b_v304 : Ref sig .tc := ⟨.hbm, 423, rfl⟩
abbrev main_while0b_v305 : Ref sig .tc := ⟨.hbm, 424, rfl⟩
abbrev main_while0b_cst_85 : Ref sig .tc := ⟨.hbm, 425, rfl⟩
abbrev main_while0b_v306 : Ref sig .tc := ⟨.hbm, 426, rfl⟩
abbrev main_while0b_v307 : Ref sig .tc := ⟨.hbm, 427, rfl⟩
abbrev main_while0b_v308 : Ref sig .tc := ⟨.hbm, 428, rfl⟩
abbrev main_while0b_cst_86 : Ref sig .tc := ⟨.hbm, 429, rfl⟩
abbrev main_while0b_v309 : Ref sig .tc := ⟨.hbm, 430, rfl⟩
abbrev main_while0b_v310 : Ref sig .tc := ⟨.hbm, 431, rfl⟩
abbrev main_while0b_v311 : Ref sig .tc := ⟨.hbm, 432, rfl⟩
abbrev main_while0b_v312 : Ref sig .tc := ⟨.hbm, 433, rfl⟩
abbrev main_while0b_v313 : Ref sig .tc := ⟨.hbm, 434, rfl⟩
abbrev main_while0b_v314 : Ref sig .tc := ⟨.hbm, 435, rfl⟩
abbrev main_while0b_v315 : Ref sig .tc := ⟨.hbm, 436, rfl⟩
abbrev main_while0b_v316 : Ref sig .tc := ⟨.hbm, 437, rfl⟩
abbrev main_while0b_v317 : Ref sig .tc := ⟨.hbm, 438, rfl⟩
abbrev main_while0b_v318 : Ref sig .tc := ⟨.hbm, 439, rfl⟩
abbrev main_while0b_cst_87 : Ref sig .tc := ⟨.hbm, 440, rfl⟩
abbrev main_while0b_v319 : Ref sig .tc := ⟨.hbm, 441, rfl⟩
abbrev main_while0b_v320 : Ref sig .tc := ⟨.hbm, 442, rfl⟩
abbrev main_while0b_v321 : Ref sig .tc := ⟨.hbm, 443, rfl⟩
abbrev main_while0b_cst_88 : Ref sig .tc := ⟨.hbm, 444, rfl⟩
abbrev main_while0b_v322 : Ref sig .tc := ⟨.hbm, 445, rfl⟩
abbrev main_while0b_v323 : Ref sig .tc := ⟨.hbm, 446, rfl⟩
abbrev main_while0b_v324 : Ref sig .tc := ⟨.hbm, 447, rfl⟩
abbrev main_while0b_v325 : Ref sig .tc := ⟨.hbm, 448, rfl⟩
abbrev main_while0b_v326 : Ref sig .tc := ⟨.hbm, 449, rfl⟩
abbrev main_while0b_v327 : Ref sig .tc := ⟨.hbm, 450, rfl⟩
abbrev main_while0b_v328 : Ref sig .tc := ⟨.hbm, 451, rfl⟩
abbrev main_while0b_v329 : Ref sig .tc := ⟨.hbm, 452, rfl⟩
abbrev main_while0b_v330 : Ref sig .tc := ⟨.hbm, 453, rfl⟩
abbrev main_while0b_v331 : Ref sig .tc := ⟨.hbm, 454, rfl⟩
abbrev main_while0b_cst_89 : Ref sig .tc := ⟨.hbm, 455, rfl⟩
abbrev main_while0b_v332 : Ref sig .tc := ⟨.hbm, 456, rfl⟩
abbrev main_while0b_v333 : Ref sig .tc := ⟨.hbm, 457, rfl⟩
abbrev main_while0b_v334 : Ref sig .tc := ⟨.hbm, 458, rfl⟩
abbrev main_while0b_cst_90 : Ref sig .tc := ⟨.hbm, 459, rfl⟩
abbrev main_while0b_v335 : Ref sig .tc := ⟨.hbm, 460, rfl⟩
abbrev main_while0b_v336 : Ref sig .tc := ⟨.hbm, 461, rfl⟩
abbrev main_while0b_v337 : Ref sig .tc := ⟨.hbm, 462, rfl⟩
abbrev main_while0b_v338 : Ref sig .tc := ⟨.hbm, 463, rfl⟩
abbrev main_while0b_v339 : Ref sig .tc := ⟨.hbm, 464, rfl⟩
abbrev main_while0b_v340 : Ref sig .tc := ⟨.hbm, 465, rfl⟩
abbrev main_while0b_v341 : Ref sig .tc := ⟨.hbm, 466, rfl⟩
abbrev main_while0b_v342 : Ref sig .tc := ⟨.hbm, 467, rfl⟩
abbrev main_while0b_v343 : Ref sig .tc := ⟨.hbm, 468, rfl⟩
abbrev main_while0b_v344 : Ref sig .tc := ⟨.hbm, 469, rfl⟩
abbrev main_while0b_v345 : Ref sig .tc := ⟨.hbm, 470, rfl⟩
abbrev main_while0b_v346 : Ref sig .tc := ⟨.hbm, 471, rfl⟩
abbrev main_while0b_v347 : Ref sig .tc := ⟨.hbm, 472, rfl⟩
abbrev main_while0b_v348 : Ref sig .tc := ⟨.hbm, 473, rfl⟩
abbrev main_while0b_v349 : Ref sig .tc := ⟨.hbm, 474, rfl⟩
abbrev main_while0b_v350 : Ref sig .tc := ⟨.hbm, 475, rfl⟩
abbrev main_while0b_v351 : Ref sig .tc := ⟨.hbm, 476, rfl⟩
abbrev main_while0b_v352 : Ref sig .tc := ⟨.hbm, 477, rfl⟩
abbrev main_while0b_v353 : Ref sig .tc := ⟨.hbm, 478, rfl⟩
abbrev main_while0b_v354 : Ref sig .tc := ⟨.hbm, 479, rfl⟩
abbrev main_while0b_call12_v0 : Ref sig .tc := ⟨.hbm, 480, rfl⟩
abbrev main_while0b_call12_v1 : Ref sig .tc := ⟨.hbm, 481, rfl⟩
abbrev main_while0b_call12_cst : Ref sig .tc := ⟨.hbm, 482, rfl⟩
abbrev main_while0b_call12_v2 : Ref sig .tc := ⟨.hbm, 483, rfl⟩
abbrev main_while0b_call12_v3 : Ref sig .tc := ⟨.hbm, 484, rfl⟩
abbrev main_while0b_call12_cst_0 : Ref sig .tc := ⟨.hbm, 485, rfl⟩
abbrev main_while0b_call12_v4 : Ref sig .tc := ⟨.hbm, 486, rfl⟩
abbrev main_while0b_call12_v5 : Ref sig .tc := ⟨.hbm, 487, rfl⟩
abbrev main_while0b_v355 : Ref sig .tc := ⟨.hbm, 488, rfl⟩
abbrev main_while0b_v356 : Ref sig .tc := ⟨.hbm, 489, rfl⟩
abbrev main_while0b_v357 : Ref sig .tc := ⟨.hbm, 490, rfl⟩
abbrev main_while0b_v358 : Ref sig .tc := ⟨.hbm, 491, rfl⟩
abbrev main_while0b_v359 : Ref sig .tc := ⟨.hbm, 492, rfl⟩
abbrev main_while0b_call13_v0 : Ref sig .tc := ⟨.hbm, 493, rfl⟩
abbrev main_while0b_call13_c : Ref sig .tc := ⟨.hbm, 494, rfl⟩
abbrev main_while0b_call13_c_0 : Ref sig .tc := ⟨.hbm, 495, rfl⟩
abbrev main_while0b_call13_c_1 : Ref sig .tc := ⟨.hbm, 496, rfl⟩
abbrev main_while0b_call13_c_2 : Ref sig .tc := ⟨.hbm, 497, rfl⟩
abbrev main_while0b_v360 : Ref sig .tc := ⟨.hbm, 498, rfl⟩
abbrev main_while0b_call14_v0 : Ref sig .tc := ⟨.hbm, 499, rfl⟩
abbrev main_while0b_call14_c : Ref sig .tc := ⟨.hbm, 500, rfl⟩
abbrev main_while0b_call14_c_0 : Ref sig .tc := ⟨.hbm, 501, rfl⟩
abbrev main_while0b_call14_c_1 : Ref sig .tc := ⟨.hbm, 502, rfl⟩
abbrev main_while0b_call14_c_2 : Ref sig .tc := ⟨.hbm, 503, rfl⟩
abbrev main_while0b_v361 : Ref sig .tc := ⟨.hbm, 504, rfl⟩
abbrev main_while0b_call15_v0 : Ref sig .tc := ⟨.hbm, 505, rfl⟩
abbrev main_while0b_call15_c : Ref sig .tc := ⟨.hbm, 506, rfl⟩
abbrev main_while0b_call15_c_0 : Ref sig .tc := ⟨.hbm, 507, rfl⟩
abbrev main_while0b_call15_c_1 : Ref sig .tc := ⟨.hbm, 508, rfl⟩
abbrev main_while0b_call15_c_2 : Ref sig .tc := ⟨.hbm, 509, rfl⟩
abbrev main_while0b_v362 : Ref sig .tc := ⟨.hbm, 510, rfl⟩
abbrev main_while0b_call16_v0 : Ref sig .tc := ⟨.hbm, 511, rfl⟩
abbrev main_while0b_call16_c : Ref sig .tc := ⟨.hbm, 512, rfl⟩
abbrev main_while0b_call16_c_0 : Ref sig .tc := ⟨.hbm, 513, rfl⟩
abbrev main_while0b_call16_c_1 : Ref sig .tc := ⟨.hbm, 514, rfl⟩
abbrev main_while0b_call16_c_2 : Ref sig .tc := ⟨.hbm, 515, rfl⟩
abbrev main_while0b_v363 : Ref sig .tc := ⟨.hbm, 516, rfl⟩
abbrev main_while0b_call17_v0 : Ref sig .tc := ⟨.hbm, 517, rfl⟩
abbrev main_while0b_call17_c : Ref sig .tc := ⟨.hbm, 518, rfl⟩
abbrev main_while0b_call17_c_0 : Ref sig .tc := ⟨.hbm, 519, rfl⟩
abbrev main_while0b_call17_c_1 : Ref sig .tc := ⟨.hbm, 520, rfl⟩
abbrev main_while0b_call17_c_2 : Ref sig .tc := ⟨.hbm, 521, rfl⟩
abbrev main_while0b_v364 : Ref sig .tc := ⟨.hbm, 522, rfl⟩
abbrev main_while0b_c_91 : Ref sig .tc := ⟨.hbm, 523, rfl⟩
abbrev main_while0b_v365 : Ref sig .tc := ⟨.hbm, 524, rfl⟩
abbrev main_v42 : Ref sig .tc := ⟨.hbm, 525, rfl⟩
abbrev main_v43 : Ref sig .tc := ⟨.hbm, 526, rfl⟩
abbrev main_v44 : Ref sig .tc := ⟨.hbm, 527, rfl⟩
abbrev main_v45 : Ref sig .tc := ⟨.hbm, 528, rfl⟩
abbrev main_v46 : Ref sig .tc := ⟨.hbm, 529, rfl⟩
abbrev main_v47 : Ref sig .tc := ⟨.hbm, 530, rfl⟩
abbrev main_v48 : Ref sig .tc := ⟨.hbm, 531, rfl⟩
abbrev main_v49 : Ref sig .tc := ⟨.hbm, 532, rfl⟩
abbrev main_v50 : Ref sig .tc := ⟨.hbm, 533, rfl⟩
abbrev main_v51 : Ref sig .tc := ⟨.hbm, 534, rfl⟩
abbrev main_v52 : Ref sig .tc := ⟨.hbm, 535, rfl⟩
abbrev main_v53 : Ref sig .tc := ⟨.hbm, 536, rfl⟩
abbrev main_v54 : Ref sig .tc := ⟨.hbm, 537, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

def κ : String → Option EReal := fun
  | "a2" => some ((815327732025 / 68719476736 : ℝ) : EReal)
  | "a3" => some ((736204252270633875 / 18014398509481984 : ℝ) : EReal)
  | _ => none

abbrev main_while0_count : Scf.Loop 32 := ⟨0#32, 3#32, 1#32⟩

abbrev grid0 : Pipeline.Grid := .none

abbrev stage0_0 : Fin 1 → Memref sig .tc .vmem S2x896x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.BodyK.lean ====
/- The kernel's body as memory operations around one pure value, the normalisation. -/
module

public import proofs.«01_k».proof.Proof.Gen.Kernel.Skeleton

@[expose] public section

set_option synthInstance.maxSize 4096
set_option maxRecDepth 65536

noncomputable section

namespace Cert.Kernel.Run

open Idealize.ShloMosaic Idealize.SL.Sem Cert.Kernel Cert.Kernel.Gen

variable {F : FTy → Type} [FloatOps F]

/-- What the first half of the normalisation leaves for the second: the iterates and their limbs. -/
structure Half (F : FTy → Type) where
  v732 : FVec F S256x640 .f32
  v745 : FVec F S256x640 .f32
  v758 : FVec F S256x640 .f32
  v759 : FVec F S256x640 .bf16
  v762 : FVec F S256x640 .bf16
  v765 : FVec F S256x640 .bf16
  v766 : FVec F S256x640 .bf16
  v769 : FVec F S256x640 .bf16
  v772 : FVec F S256x640 .bf16

/-- What the normalisation leaves for the end of the body. -/
structure Norm (F : FTy → Type) where
  v745 : FVec F S256x640 .f32
  v758 : FVec F S256x640 .f32
  v766 : FVec F S256x640 .bf16
  v769 : FVec F S256x640 .bf16
  v772 : FVec F S256x640 .bf16
  v773 : FVec F S256x640 .bf16
  v776 : FVec F S256x640 .bf16
  v779 : FVec F S256x640 .bf16
  v1103 : FVec F S256x256 .f32
  v1109 : FVec F S256x256 .f32
  v1111 : FVec F S256x640 .f32
  v1121 : FVec F S256x640 .f32

/-- The first three steps of the normalisation, from the three gradients. -/
noncomputable def half (v117 v118 v119 : FVec F S256x640 .f32) (v121 : FVec F S1x256x640 .f32) : Half F :=
  let v129 : FVec F S256x640 .f32 := k0_pay35 v117 v121
  let v139 : FVec F S256x640 .f32 := k0_pay36 v118
  let v149 : FVec F S256x640 .f32 := k0_pay37 v119
  let v150 : FVec F S256x640 .bf16 := k0_pay38 v117 v121
  let v153 : FVec F S256x640 .bf16 := k0_pay40 v117 v121
  let v156 : FVec F S256x640 .bf16 := k0_pay41 v117 v121
  let v157 : FVec F S256x640 .bf16 := k0_pay42 v118
  let v160 : FVec F S256x640 .bf16 := k0_pay44 v118
  let v163 : FVec F S256x640 .bf16 := k0_pay45 v118
  let v164 : FVec F S256x640 .bf16 := k0_pay46 v119
  let v167 : FVec F S256x640 .bf16 := k0_pay48 v119
  let v170 : FVec F S256x640 .bf16 := k0_pay49 v119
  let v171 : FVec F S256x640 .bf16 := k0_pay50 (F := F)
  let v179 : FVec F S256x256 .f32 := k0_pay51 v150 v153 v156 v171
  let v188 : FVec F S256x256 .f32 := k0_pay52 v157 v160 v163
  let v197 : FVec F S256x256 .f32 := k0_pay53 v164 v167 v170
  let v198 : FVec F S256x256 .bf16 := k0_pay54 v150 v153 v156 v171
  let v201 : FVec F S256x256 .bf16 := k0_pay56 v150 v153 v156 v171
  let v204 : FVec F S256x256 .bf16 := k0_pay57 v150 v153 v156 v171
  let v205 : FVec F S256x256 .bf16 := k0_pay58 v157 v160 v163
  let v208 : FVec F S256x256 .bf16 := k0_pay60 v157 v160 v163
  let v211 : FVec F S256x256 .bf16 := k0_pay61 v157 v160 v163
  let v212 : FVec F S256x256 .bf16 := k0_pay62 v164 v167 v170
  let v215 : FVec F S256x256 .bf16 := k0_pay64 v164 v167 v170
  let v218 : FVec F S256x256 .bf16 := k0_pay65 v164 v167 v170
  let v220 : FVec F S256x256 .bf16 := k0_pay66 v150 v153 v156 v171
  let v221 : FVec F S256x256 .bf16 := k0_pay67 (F := F)
  let v250 : FVec F S256x256 .f32 := k0_pay68 v179 v198 v201 v204 v220 v221
  let v255 : FVec F S256x256 .f32 := k0_pay69 v188 v205 v208 v211
  let v260 : FVec F S256x256 .f32 := k0_pay70 v197 v212 v215 v218
  let v261 : FVec F S256x256 .bf16 := k0_pay71 v179 v198 v201 v204 v220 v221
  let v264 : FVec F S256x256 .bf16 := k0_pay73 v179 v198 v201 v204 v220 v221
  let v267 : FVec F S256x256 .bf16 := k0_pay74 v179 v198 v201 v204 v220 v221
  let v268 : FVec F S256x256 .bf16 := k0_pay75 v188 v205 v208 v211
  let v299 : FVec F S256x256 .f32 := k0_pay76 v255 v268
  let v308 : FVec F S256x256 .f32 := k0_pay77 v260
  let v312 : FVec F S256x256 .bf16 := k0_pay79 v250 v261 v264 v267
  let v315 : FVec F S256x256 .bf16 := k0_pay81 v250 v261 v264 v267
  let v318 : FVec F S256x256 .bf16 := k0_pay82 v250 v261 v264 v267
  let v360 : FVec F S256x256 .f32 := k0_pay83 v179 v198 v201 v204 v312 v315 v318
  let v364 : FVec F S256x256 .f32 := k0_pay84 v188 v205 v208 v211 v255 v299
  let v366 : FVec F S256x256 .f32 := k0_pay85 v197 v212 v215 v218 v260 v308
  let v367 : FVec F S256x256 .f32 := k0_pay86 (F := F)
  let v368 : FVec F S256x256 .f32 := k0_pay87 v366 v367
  let v369 : FVec F S256x256 .bf16 := k0_pay88 v360
  let v372 : FVec F S256x256 .bf16 := k0_pay90 v360
  let v375 : FVec F S256x256 .bf16 := k0_pay91 v360
  let v376 : FVec F S256x256 .bf16 := k0_pay92 v364
  let v379 : FVec F S256x256 .bf16 := k0_pay94 v364
  let v382 : FVec F S256x256 .bf16 := k0_pay95 v364
  let v383 : FVec F S256x256 .bf16 := k0_pay96 v366 v367
  let v386 : FVec F S256x256 .bf16 := k0_pay98 v366 v367
  let v389 : FVec F S256x256 .bf16 := k0_pay99 v366 v367
  let v398 : FVec F S256x256 .f32 := k0_pay100 v360
  let v407 : FVec F S256x256 .f32 := k0_pay101 v364
  let v416 : FVec F S256x256 .f32 := k0_pay102 v366 v367
  let v417 : FVec F S256x256 .f32 := k0_pay103 (F := F)
  let v421 : FVec F S256x256 .f32 := k0_pay104 v360 v398 v417
  let v426 : FVec F S256x256 .f32 := k0_pay105 v364 v407
  let v431 : FVec F S256x256 .f32 := k0_pay106 v368 v416
  let v432 : FVec F S256x256 .bf16 := k0_pay107 v360 v398 v417
  let v435 : FVec F S256x256 .bf16 := k0_pay109 v360 v398 v417
  let v438 : FVec F S256x256 .bf16 := k0_pay110 v360 v398 v417
  let v439 : FVec F S256x256 .bf16 := k0_pay111 v364 v407
  let v442 : FVec F S256x256 .bf16 := k0_pay113 v364 v407
  let v445 : FVec F S256x256 .bf16 := k0_pay114 v364 v407
  let v446 : FVec F S256x256 .bf16 := k0_pay115 v368 v416
  let v449 : FVec F S256x256 .bf16 := k0_pay117 v368 v416
  let v452 : FVec F S256x256 .bf16 := k0_pay118 v368 v416
  let v462 : FVec F S256x256 .f32 := k0_pay119 v250 v360 v398 v417
  let v470 : FVec F S256x1536 .bf16 := k0_pay120 v364 v407
  let v471 : FVec F S1536x256 .bf16 := k0_pay121 v255
  let v488 : FVec F S256x256 .f32 := k0_pay122 v250 v421 v462
  let v494 : FVec F S256x256 .f32 := k0_pay123 v255 v426 v470 v471
  let v500 : FVec F S256x256 .f32 := k0_pay124 v260 v431 v446 v449 v452
  let v509 : FVec F S256x256 .f32 := k0_pay125 v432 v435 v438
  let v516 : FVec F S256x256 .f32 := k0_pay126 v439 v442 v445
  let v517 : FVec F S256x256 .f32 := k0_pay127 v439 v442 v445
  let cst_141 : FVec F S256x256 .f32 := constant S256x256 .f32 0x00000000#32
  let v551 : FVec F S256x256 .bf16 := k0_pay129 v431 v446 v449 v452
  let v554 : FVec F S256x256 .bf16 := k0_pay131 v431 v446 v449 v452
  let v557 : FVec F S256x256 .bf16 := k0_pay132 v431 v446 v449 v452
  let v563 : FVec F S256x256 .f32 := k0_pay133 v360 v369 v372 v375 v421 v509
  let v565 : FVec F S256x256 .f32 := k0_pay134 v364
  let v566 : FVec F S256x1536 .bf16 := k0_pay135 v376 v379 v382
  let v567 : FVec F S1536x256 .bf16 := k0_pay136 v426 v516 v517
  let v579 : FVec F S256x256 .f32 := k0_pay137 v563
  let v583 : FVec F S256x256 .f32 := k0_pay138 v565 v566 v567 cst_141
  let v587 : FVec F S256x256 .f32 := k0_pay139 v368 v383 v386 v389 v551 v554 v557
  let v595 : FVec F S256x256 .bf16 := k0_pay140 v565 v566 v567 cst_141
  let v598 : FVec F S256x256 .bf16 := k0_pay142 v565 v566 v567 cst_141
  let v601 : FVec F S256x256 .bf16 := k0_pay143 v565 v566 v567 cst_141
  let v602 : FVec F S256x256 .bf16 := k0_pay144 v368 v383 v386 v389 v551 v554 v557
  let v605 : FVec F S256x256 .bf16 := k0_pay146 v368 v383 v386 v389 v551 v554 v557
  let v608 : FVec F S256x256 .bf16 := k0_pay147 v368 v383 v386 v389 v551 v554 v557
  let v617 : FVec F S256x256 .f32 := k0_pay148 v563
  let v618 : FVec F S256x256 .bf16 := k0_pay149 (F := F)
  let v640 : FVec F S256x256 .f32 := k0_pay150 v579 v617
  let v645 : FVec F S256x256 .f32 := k0_pay151 v583 v595 v598 v601 v618
  let v650 : FVec F S256x256 .f32 := k0_pay152 v587 v602 v605 v608
  let v651 : FVec F S256x256 .bf16 := k0_pay153 v579 v617
  let v654 : FVec F S256x256 .bf16 := k0_pay155 v579 v617
  let v657 : FVec F S256x256 .bf16 := k0_pay156 v579 v617
  let v658 : FVec F S256x256 .bf16 := k0_pay157 v583 v595 v598 v601 v618
  let v661 : FVec F S256x256 .bf16 := k0_pay159 v583 v595 v598 v601 v618
  let v664 : FVec F S256x256 .bf16 := k0_pay160 v583 v595 v598 v601 v618
  let v665 : FVec F S256x256 .bf16 := k0_pay161 v587 v602 v605 v608
  let v667 : FVec F S256x256 .f32 := k0_pay162 v587 v602 v605 v608
  let v701 : FVec F S256x256 .f32 := k0_pay163 v500 v665 v667
  let v707 : FVec F S256x256 .f32 := k0_pay164 v488 v640 v651 v654 v657
  let v713 : FVec F S256x256 .f32 := k0_pay165 v494 v645 v658 v661 v664
  let v718 : FVec F S256x256 .f32 := k0_pay166 v500 v650
  let v732 : FVec F S256x640 .f32 := k0_pay167 v129 v150 v153 v156 v707
  let v745 : FVec F S256x640 .f32 := k0_pay168 v139 v157 v160 v163 v713
  let v758 : FVec F S256x640 .f32 := k0_pay169 v149 v164 v167 v170 v701 v718
  let v759 : FVec F S256x640 .bf16 := k0_pay170 v129 v150 v153 v156 v707
  let v762 : FVec F S256x640 .bf16 := k0_pay172 v129 v150 v153 v156 v707
  let v765 : FVec F S256x640 .bf16 := k0_pay173 v129 v150 v153 v156 v707
  let v766 : FVec F S256x640 .bf16 := k0_pay174 v139 v157 v160 v163 v713
  let v769 : FVec F S256x640 .bf16 := k0_pay176 v139 v157 v160 v163 v713
  let v772 : FVec F S256x640 .bf16 := k0_pay177 v139 v157 v160 v163 v713
  ⟨v732, v745, v758, v759, v762, v765, v766, v769, v772⟩

/-- The last two steps of the normalisation. -/
noncomputable def norm (m : Half F) : Norm F :=
  let v732 := m.v732
  let v745 := m.v745
  let v758 := m.v758
  let v759 := m.v759
  let v762 := m.v762
  let v765 := m.v765
  let v766 := m.v766
  let v769 := m.v769
  let v772 := m.v772
  let v773 : FVec F S256x640 .bf16 := k0_pay178 v758
  let v776 : FVec F S256x640 .bf16 := k0_pay180 v758
  let v779 : FVec F S256x640 .bf16 := k0_pay181 v758
  let v788 : FVec F S256x256 .f32 := k0_pay182 v759 v762 v765
  let v797 : FVec F S256x256 .f32 := k0_pay183 v766 v769 v772
  let v806 : FVec F S256x256 .f32 := k0_pay184 v758
  let v807 : FVec F S256x256 .bf16 := k0_pay185 v759 v762 v765
  let v810 : FVec F S256x256 .bf16 := k0_pay187 v759 v762 v765
  let v813 : FVec F S256x256 .bf16 := k0_pay188 v759 v762 v765
  let v814 : FVec F S256x256 .bf16 := k0_pay189 v766 v769 v772
  let v817 : FVec F S256x256 .bf16 := k0_pay191 v766 v769 v772
  let v820 : FVec F S256x256 .bf16 := k0_pay192 v766 v769 v772
  let v821 : FVec F S256x256 .bf16 := k0_pay193 v758
  let v823 : FVec F S256x256 .f32 := k0_pay194 v758
  let v824 : FVec F S256x256 .bf16 := k0_pay195 v823
  let v827 : FVec F S256x256 .bf16 := k0_pay196 v823
  let v859 : FVec F S256x256 .f32 := k0_pay197 v788 v807 v810 v813
  let v864 : FVec F S256x256 .f32 := k0_pay198 v797 v814 v817 v820
  let v866 : FVec F S256x256 .f32 := k0_pay199 v806
  let v868 : FVec F S256x256 .f32 := k0_pay200 v821 v823
  let v869 : FVec F S256x256 .f32 := k0_pay201 v866 v868
  let v899 : FVec F S256x256 .f32 := k0_pay202 v859
  let v908 : FVec F S256x256 .f32 := k0_pay203 v864
  let v917 : FVec F S256x256 .f32 := k0_pay204 v866 v868
  let v918 : FVec F S256x256 .f32 := k0_pay205 (F := F)
  let v959 : FVec F S256x256 .f32 := k0_pay206 v797 v814 v817 v820 v864 v908
  let v965 : FVec F S256x256 .f32 := k0_pay207 v806 v821 v824 v827 v869 v917
  let v969 : FVec F S256x256 .f32 := k0_pay208 v788 v807 v810 v813 v859 v899 v918
  let v973 : FVec F S256x256 .f32 := k0_pay209 v959
  let v977 : FVec F S256x256 .f32 := k0_pay210 v965
  let v992 : FVec F S256x256 .bf16 := k0_pay211 v965
  let v995 : FVec F S256x256 .bf16 := k0_pay213 v965
  let v998 : FVec F S256x256 .bf16 := k0_pay214 v965
  let v1007 : FVec F S256x256 .f32 := k0_pay215 v969
  let v1016 : FVec F S256x256 .f32 := k0_pay216 v959
  let v1018 : FVec F S256x256 .bf16 := k0_pay217 v965
  let v1019 : FVec F S256x256 .bf16 := k0_pay218 (F := F)
  let v1030 : FVec F S256x256 .f32 := k0_pay219 v969 v1007
  let v1035 : FVec F S256x256 .f32 := k0_pay220 v973 v1016
  let v1040 : FVec F S256x256 .f32 := k0_pay221 v977 v992 v995 v998 v1018 v1019
  let v1048 : FVec F S256x256 .bf16 := k0_pay222 v973 v1016
  let v1051 : FVec F S256x256 .bf16 := k0_pay224 v973 v1016
  let v1054 : FVec F S256x256 .bf16 := k0_pay225 v973 v1016
  let v1055 : FVec F S256x256 .bf16 := k0_pay226 v977 v992 v995 v998 v1018 v1019
  let v1058 : FVec F S256x256 .bf16 := k0_pay228 v977 v992 v995 v998 v1018 v1019
  let v1061 : FVec F S256x256 .bf16 := k0_pay229 v977 v992 v995 v998 v1018 v1019
  let v1071 : FVec F S256x256 .f32 := k0_pay230 v859 v969 v1007
  let v1103 : FVec F S256x256 .f32 := k0_pay231 v864 v1035 v1048 v1051 v1054
  let v1109 : FVec F S256x256 .f32 := k0_pay232 v869 v1040 v1055 v1058 v1061
  let v1111 : FVec F S256x640 .f32 := k0_pay233 v732
  let v1121 : FVec F S256x640 .f32 := k0_pay234 v759 v762 v765 v859 v1030 v1071
  ⟨v745, v758, v766, v769, v772, v773, v776, v779, v1103, v1109, v1111, v1121⟩

/-- The body with its middle, the normalisation, as one value. -/
noncomputable def body (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) :
    Prog (TpuEff nD τ sig (Elt F) Λ₀ .tc) PUnit := do
  let ⟨arg2, v7, v18, v29, v31, v36, v37⟩ ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25
  let ⟨v40, v48, v56, v63, v68, v73, v76, cst_33⟩ ← k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 v18 v31 v36 v37
  let ⟨v117, v118, v119, v121⟩ ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v18 v29 v48 v63 v68 v73 v76 cst_33
  let m := norm (half v117 v118 v119 v121)
  let ⟨v1148, v1163, v1165⟩ ← k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 m.v745 m.v758 m.v766 m.v769 m.v772 m.v773 m.v776 m.v779 m.v1103 m.v1109 m.v1111 m.v1121
  let ⟨v1175, v1187, v1203⟩ ← k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v40 v56 v1148 v1163 v1165
  let v1219 : Vec F S1x384x256 .bf16 ← Prog.lift (.load arg12 (Rect.unit (s := S1x384x256) ![0, 0, 0] S1x384x256.size inb_S1x384x256_S1x384x256_0_0_0).toLoadRect (View.loadsAt_vmem h_S1x384x256))

  Prog.lift (.store arg12 (Rect.unit (s := S1x384x256) ![0, 0, 0] S1x384x256.size inb_S1x384x256_S1x384x256_0_0_0) (k0_pay1 v40 v56 v1175 v1187 v1203) Finset.univ (View.stores_vmem h_S1x384x256 (harg12.storeExact_slice rfl _ packedbf16_S1x384x256_S1x384x256_0_0_0) (fun _ => rfl)) (.inl rfl))
  pure ⟨⟩

/-- The printed body is that. -/
theorem body_eq : cc0_lact (F := F) = body (F := F) := rfl

end Cert.Kernel.Run

end
-- ==== Proof.SoundK.lean ====
/-
  The body of the kernel does what the pure functions say: one lemma for each stretch of its operations, and the
  whole body put together.
-/
module

public import proofs.«01_k».proof.Proof.BodyK
public import proofs.«01_k».proof.Proof.Gen.Kernel.Frame
public import Idealize.ShloMosaic.Lib.Tactic
public import Idealize.ShloMosaic.Lib.Pipeline.Frame
public import Idealize.ShloMosaic.Lib.VecWindow

@[expose] public section

set_option synthInstance.maxSize 4096
set_option maxRecDepth 65536

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch buffers' contents: the three weight matrices and the norms of their lines. -/
structure Scr (F : FTy → Type) where
  w1 : Vec F S256x640 .f32
  w3 : Vec F S256x640 .f32
  w2 : Vec F S256x640 .f32
  n1 : Vec F S1x640 .f32
  n3 : Vec F S1x640 .f32
  n2 : Vec F S256x1 .f32

/-- The blocks of a chunk the body reads: codes and scales of the queries and of the keys, the values, the rates. -/
structure Blocks (F : FTy → Type) where
  q : Vec F S1x384x256 .fp8e4m3
  qs : Vec F S1x384x12 .f32
  k : Vec F S1x384x256 .fp8e4m3
  ks : Vec F S1x384x12 .f32
  v : Vec F S1x384x256 .bf16
  lr : Vec F S1x384x12 .f32

/-- The scratch as the first chunk of a sequence fills it from the three weights. -/
noncomputable def fresh (x9 x10 : Vec F S1x640x256 .f32) (x11 : Vec F S1x256x640 .f32) : Scr F :=
  ⟨k0_pay5 x9, k0_pay6 x10, k0_pay7 x11, k0_pay8 x9, k0_pay9 x10, k0_pay11 (k0_pay10 x11)⟩

/-- The scratch as the chunk uses it: filled anew at the first chunk, else as the chunk before left it. -/
noncomputable def begin (i : grid0.Coords) (x9 x10 : Vec F S1x640x256 .f32) (x11 : Vec F S1x256x640 .f32) (s : Scr F) : Scr F :=
  if k0_cond2 i = 1#1 then fresh x9 x10 x11 else s

/-- The key scales, the rates and the query scales of the head, and the masked keys, queries and values. -/
noncomputable def vks (i : grid0.Coords) (x : Blocks F) : FVec F S384x1 .f32 := k0_pay13 i x.ks
noncomputable def vlr (i : grid0.Coords) (x : Blocks F) : FVec F S384x1 .f32 := k0_pay14 i x.lr
noncomputable def vqs (i : grid0.Coords) (x : Blocks F) : FVec F S384x1 .f32 := k0_pay18 (k0_pay15 x.qs) (k0_pay16 i) (k0_pay17 (F := F))
noncomputable def vk (i : grid0.Coords) (x : Blocks F) : FVec F S384x256 .bf16 := k0_pay19 (k0_pay12 i) x.k
noncomputable def vq (i : grid0.Coords) (x : Blocks F) : FVec F S384x256 .bf16 := k0_pay20 (k0_pay12 i) x.q
noncomputable def vv (i : grid0.Coords) (x : Blocks F) : FVec F S384x256 .f32 := k0_pay21 (k0_pay12 i) x.v
/-- The two hidden layers, and the exponential of the first one's opposite. -/
noncomputable def h1 (i : grid0.Coords) (x : Blocks F) (s : Scr F) : FVec F S384x640 .f32 := k0_pay22 (k0_pay12 i) (vks i x) x.k s.w1
noncomputable def h3 (i : grid0.Coords) (x : Blocks F) (s : Scr F) : FVec F S384x640 .f32 := k0_pay23 (k0_pay12 i) (vks i x) x.k s.w3
noncomputable def ex (i : grid0.Coords) (x : Blocks F) (s : Scr F) : FVec F S384x640 .f32 := k0_pay24 (k0_pay12 i) (vks i x) x.k s.w1
/-- The constant one. -/
noncomputable def one : F .f32 := Scalar.ofBits .f32 0x3F800000#32
/-- The gated hidden layer, as it is stored. -/
noncomputable def gOf (i : grid0.Coords) (x : Blocks F) (s : Scr F) : FVec F S1x384x640 .bf16 := k0_pay28 (h1 i x s) (h3 i x s) (ex i x s) one
/-- The three gradients, and the first one's square. -/
noncomputable def g1 (i : grid0.Coords) (x : Blocks F) (s : Scr F) : FVec F S256x640 .f32 :=
  k0_pay31 (vks i x) (vlr i x) (vk i x) (vv i x) (h1 i x s) (h3 i x s) (ex i x s) one s.w2
noncomputable def g3 (i : grid0.Coords) (x : Blocks F) (s : Scr F) : FVec F S256x640 .f32 :=
  k0_pay32 (vks i x) (vlr i x) (vk i x) (vv i x) (h1 i x s) (ex i x s) one s.w2
noncomputable def g2 (i : grid0.Coords) (x : Blocks F) (s : Scr F) : FVec F S256x640 .f32 :=
  k0_pay33 (vlr i x) (vv i x) (h1 i x s) (h3 i x s) (ex i x s) one
noncomputable def sq1 (i : grid0.Coords) (x : Blocks F) (s : Scr F) : FVec F S1x256x640 .f32 :=
  k0_pay34 (vks i x) (vlr i x) (vk i x) (vv i x) (h1 i x s) (h3 i x s) (ex i x s) one s.w2
/-- The normalisation of the chunk's gradients. -/
noncomputable def nrm (i : grid0.Coords) (x : Blocks F) (s : Scr F) : Norm F := norm (half (g1 i x s) (g3 i x s) (g2 i x s) (sq1 i x s))
/-- The three updates as they are stored. -/
noncomputable def u1Of (n : Norm F) : FVec F S1x1x640x256 .f32 := k0_pay238 n.v1111 n.v1121
noncomputable def u3Of (n : Norm F) : FVec F S1x1x640x256 .f32 := k0_pay239 n.v745 n.v766 n.v769 n.v772 n.v1103
noncomputable def u2Of (n : Norm F) : FVec F S1x1x256x640 .f32 := k0_pay240 n.v758 n.v773 n.v776 n.v779 n.v1109
/-- The second update; the first weights renormalised; the third weights less their update. -/
noncomputable def u2 (n : Norm F) : FVec F S256x640 .f32 := k0_pay237 n.v758 n.v773 n.v776 n.v779 n.v1109
noncomputable def m1 (n : Norm F) (s : Scr F) : FVec F S256x640 .f32 := k0_pay241 n.v1111 n.v1121 s.w1 s.n1
noncomputable def d3 (n : Norm F) (s : Scr F) : FVec F S256x640 .f32 := k0_pay242 n.v745 n.v766 n.v769 n.v772 n.v1103 s.w3
/-- The scratch after the chunk. -/
noncomputable def next (n : Norm F) (s : Scr F) : Scr F :=
  ⟨k0_pay245 (m1 n s), k0_pay246 (d3 n s) s.n3, k0_pay247 (u2 n) s.w2 s.n2, s.n1, s.n3, s.n2⟩
/-- The three weights as the last chunk stores them. -/
noncomputable def w1Of (n : Norm F) (s : Scr F) : FVec F S1x1x640x256 .f32 := k0_pay248 (m1 n s)
noncomputable def w3Of (n : Norm F) (s : Scr F) : FVec F S1x1x640x256 .f32 := k0_pay249 (d3 n s) s.n3
noncomputable def w2Of (n : Norm F) (s : Scr F) : FVec F S1x1x256x640 .f32 := k0_pay250 (u2 n) s.w2 s.n2
/-- The chunk's result, as it is stored. -/
noncomputable def yOf (i : grid0.Coords) (x : Blocks F) (n : Norm F) (s : Scr F) : FVec F S1x384x256 .bf16 :=
  k0_pay1 (vqs i x) (vq i x) (k0_pay243 (d3 n s) s.n3) (k0_pay244 (u2 n) s.w2 s.n2) (k0_pay251 (vqs i x) (vq i x) (m1 n s))

/-- What the body is called with: every buffer owned at some contents. -/
def pre (c : Dev nD) (arg3 : Memref sig .tc .vmem S1x384x256 .fp8e4m3) (arg4 : Memref sig .tc .vmem S1x384x12 .f32) (arg5 : Memref sig .tc .vmem S1x384x256 .fp8e4m3) (arg6 : Memref sig .tc .vmem S1x384x12 .f32) (arg7 : Memref sig .tc .vmem S1x384x256 .bf16) (arg8 : Memref sig .tc .vmem S1x384x12 .f32) (arg9 : Memref sig .tc .vmem S1x640x256 .f32) (arg10 : Memref sig .tc .vmem S1x640x256 .f32) (arg11 : Memref sig .tc .vmem S1x256x640 .f32) (arg12 : Memref sig .tc .vmem S1x384x256 .bf16) (arg13 : Memref sig .tc .vmem S1x384x640 .bf16) (arg14 : Memref sig .tc .vmem S1x1x640x256 .f32) (arg15 : Memref sig .tc .vmem S1x1x640x256 .f32) (arg16 : Memref sig .tc .vmem S1x1x256x640 .f32) (arg17 : Memref sig .tc .vmem S1x1x640x256 .f32) (arg18 : Memref sig .tc .vmem S1x1x640x256 .f32) (arg19 : Memref sig .tc .vmem S1x1x256x640 .f32) (arg20 : Memref sig .tc .vmem S256x640 .f32) (arg21 : Memref sig .tc .vmem S256x640 .f32) (arg22 : Memref sig .tc .vmem S256x640 .f32) (arg23 : Memref sig .tc .vmem S1x640 .f32) (arg24 : Memref sig .tc .vmem S1x640 .f32) (arg25 : Memref sig .tc .vmem S256x1 .f32)
    (X3 : Vec F S1x384x256 .fp8e4m3) (X4 : Vec F S1x384x12 .f32) (X5 : Vec F S1x384x256 .fp8e4m3) (X6 : Vec F S1x384x12 .f32) (X7 : Vec F S1x384x256 .bf16) (X8 : Vec F S1x384x12 .f32) (X9 : Vec F S1x640x256 .f32) (X10 : Vec F S1x640x256 .f32) (X11 : Vec F S1x256x640 .f32) (X12 : Vec F S1x384x256 .bf16) (X13 : Vec F S1x384x640 .bf16) (X14 : Vec F S1x1x640x256 .f32) (X15 : Vec F S1x1x640x256 .f32) (X16 : Vec F S1x1x256x640 .f32) (X17 : Vec F S1x1x640x256 .f32) (X18 : Vec F S1x1x640x256 .f32) (X19 : Vec F S1x1x256x640 .f32) (X20 : Vec F S256x640 .f32) (X21 : Vec F S256x640 .f32) (X22 : Vec F S256x640 .f32) (X23 : Vec F S1x640 .f32) (X24 : Vec F S1x640 .f32) (X25 : Vec F S256x1 .f32) : sProp 𝕄 :=
  iprop(owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ owns (c : Thread nD τ) arg22 fullShare X22
    ∗ owns (c : Thread nD τ) arg23 fullShare X23
    ∗ owns (c : Thread nD τ) arg24 fullShare X24
    ∗ owns (c : Thread nD τ) arg25 fullShare X25)

/-- What it returns with: the results at what the chunk computes, the scratch carried on, the rest as it was. -/
def post (c : Dev nD) (i : grid0.Coords) (arg3 : Memref sig .tc .vmem S1x384x256 .fp8e4m3) (arg4 : Memref sig .tc .vmem S1x384x12 .f32) (arg5 : Memref sig .tc .vmem S1x384x256 .fp8e4m3) (arg6 : Memref sig .tc .vmem S1x384x12 .f32) (arg7 : Memref sig .tc .vmem S1x384x256 .bf16) (arg8 : Memref sig .tc .vmem S1x384x12 .f32) (arg9 : Memref sig .tc .vmem S1x640x256 .f32) (arg10 : Memref sig .tc .vmem S1x640x256 .f32) (arg11 : Memref sig .tc .vmem S1x256x640 .f32) (arg12 : Memref sig .tc .vmem S1x384x256 .bf16) (arg13 : Memref sig .tc .vmem S1x384x640 .bf16) (arg14 : Memref sig .tc .vmem S1x1x640x256 .f32) (arg15 : Memref sig .tc .vmem S1x1x640x256 .f32) (arg16 : Memref sig .tc .vmem S1x1x256x640 .f32) (arg17 : Memref sig .tc .vmem S1x1x640x256 .f32) (arg18 : Memref sig .tc .vmem S1x1x640x256 .f32) (arg19 : Memref sig .tc .vmem S1x1x256x640 .f32) (arg20 : Memref sig .tc .vmem S256x640 .f32) (arg21 : Memref sig .tc .vmem S256x640 .f32) (arg22 : Memref sig .tc .vmem S256x640 .f32) (arg23 : Memref sig .tc .vmem S1x640 .f32) (arg24 : Memref sig .tc .vmem S1x640 .f32) (arg25 : Memref sig .tc .vmem S256x1 .f32)
    (X3 : Vec F S1x384x256 .fp8e4m3) (X4 : Vec F S1x384x12 .f32) (X5 : Vec F S1x384x256 .fp8e4m3) (X6 : Vec F S1x384x12 .f32) (X7 : Vec F S1x384x256 .bf16) (X8 : Vec F S1x384x12 .f32) (X9 : Vec F S1x640x256 .f32) (X10 : Vec F S1x640x256 .f32) (X11 : Vec F S1x256x640 .f32) (X12 : Vec F S1x384x256 .bf16) (X13 : Vec F S1x384x640 .bf16) (X14 : Vec F S1x1x640x256 .f32) (X15 : Vec F S1x1x640x256 .f32) (X16 : Vec F S1x1x256x640 .f32) (X17 : Vec F S1x1x640x256 .f32) (X18 : Vec F S1x1x640x256 .f32) (X19 : Vec F S1x1x256x640 .f32) (X20 : Vec F S256x640 .f32) (X21 : Vec F S256x640 .f32) (X22 : Vec F S256x640 .f32) (X23 : Vec F S1x640 .f32) (X24 : Vec F S1x640 .f32) (X25 : Vec F S256x1 .f32) : sProp 𝕄 :=
  let x : Blocks F := ⟨X3, X4, X5, X6, X7, X8⟩
  let s : Scr F := (begin i X9 X10 X11 ⟨X20, X21, X22, X23, X24, X25⟩)
  iprop(owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare (yOf i x (nrm i x s) s)
    ∗ owns (c : Thread nD τ) arg13 fullShare (gOf i x s)
    ∗ owns (c : Thread nD τ) arg14 fullShare (if k0_cond3 i = 1#1 then w1Of (nrm i x s) s else X14)
    ∗ owns (c : Thread nD τ) arg15 fullShare (if k0_cond3 i = 1#1 then w3Of (nrm i x s) s else X15)
    ∗ owns (c : Thread nD τ) arg16 fullShare (if k0_cond3 i = 1#1 then w2Of (nrm i x s) s else X16)
    ∗ owns (c : Thread nD τ) arg17 fullShare (if k0_cond2 i = 1#1 then u1Of (nrm i x s) else X17)
    ∗ owns (c : Thread nD τ) arg18 fullShare (if k0_cond2 i = 1#1 then u3Of (nrm i x s) else X18)
    ∗ owns (c : Thread nD τ) arg19 fullShare (if k0_cond2 i = 1#1 then u2Of (nrm i x s) else X19)
    ∗ owns (c : Thread nD τ) arg20 fullShare (next (nrm i x s) s).w1
    ∗ owns (c : Thread nD τ) arg21 fullShare (next (nrm i x s) s).w3
    ∗ owns (c : Thread nD τ) arg22 fullShare (next (nrm i x s) s).w2
    ∗ owns (c : Thread nD τ) arg23 fullShare (next (nrm i x s) s).n1
    ∗ owns (c : Thread nD τ) arg24 fullShare (next (nrm i x s) s).n3
    ∗ owns (c : Thread nD τ) arg25 fullShare (next (nrm i x s) s).n2)

/-- A load of a whole buffer gives its contents. -/
theorem ld (c : Dev nD) {s : Shape} {e : EltTy} {M : Memref sig .tc .vmem s e} (h : M.IsWhole) {off : Fin s.rank → ℕ}
    {inb : ∀ a, off a + s.size a ≤ s.size a} {hl : M.view.LoadsAt (Rect.unit off s.size inb).toLoadRect} (X : Vec F s e)
    {K : Vec F s e → sProp 𝕄} :
    iprop(owns (c : Thread nD τ) M fullShare X ∗ (owns (c : Thread nD τ) M fullShare X -∗ K X))
      ⊢ wp frame (wpE (defs₀ (F := F)) Variants.none c none) Set.univ
          (Prog.lift (.load M (Rect.unit off s.size inb).toLoadRect hl)) K := by
  unfold owns
  iintro ⟨⟨%f, %hf, H⟩, Hk⟩
  obtain rfl := h.eq_unread hf
  iapply (wp_load (defs := defs₀ (F := F)) Variants.none c none Set.univ (f := h.unread X) (S := M.view.set) (q := fullShare) (View.setOn_subset_set _ _)) $$ H
  iintro H
  iapply (Sem.le_wp_ret _ _ _ _ _)
  rw [View.readAt_full, h.read_unread]
  iapply Hk
  iexists _
  isplitr
  · ipureintro
    exact h.read_unread X
  iexact H

/-- A store of a whole buffer leaves what is stored. -/
theorem st (c : Dev nD) {s : Shape} {e : EltTy} {M : Memref sig .tc .vmem s e} (h : M.IsWhole) {off : Fin s.rank → ℕ}
    {inb : ∀ a, off a + s.size a ≤ s.size a} {w : Vec F s e}
    {hx : (M.access (Rect.unit off s.size inb)).Stores Finset.univ}
    {hm : Finset.univ = Finset.univ ∨ ∀ a, (Rect.unit off s.size inb).stride a = 1} (X : Vec F s e)
    {K : PUnit → sProp 𝕄} :
    iprop(owns (c : Thread nD τ) M fullShare X ∗ (owns (c : Thread nD τ) M fullShare w -∗ K ⟨⟩))
      ⊢ wp frame (wpE (defs₀ (F := F)) Variants.none c none) Set.univ
          (Prog.lift (.store M (Rect.unit off s.size inb) w Finset.univ hx hm)) K := by
  unfold owns
  iintro ⟨⟨%f, %hf, H⟩, Hk⟩
  iapply (wp_store_writes₀ (defs := defs₀ (F := F)) Variants.none c none Set.univ (m := M) (r := Rect.unit off s.size inb) (f := f) (w := w)
    (S := M.view.set) (View.set_slice_subset _ _)) $$ H
  iintro H
  iapply (Sem.le_wp_ret _ _ _ _ _)
  iapply Hk
  iexists _
  isplitr; swap
  · iexact H
  ipureintro
  exact View.read_writes_full M.view f inb w []

/-- A finished program meets what holds of its result. -/
theorem rt (c : Dev nD) {α : Type} (a : α) {K : α → sProp 𝕄} :
    K a ⊢ wp frame (wpE (defs₀ (F := F)) Variants.none c none) Set.univ (pure a) K :=
  Sem.le_wp_ret _ _ _ _ _

/-- A finished program, continued. -/
theorem pb {E : Type → Type 1} {α β : Type} (a : α) (k : α → Prog E β) : (pure a >>= k : Prog E β) = k a := rfl

set_option maxHeartbeats 1000000 in
/-- The start of a sequence: all but the last scratch buffer filled from the weights. -/
theorem part1_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole)
    (X9 : Vec F S1x640x256 .f32) (X10 : Vec F S1x640x256 .f32) (X11 : Vec F S1x256x640 .f32) (X20 : Vec F S256x640 .f32) (X21 : Vec F S256x640 .f32) (X22 : Vec F S256x640 .f32) (X23 : Vec F S1x640 .f32) (X24 : Vec F S1x640 .f32) (K : (FVec F S256 .f32) → sProp 𝕄) :
    iprop((owns (c : Thread nD τ) arg9 fullShare X9
      ∗ owns (c : Thread nD τ) arg10 fullShare X10
      ∗ owns (c : Thread nD τ) arg11 fullShare X11
      ∗ owns (c : Thread nD τ) arg20 fullShare X20
      ∗ owns (c : Thread nD τ) arg21 fullShare X21
      ∗ owns (c : Thread nD τ) arg22 fullShare X22
      ∗ owns (c : Thread nD τ) arg23 fullShare X23
      ∗ owns (c : Thread nD τ) arg24 fullShare X24)
      ∗ ((owns (c : Thread nD τ) arg9 fullShare X9
      ∗ owns (c : Thread nD τ) arg10 fullShare X10
      ∗ owns (c : Thread nD τ) arg11 fullShare X11
      ∗ owns (c : Thread nD τ) arg20 fullShare (k0_pay5 X9)
      ∗ owns (c : Thread nD τ) arg21 fullShare (k0_pay6 X10)
      ∗ owns (c : Thread nD τ) arg22 fullShare (k0_pay7 X11)
      ∗ owns (c : Thread nD τ) arg23 fullShare (k0_pay8 X9)
      ∗ owns (c : Thread nD τ) arg24 fullShare (k0_pay9 X10)) -∗ K (k0_pay10 X11)))
      ⊢ wp frame (wpE (defs₀ (F := F)) Variants.none c none) Set.univ (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 ) K := by
  rw [k0_part1_eq_skeleton]
  unfold k0_part1_skel
  try simp only [pb, Sem.wp_bind]
  iintro ⟨⟨H9, H10, H11, H20, H21, H22, H23, H24⟩, Hk⟩
  iapply (ld c harg9 _)
  isplitl [H9]
  · iexact H9
  iintro H9
  iapply (ld c harg10 _)
  isplitl [H10]
  · iexact H10
  iintro H10
  iapply (ld c harg11 _)
  isplitl [H11]
  · iexact H11
  iintro H11
  iapply (ld c harg20 _)
  isplitl [H20]
  · iexact H20
  iintro H20
  iapply (st c harg20 _)
  isplitl [H20]
  · iexact H20
  iintro H20
  iapply (ld c harg21 _)
  isplitl [H21]
  · iexact H21
  iintro H21
  iapply (st c harg21 _)
  isplitl [H21]
  · iexact H21
  iintro H21
  iapply (ld c harg22 _)
  isplitl [H22]
  · iexact H22
  iintro H22
  iapply (st c harg22 _)
  isplitl [H22]
  · iexact H22
  iintro H22
  iapply (ld c harg23 _)
  isplitl [H23]
  · iexact H23
  iintro H23
  iapply (st c harg23 _)
  isplitl [H23]
  · iexact H23
  iintro H23
  iapply (ld c harg24 _)
  isplitl [H24]
  · iexact H24
  iintro H24
  iapply (st c harg24 _)
  isplitl [H24]
  · iexact H24
  iintro H24
  iapply (rt c _)
  iapply Hk
  isplitl [H9]
  · iexact H9
  isplitl [H10]
  · iexact H10
  isplitl [H11]
  · iexact H11
  isplitl [H20]
  · iexact H20
  isplitl [H21]
  · iexact H21
  isplitl [H22]
  · iexact H22
  isplitl [H23]
  · iexact H23
  iexact H24

set_option maxHeartbeats 1000000 in
/-- The scratch filled at the start of a sequence, the rates and the scales loaded. -/
theorem part2_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole)
    (X4 : Vec F S1x384x12 .f32) (X6 : Vec F S1x384x12 .f32) (X8 : Vec F S1x384x12 .f32) (X9 : Vec F S1x640x256 .f32) (X10 : Vec F S1x640x256 .f32) (X11 : Vec F S1x256x640 .f32) (X20 : Vec F S256x640 .f32) (X21 : Vec F S256x640 .f32) (X22 : Vec F S256x640 .f32) (X23 : Vec F S1x640 .f32) (X24 : Vec F S1x640 .f32) (X25 : Vec F S256x1 .f32) (K : (Σ' (arg2 : BitVec 32) (v7 : IVec S384x1 1) (v18 : FVec F S384x1 .f32) (v29 : FVec F S384x1 .f32) (v31 : FVec F S384x12 .f32) (v36 : IVec S384x12 1), FVec F S384x12 .f32) → sProp 𝕄) :
    iprop((owns (c : Thread nD τ) arg4 fullShare X4
      ∗ owns (c : Thread nD τ) arg6 fullShare X6
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg20 fullShare X20
      ∗ owns (c : Thread nD τ) arg21 fullShare X21
      ∗ owns (c : Thread nD τ) arg22 fullShare X22
      ∗ owns (c : Thread nD τ) arg23 fullShare X23
      ∗ owns (c : Thread nD τ) arg24 fullShare X24
      ∗ owns (c : Thread nD τ) arg25 fullShare X25)
      ∗ ((owns (c : Thread nD τ) arg4 fullShare X4
      ∗ owns (c : Thread nD τ) arg6 fullShare X6
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg20 fullShare (begin i X9 X10 X11 ⟨X20, X21, X22, X23, X24, X25⟩).w1
      ∗ owns (c : Thread nD τ) arg21 fullShare (begin i X9 X10 X11 ⟨X20, X21, X22, X23, X24, X25⟩).w3
      ∗ owns (c : Thread nD τ) arg22 fullShare (begin i X9 X10 X11 ⟨X20, X21, X22, X23, X24, X25⟩).w2
      ∗ owns (c : Thread nD τ) arg23 fullShare (begin i X9 X10 X11 ⟨X20, X21, X22, X23, X24, X25⟩).n1
      ∗ owns (c : Thread nD τ) arg24 fullShare (begin i X9 X10 X11 ⟨X20, X21, X22, X23, X24, X25⟩).n3
      ∗ owns (c : Thread nD τ) arg25 fullShare (begin i X9 X10 X11 ⟨X20, X21, X22, X23, X24, X25⟩).n2) -∗ K ⟨BitVec.ofNat 32 (i 2).val, k0_pay12 i, k0_pay13 i X6, k0_pay14 i X8, k0_pay15 X4, k0_pay16 i, k0_pay17 (F := F)⟩))
      ⊢ wp frame (wpE (defs₀ (F := F)) Variants.none c none) Set.univ (k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 ) K := by
  rw [k0_part2_eq_skeleton]
  unfold k0_part2_skel
  try simp only [pb, Sem.wp_bind]
  iintro ⟨⟨H4, H6, H8, H9, H10, H11, H20, H21, H22, H23, H24, H25⟩, Hk⟩
  by_cases h2 : k0_cond2 i = 1#1
  · simp only [begin, if_pos h2, fresh]
    rw [dif_pos (show Scalar.cmpi .ne (Scalar.extui (Scalar.cmpi .eq (BitVec.ofNat 32 (i 2).val) 0#32)) 0#32 = 1#1 from h2)]
    try simp only [pb, Sem.wp_bind]
    iapply (part1_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  X9 X10 X11 X20 X21 X22 X23 X24 _)
    isplitl [H9 H10 H11 H20 H21 H22 H23 H24]
    ·   isplitl [H9]
        · iexact H9
        isplitl [H10]
        · iexact H10
        isplitl [H11]
        · iexact H11
        isplitl [H20]
        · iexact H20
        isplitl [H21]
        · iexact H21
        isplitl [H22]
        · iexact H22
        isplitl [H23]
        · iexact H23
        iexact H24
    iintro ⟨H9, H10, H11, H20, H21, H22, H23, H24⟩
    iapply (ld c harg25 _)
    isplitl [H25]
    · iexact H25
    iintro H25
    iapply (st c harg25 _)
    isplitl [H25]
    · iexact H25
    iintro H25
    iapply (ld c harg6 _)
    isplitl [H6]
    · iexact H6
    iintro H6
    iapply (ld c harg8 _)
    isplitl [H8]
    · iexact H8
    iintro H8
    iapply (ld c harg4 _)
    isplitl [H4]
    · iexact H4
    iintro H4
    iapply (rt c _)
    iapply Hk
    isplitl [H4]
    · iexact H4
    isplitl [H6]
    · iexact H6
    isplitl [H8]
    · iexact H8
    isplitl [H9]
    · iexact H9
    isplitl [H10]
    · iexact H10
    isplitl [H11]
    · iexact H11
    isplitl [H20]
    · iexact H20
    isplitl [H21]
    · iexact H21
    isplitl [H22]
    · iexact H22
    isplitl [H23]
    · iexact H23
    isplitl [H24]
    · iexact H24
    iexact H25
  · simp only [begin, if_neg h2]
    rw [dif_neg (show ¬ Scalar.cmpi .ne (Scalar.extui (Scalar.cmpi .eq (BitVec.ofNat 32 (i 2).val) 0#32)) 0#32 = 1#1 from h2)]
    try simp only [pb, Sem.wp_bind]
    iapply (ld c harg6 _)
    isplitl [H6]
    · iexact H6
    iintro H6
    iapply (ld c harg8 _)
    isplitl [H8]
    · iexact H8
    iintro H8
    iapply (ld c harg4 _)
    isplitl [H4]
    · iexact H4
    iintro H4
    iapply (rt c _)
    iapply Hk
    isplitl [H4]
    · iexact H4
    isplitl [H6]
    · iexact H6
    isplitl [H8]
    · iexact H8
    isplitl [H9]
    · iexact H9
    isplitl [H10]
    · iexact H10
    isplitl [H11]
    · iexact H11
    isplitl [H20]
    · iexact H20
    isplitl [H21]
    · iexact H21
    isplitl [H22]
    · iexact H22
    isplitl [H23]
    · iexact H23
    isplitl [H24]
    · iexact H24
    iexact H25

set_option maxHeartbeats 1000000 in
/-- The codes, the values and two of the weights loaded. -/
theorem part3_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) (v7 : IVec S384x1 1) (v18 : FVec F S384x1 .f32) (v31 : FVec F S384x12 .f32) (v36 : IVec S384x12 1) (v37 : FVec F S384x12 .f32)
    (X3 : Vec F S1x384x256 .fp8e4m3) (X5 : Vec F S1x384x256 .fp8e4m3) (X7 : Vec F S1x384x256 .bf16) (X20 : Vec F S256x640 .f32) (X21 : Vec F S256x640 .f32) (K : (Σ' (v40 : FVec F S384x1 .f32) (v48 : FVec F S384x256 .bf16) (v56 : FVec F S384x256 .bf16) (v63 : FVec F S384x256 .f32) (v68 : FVec F S384x640 .f32) (v73 : FVec F S384x640 .f32) (v76 : FVec F S384x640 .f32), F .f32) → sProp 𝕄) :
    iprop((owns (c : Thread nD τ) arg3 fullShare X3
      ∗ owns (c : Thread nD τ) arg5 fullShare X5
      ∗ owns (c : Thread nD τ) arg7 fullShare X7
      ∗ owns (c : Thread nD τ) arg20 fullShare X20
      ∗ owns (c : Thread nD τ) arg21 fullShare X21)
      ∗ ((owns (c : Thread nD τ) arg3 fullShare X3
      ∗ owns (c : Thread nD τ) arg5 fullShare X5
      ∗ owns (c : Thread nD τ) arg7 fullShare X7
      ∗ owns (c : Thread nD τ) arg20 fullShare X20
      ∗ owns (c : Thread nD τ) arg21 fullShare X21) -∗ K ⟨k0_pay18 v31 v36 v37, k0_pay19 v7 X5, k0_pay20 v7 X3, k0_pay21 v7 X7, k0_pay22 v7 v18 X5 X20, k0_pay23 v7 v18 X5 X21, k0_pay24 v7 v18 X5 X20, Scalar.ofBits .f32 0x3F800000#32⟩))
      ⊢ wp frame (wpE (defs₀ (F := F)) Variants.none c none) Set.univ (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 v18 v31 v36 v37) K := by
  rw [k0_part3_eq_skeleton]
  unfold k0_part3_skel
  try simp only [pb, Sem.wp_bind]
  iintro ⟨⟨H3, H5, H7, H20, H21⟩, Hk⟩
  iapply (ld c harg5 _)
  isplitl [H5]
  · iexact H5
  iintro H5
  iapply (ld c harg3 _)
  isplitl [H3]
  · iexact H3
  iintro H3
  iapply (ld c harg7 _)
  isplitl [H7]
  · iexact H7
  iintro H7
  iapply (ld c harg20 _)
  isplitl [H20]
  · iexact H20
  iintro H20
  iapply (ld c harg21 _)
  isplitl [H21]
  · iexact H21
  iintro H21
  iapply (rt c _)
  iapply Hk
  isplitl [H3]
  · iexact H3
  isplitl [H5]
  · iexact H5
  isplitl [H7]
  · iexact H7
  isplitl [H20]
  · iexact H20
  iexact H21

set_option maxHeartbeats 1000000 in
/-- The hidden layer stored, the gradients formed. -/
theorem part4_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) (v18 : FVec F S384x1 .f32) (v29 : FVec F S384x1 .f32) (v48 : FVec F S384x256 .bf16) (v63 : FVec F S384x256 .f32) (v68 : FVec F S384x640 .f32) (v73 : FVec F S384x640 .f32) (v76 : FVec F S384x640 .f32) (cst_33 : F .f32)
    (X13 : Vec F S1x384x640 .bf16) (X22 : Vec F S256x640 .f32) (K : (Σ' (v117 : FVec F S256x640 .f32) (v118 : FVec F S256x640 .f32) (v119 : FVec F S256x640 .f32), FVec F S1x256x640 .f32) → sProp 𝕄) :
    iprop((owns (c : Thread nD τ) arg13 fullShare X13
      ∗ owns (c : Thread nD τ) arg22 fullShare X22)
      ∗ ((owns (c : Thread nD τ) arg13 fullShare (k0_pay28 v68 v73 v76 cst_33)
      ∗ owns (c : Thread nD τ) arg22 fullShare X22) -∗ K ⟨k0_pay31 v18 v29 v48 v63 v68 v73 v76 cst_33 X22, k0_pay32 v18 v29 v48 v63 v68 v76 cst_33 X22, k0_pay33 v29 v63 v68 v73 v76 cst_33, k0_pay34 v18 v29 v48 v63 v68 v73 v76 cst_33 X22⟩))
      ⊢ wp frame (wpE (defs₀ (F := F)) Variants.none c none) Set.univ (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v18 v29 v48 v63 v68 v73 v76 cst_33) K := by
  rw [k0_part4_eq_skeleton]
  unfold k0_part4_skel
  try simp only [pb, Sem.wp_bind]
  iintro ⟨⟨H13, H22⟩, Hk⟩
  iapply (ld c harg13 _)
  isplitl [H13]
  · iexact H13
  iintro H13
  iapply (st c harg13 _)
  isplitl [H13]
  · iexact H13
  iintro H13
  iapply (ld c harg22 _)
  isplitl [H22]
  · iexact H22
  iintro H22
  iapply (rt c _)
  iapply Hk
  isplitl [H13]
  · iexact H13
  iexact H22

set_option maxHeartbeats 1000000 in
/-- The updates stored at the first chunk of a sequence. -/
theorem part25_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) (arg2 : BitVec 32) (v745 : FVec F S256x640 .f32) (v758 : FVec F S256x640 .f32) (v766 : FVec F S256x640 .bf16) (v769 : FVec F S256x640 .bf16) (v772 : FVec F S256x640 .bf16) (v773 : FVec F S256x640 .bf16) (v776 : FVec F S256x640 .bf16) (v779 : FVec F S256x640 .bf16) (v1103 : FVec F S256x256 .f32) (v1109 : FVec F S256x256 .f32) (v1111 : FVec F S256x640 .f32) (v1121 : FVec F S256x640 .f32)
    (X17 : Vec F S1x1x640x256 .f32) (X18 : Vec F S1x1x640x256 .f32) (X19 : Vec F S1x1x256x640 .f32) (X20 : Vec F S256x640 .f32) (X21 : Vec F S256x640 .f32) (X23 : Vec F S1x640 .f32) (K : (Σ' (v1148 : FVec F S256x640 .f32) (v1163 : FVec F S256x640 .f32), FVec F S256x640 .f32) → sProp 𝕄) :
    iprop((owns (c : Thread nD τ) arg17 fullShare X17
      ∗ owns (c : Thread nD τ) arg18 fullShare X18
      ∗ owns (c : Thread nD τ) arg19 fullShare X19
      ∗ owns (c : Thread nD τ) arg20 fullShare X20
      ∗ owns (c : Thread nD τ) arg21 fullShare X21
      ∗ owns (c : Thread nD τ) arg23 fullShare X23)
      ∗ ((owns (c : Thread nD τ) arg17 fullShare (if k0_cond2 i = 1#1 then k0_pay238 v1111 v1121 else X17)
      ∗ owns (c : Thread nD τ) arg18 fullShare (if k0_cond2 i = 1#1 then k0_pay239 v745 v766 v769 v772 v1103 else X18)
      ∗ owns (c : Thread nD τ) arg19 fullShare (if k0_cond2 i = 1#1 then k0_pay240 v758 v773 v776 v779 v1109 else X19)
      ∗ owns (c : Thread nD τ) arg20 fullShare X20
      ∗ owns (c : Thread nD τ) arg21 fullShare X21
      ∗ owns (c : Thread nD τ) arg23 fullShare X23) -∗ K ⟨k0_pay237 v758 v773 v776 v779 v1109, k0_pay241 v1111 v1121 X20 X23, k0_pay242 v745 v766 v769 v772 v1103 X21⟩))
      ⊢ wp frame (wpE (defs₀ (F := F)) Variants.none c none) Set.univ (k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v745 v758 v766 v769 v772 v773 v776 v779 v1103 v1109 v1111 v1121) K := by
  rw [k0_part25_eq_skeleton]
  unfold k0_part25_skel
  try simp only [pb, Sem.wp_bind]
  iintro ⟨⟨H17, H18, H19, H20, H21, H23⟩, Hk⟩
  by_cases h : k0_cond2 i = 1#1
  · simp only [if_pos h]
    rw [dif_pos h]
    try simp only [pb, Sem.wp_bind]
    iapply (ld c harg17 _)
    isplitl [H17]
    · iexact H17
    iintro H17
    iapply (st c harg17 _)
    isplitl [H17]
    · iexact H17
    iintro H17
    iapply (ld c harg18 _)
    isplitl [H18]
    · iexact H18
    iintro H18
    iapply (st c harg18 _)
    isplitl [H18]
    · iexact H18
    iintro H18
    iapply (ld c harg19 _)
    isplitl [H19]
    · iexact H19
    iintro H19
    iapply (st c harg19 _)
    isplitl [H19]
    · iexact H19
    iintro H19
    iapply (ld c harg20 _)
    isplitl [H20]
    · iexact H20
    iintro H20
    iapply (ld c harg23 _)
    isplitl [H23]
    · iexact H23
    iintro H23
    iapply (ld c harg21 _)
    isplitl [H21]
    · iexact H21
    iintro H21
    iapply (rt c _)
    iapply Hk
    isplitl [H17]
    · iexact H17
    isplitl [H18]
    · iexact H18
    isplitl [H19]
    · iexact H19
    isplitl [H20]
    · iexact H20
    isplitl [H21]
    · iexact H21
    iexact H23
  · simp only [if_neg h]
    rw [dif_neg h]
    try simp only [pb, Sem.wp_bind]
    iapply (ld c harg20 _)
    isplitl [H20]
    · iexact H20
    iintro H20
    iapply (ld c harg23 _)
    isplitl [H23]
    · iexact H23
    iintro H23
    iapply (ld c harg21 _)
    isplitl [H21]
    · iexact H21
    iintro H21
    iapply (rt c _)
    iapply Hk
    isplitl [H17]
    · iexact H17
    isplitl [H18]
    · iexact H18
    isplitl [H19]
    · iexact H19
    isplitl [H20]
    · iexact H20
    isplitl [H21]
    · iexact H21
    iexact H23

set_option maxHeartbeats 1000000 in
/-- The weights carried on, and stored at the last chunk of a sequence. -/
theorem part26_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) (arg2 : BitVec 32) (v40 : FVec F S384x1 .f32) (v56 : FVec F S384x256 .bf16) (v1148 : FVec F S256x640 .f32) (v1163 : FVec F S256x640 .f32) (v1165 : FVec F S256x640 .f32)
    (X14 : Vec F S1x1x640x256 .f32) (X15 : Vec F S1x1x640x256 .f32) (X16 : Vec F S1x1x256x640 .f32) (X20 : Vec F S256x640 .f32) (X21 : Vec F S256x640 .f32) (X22 : Vec F S256x640 .f32) (X24 : Vec F S1x640 .f32) (X25 : Vec F S256x1 .f32) (K : (Σ' (v1175 : FVec F S256x640 .f32) (v1187 : FVec F S256x640 .f32), FVec F S384x640 .f32) → sProp 𝕄) :
    iprop((owns (c : Thread nD τ) arg14 fullShare X14
      ∗ owns (c : Thread nD τ) arg15 fullShare X15
      ∗ owns (c : Thread nD τ) arg16 fullShare X16
      ∗ owns (c : Thread nD τ) arg20 fullShare X20
      ∗ owns (c : Thread nD τ) arg21 fullShare X21
      ∗ owns (c : Thread nD τ) arg22 fullShare X22
      ∗ owns (c : Thread nD τ) arg24 fullShare X24
      ∗ owns (c : Thread nD τ) arg25 fullShare X25)
      ∗ ((owns (c : Thread nD τ) arg14 fullShare (if k0_cond3 i = 1#1 then k0_pay248 v1163 else X14)
      ∗ owns (c : Thread nD τ) arg15 fullShare (if k0_cond3 i = 1#1 then k0_pay249 v1165 X24 else X15)
      ∗ owns (c : Thread nD τ) arg16 fullShare (if k0_cond3 i = 1#1 then k0_pay250 v1148 X22 X25 else X16)
      ∗ owns (c : Thread nD τ) arg20 fullShare (k0_pay245 v1163)
      ∗ owns (c : Thread nD τ) arg21 fullShare (k0_pay246 v1165 X24)
      ∗ owns (c : Thread nD τ) arg22 fullShare (k0_pay247 v1148 X22 X25)
      ∗ owns (c : Thread nD τ) arg24 fullShare X24
      ∗ owns (c : Thread nD τ) arg25 fullShare X25) -∗ K ⟨k0_pay243 v1165 X24, k0_pay244 v1148 X22 X25, k0_pay251 v40 v56 v1163⟩))
      ⊢ wp frame (wpE (defs₀ (F := F)) Variants.none c none) Set.univ (k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v40 v56 v1148 v1163 v1165) K := by
  rw [k0_part26_eq_skeleton]
  unfold k0_part26_skel
  try simp only [pb, Sem.wp_bind]
  iintro ⟨⟨H14, H15, H16, H20, H21, H22, H24, H25⟩, Hk⟩
  iapply (ld c harg24 _)
  isplitl [H24]
  · iexact H24
  iintro H24
  iapply (ld c harg22 _)
  isplitl [H22]
  · iexact H22
  iintro H22
  iapply (ld c harg25 _)
  isplitl [H25]
  · iexact H25
  iintro H25
  iapply (ld c harg20 _)
  isplitl [H20]
  · iexact H20
  iintro H20
  iapply (st c harg20 _)
  isplitl [H20]
  · iexact H20
  iintro H20
  iapply (ld c harg21 _)
  isplitl [H21]
  · iexact H21
  iintro H21
  iapply (st c harg21 _)
  isplitl [H21]
  · iexact H21
  iintro H21
  iapply (ld c harg22 _)
  isplitl [H22]
  · iexact H22
  iintro H22
  iapply (st c harg22 _)
  isplitl [H22]
  · iexact H22
  iintro H22
  by_cases h : k0_cond3 i = 1#1
  · simp only [if_pos h]
    rw [dif_pos h]
    try simp only [pb, Sem.wp_bind]
    iapply (ld c harg14 _)
    isplitl [H14]
    · iexact H14
    iintro H14
    iapply (st c harg14 _)
    isplitl [H14]
    · iexact H14
    iintro H14
    iapply (ld c harg15 _)
    isplitl [H15]
    · iexact H15
    iintro H15
    iapply (st c harg15 _)
    isplitl [H15]
    · iexact H15
    iintro H15
    iapply (ld c harg16 _)
    isplitl [H16]
    · iexact H16
    iintro H16
    iapply (st c harg16 _)
    isplitl [H16]
    · iexact H16
    iintro H16
    iapply (rt c _)
    iapply Hk
    isplitl [H14]
    · iexact H14
    isplitl [H15]
    · iexact H15
    isplitl [H16]
    · iexact H16
    isplitl [H20]
    · iexact H20
    isplitl [H21]
    · iexact H21
    isplitl [H22]
    · iexact H22
    isplitl [H24]
    · iexact H24
    iexact H25
  · simp only [if_neg h]
    rw [dif_neg h]
    try simp only [pb, Sem.wp_bind]
    iapply (rt c _)
    iapply Hk
    isplitl [H14]
    · iexact H14
    isplitl [H15]
    · iexact H15
    isplitl [H16]
    · iexact H16
    isplitl [H20]
    · iexact H20
    isplitl [H21]
    · iexact H21
    isplitl [H22]
    · iexact H22
    isplitl [H24]
    · iexact H24
    iexact H25

set_option maxHeartbeats 1000000 in
/-- The body runs from the one to the other. -/
theorem sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole)
    (X3 : Vec F S1x384x256 .fp8e4m3) (X4 : Vec F S1x384x12 .f32) (X5 : Vec F S1x384x256 .fp8e4m3) (X6 : Vec F S1x384x12 .f32) (X7 : Vec F S1x384x256 .bf16) (X8 : Vec F S1x384x12 .f32) (X9 : Vec F S1x640x256 .f32) (X10 : Vec F S1x640x256 .f32) (X11 : Vec F S1x256x640 .f32) (X12 : Vec F S1x384x256 .bf16) (X13 : Vec F S1x384x640 .bf16) (X14 : Vec F S1x1x640x256 .f32) (X15 : Vec F S1x1x640x256 .f32) (X16 : Vec F S1x1x256x640 .f32) (X17 : Vec F S1x1x640x256 .f32) (X18 : Vec F S1x1x640x256 .f32) (X19 : Vec F S1x1x256x640 .f32) (X20 : Vec F S256x640 .f32) (X21 : Vec F S256x640 .f32) (X22 : Vec F S256x640 .f32) (X23 : Vec F S1x640 .f32) (X24 : Vec F S1x640 .f32) (X25 : Vec F S256x1 .f32) (K : PUnit → sProp 𝕄) :
    iprop(pre c arg3 arg4 arg5 arg6 arg7 arg8 arg9 arg10 arg11 arg12 arg13 arg14 arg15 arg16 arg17 arg18 arg19 arg20 arg21 arg22 arg23 arg24 arg25 X3 X4 X5 X6 X7 X8 X9 X10 X11 X12 X13 X14 X15 X16 X17 X18 X19 X20 X21 X22 X23 X24 X25 ∗ (post c i arg3 arg4 arg5 arg6 arg7 arg8 arg9 arg10 arg11 arg12 arg13 arg14 arg15 arg16 arg17 arg18 arg19 arg20 arg21 arg22 arg23 arg24 arg25 X3 X4 X5 X6 X7 X8 X9 X10 X11 X12 X13 X14 X15 X16 X17 X18 X19 X20 X21 X22 X23 X24 X25 -∗ K ⟨⟩))
      ⊢ wp frame (wpE (defs₀ (F := F)) Variants.none c none) Set.univ (cc0_lact i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  rw [body_eq]
  unfold body pre
  try simp only [pb, Sem.wp_bind]
  iintro ⟨⟨H3, H4, H5, H6, H7, H8, H9, H10, H11, H12, H13, H14, H15, H16, H17, H18, H19, H20, H21, H22, H23, H24, H25⟩, Hk⟩
  iapply (part2_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  X4 X6 X8 X9 X10 X11 X20 X21 X22 X23 X24 X25 _)
  isplitl [H4 H6 H8 H9 H10 H11 H20 H21 H22 H23 H24 H25]
  ·   isplitl [H4]
      · iexact H4
      isplitl [H6]
      · iexact H6
      isplitl [H8]
      · iexact H8
      isplitl [H9]
      · iexact H9
      isplitl [H10]
      · iexact H10
      isplitl [H11]
      · iexact H11
      isplitl [H20]
      · iexact H20
      isplitl [H21]
      · iexact H21
      isplitl [H22]
      · iexact H22
      isplitl [H23]
      · iexact H23
      isplitl [H24]
      · iexact H24
      iexact H25
  iintro ⟨H4, H6, H8, H9, H10, H11, H20, H21, H22, H23, H24, H25⟩
  dsimp only
  try simp only [pb, Sem.wp_bind]
  iapply (part3_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _)
  isplitl [H3 H5 H7 H20 H21]
  ·   isplitl [H3]
      · iexact H3
      isplitl [H5]
      · iexact H5
      isplitl [H7]
      · iexact H7
      isplitl [H20]
      · iexact H20
      iexact H21
  iintro ⟨H3, H5, H7, H20, H21⟩
  dsimp only
  try simp only [pb, Sem.wp_bind]
  iapply (part4_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _)
  isplitl [H13 H22]
  ·   isplitl [H13]
      · iexact H13
      iexact H22
  iintro ⟨H13, H22⟩
  dsimp only
  try simp only [pb, Sem.wp_bind]
  iapply (part25_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ _ _ _ _)
  isplitl [H17 H18 H19 H20 H21 H23]
  ·   isplitl [H17]
      · iexact H17
      isplitl [H18]
      · iexact H18
      isplitl [H19]
      · iexact H19
      isplitl [H20]
      · iexact H20
      isplitl [H21]
      · iexact H21
      iexact H23
  iintro ⟨H17, H18, H19, H20, H21, H23⟩
  dsimp only
  try simp only [pb, Sem.wp_bind]
  iapply (part26_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _)
  isplitl [H14 H15 H16 H20 H21 H22 H24 H25]
  ·   isplitl [H14]
      · iexact H14
      isplitl [H15]
      · iexact H15
      isplitl [H16]
      · iexact H16
      isplitl [H20]
      · iexact H20
      isplitl [H21]
      · iexact H21
      isplitl [H22]
      · iexact H22
      isplitl [H24]
      · iexact H24
      iexact H25
  iintro ⟨H14, H15, H16, H20, H21, H22, H24, H25⟩
  dsimp only
  try simp only [pb, Sem.wp_bind]
  iapply (ld c harg12 _)
  isplitl [H12]
  · iexact H12
  iintro H12
  iapply (st c harg12 _)
  isplitl [H12]
  · iexact H12
  iintro H12
  iapply (rt c _)
  iapply Hk
  unfold post
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  iexact H25

end Cert.Kernel.Run

end
-- ==== Proof.MaskK.lean ====
/-
  Rows past the end of the arrays. The last chunk of a sequence reaches past the arrays, and the rows it reads there
  hold anything. The body masks them before it uses them: blocks that agree on the rows inside give the same values.
-/
module

public import proofs.«01_k».proof.Proof.SoundK
public import Idealize.ShloMosaic.Lib.Pipeline.Value

@[expose] public section

namespace Cert.Kernel.Run

open Cert.Kernel Cert.Kernel.Gen
open Idealize.ShloMosaic Idealize.ShloMosaic.TcCoe

variable {F : FTy → Type} [FloatOps F]

/-- The number of a chunk's rows inside the arrays. -/
def rows (i : grid0.Coords) : ℕ := if (i 2).val = 2 then 128 else 384

theorem slt_128 : ∀ r : Fin 384, Scalar.cmpi .slt (BitVec.ofNat 32 r.val) 128#32 = 1#1 → r.val < 128 := by decide +kernel

/-- The mask lets through rows inside the arrays only. -/
theorem mask_lt (i : grid0.Coords) (j : S384x1.Idx) (h : k0_pay12 i j = 1#1) : (j 0).val < rows i := by
  unfold rows
  have h0 : (j 0).val < 384 := (j 0).isLt
  split
  · rename_i h2
    refine slt_128 ⟨(j 0).val, h0⟩ ?_
    rw [← h]
    unfold k0_pay12
    simp only [h2]
    show _ = Scalar.cmpi .slt (iota .tc S384x1 32 [0] iota_S384x1_d0_w32 j) _
    rw [iota_single_apply]
    rfl
  · exact h0

/-- Two arrays agree on the rows inside. -/
def Same {n : ℕ} {α : Type} (i : grid0.Coords) (x y : (⟨3, ![1, 384, n]⟩ : Shape).Idx → α) : Prop :=
  ∀ j, (j 1).val < rows i → x j = y j

/-- Under a mask within the rows inside, arrays that agree there are one. -/
theorem same_select {n : ℕ} {α β : Type} {i : grid0.Coords} {x y : (⟨3, ![1, 384, n]⟩ : Shape).Idx → α} (h : Same i x y)
    (hc : (⟨3, ![1, 384, n]⟩ : Shape).ShapeCasts ⟨2, ![384, n]⟩) (m : IVec ⟨2, ![384, n]⟩ 1)
    (hm : ∀ j, m j = 1#1 → (j 0).val < rows i) (f : α → β) (z : (⟨2, ![384, n]⟩ : Shape).Idx → β) :
    select m (fun j => f (shapeCast ⟨2, ![384, n]⟩ x hc j)) z = select m (fun j => f (shapeCast ⟨2, ![384, n]⟩ y hc j)) z := by
  funext j
  unfold select
  by_cases e : m j = 1#1
  · have := h (Fin.cons ⟨0, Nat.one_pos⟩ j) (hm j e)
    have e1 : shapeCast ⟨2, ![384, n]⟩ x hc j = shapeCast ⟨2, ![384, n]⟩ y hc j := by
      refine (shapeCast_dropUnit_apply ![384, n] x hc j).trans (this.trans (shapeCast_dropUnit_apply ![384, n] y hc j).symm)
    simp only [e1]
  · simp only [Scalar.select]
    exact (if_neg e).trans (if_neg e).symm

theorem bit_and : ∀ a b : BitVec 1, a &&& b = 1#1 → b = 1#1 := by decide

/-- The row mask spread over the columns. -/
theorem mask_col {n : ℕ} (i : grid0.Coords) (hb : S384x1.Broadcasts ⟨2, ![384, n]⟩) (j : (⟨2, ![384, n]⟩ : Shape).Idx)
    (h : broadcastTo ⟨2, ![384, n]⟩ (k0_pay12 i) hb j = 1#1) : (j 0).val < rows i := by
  refine mask_lt i (Fin.cons (j 0) (Fin.cons ⟨0, Nat.one_pos⟩ finZeroElim)) ?_
  rw [← h]
  refine (broadcastTo_apply _ hb j _ ?_).symm
  intro a
  match a with
  | ⟨0, _⟩ => rfl
  | ⟨1, _⟩ => rfl

theorem mask12 (i : grid0.Coords) (j : S384x12.Idx) (h : k0_pay16 i j = 1#1) : (j 0).val < rows i :=
  mask_col i broadcasts_S384x1_S384x12 j (bit_and _ _ h)

theorem mask256 (i : grid0.Coords) (j : S384x256.Idx)
    (h : broadcastTo S384x256 (shapeCast S384x1 (k0_pay12 i) shapeCasts_S384x1_S384x1) broadcasts_S384x1_S384x256 j = 1#1) : (j 0).val < rows i := by
  rw [shapeCast_self] at h
  exact mask_col i broadcasts_S384x1_S384x256 j h

theorem same13 {i : grid0.Coords} {x y : Vec F S1x384x12 .f32} (h : Same i x y) : k0_pay13 i x = k0_pay13 i y := by
  have e := same_select h shapeCasts_S1x384x12_S384x12 (k0_pay16 i) (mask12 i) id (broadcast S384x12 (Scalar.ofBits (F := F) .f32 0x00000000#32))
  exact congrArg (fun v => shapeCast S384x1 (multiReduction .add [1] S384 v 0x00000000#32 reduces_S384x12_S384 (.inl rfl) rfl) shapeCasts_S384_S384x1) e

theorem same14 {i : grid0.Coords} {x y : Vec F S1x384x12 .f32} (h : Same i x y) : k0_pay14 i x = k0_pay14 i y := by
  have e := same_select h shapeCasts_S1x384x12_S384x12 (k0_pay16 i) (mask12 i) id (broadcast S384x12 (Scalar.ofBits (F := F) .f32 0x00000000#32))
  exact congrArg (fun v => shapeCast S384x1 (multiReduction .add [1] S384 v 0x00000000#32 reduces_S384x12_S384 (.inl rfl) rfl) shapeCasts_S384_S384x1) e

theorem same18 {i : grid0.Coords} {x y : Vec F S1x384x12 .f32} (h : Same i x y) :
    k0_pay18 (k0_pay15 x) (k0_pay16 i) (k0_pay17 (F := F)) = k0_pay18 (k0_pay15 y) (k0_pay16 i) (k0_pay17 (F := F)) := by
  have e := same_select h shapeCasts_S1x384x12_S384x12 (k0_pay16 i) (mask12 i) id (broadcast S384x12 (Scalar.ofBits (F := F) .f32 0x00000000#32))
  exact congrArg (fun v => shapeCast S384x1 (multiReduction .add [1] S384 v 0x00000000#32 reduces_S384x12_S384 (.inl rfl) rfl) shapeCasts_S384_S384x1) e

theorem same19 {i : grid0.Coords} {x y : Vec F S1x384x256 .fp8e4m3} (h : Same i x y) : k0_pay19 (k0_pay12 i) x = k0_pay19 (k0_pay12 i) y := by
  have e := same_select h shapeCasts_S1x384x256_S384x256 _ (mask256 i) (FloatOps.extf (F := F) (φ := .fp8e4m3) .f32 bitsLt_fp8e4m3_f32) (broadcast S384x256 (Scalar.ofBits (F := F) .f32 0x00000000#32))
  exact congrArg (fun v => truncf .bf16 v bitsLt_bf16_f32) e

theorem same20 {i : grid0.Coords} {x y : Vec F S1x384x256 .fp8e4m3} (h : Same i x y) : k0_pay20 (k0_pay12 i) x = k0_pay20 (k0_pay12 i) y := by
  exact same19 h

theorem same21 {i : grid0.Coords} {x y : Vec F S1x384x256 .bf16} (h : Same i x y) : k0_pay21 (k0_pay12 i) x = k0_pay21 (k0_pay12 i) y := by
  exact same_select h shapeCasts_S1x384x256_S384x256 _ (mask256 i) (FloatOps.extf (F := F) (φ := .bf16) .f32 bitsLt_bf16_f32) (broadcast S384x256 (Scalar.ofBits (F := F) .f32 0x00000000#32))

/-- Two chunks' blocks agree on the rows inside. -/
structure Alike (i : grid0.Coords) (x y : Blocks F) : Prop where
  q : Same i x.q y.q
  qs : Same i x.qs y.qs
  k : Same i x.k y.k
  ks : Same i x.ks y.ks
  v : Same i x.v y.v
  lr : Same i x.lr y.lr

variable {i : grid0.Coords} {x y : Blocks F}

theorem Alike.vks (h : Alike i x y) : Run.vks i x = Run.vks i y := same13 h.ks
theorem Alike.vlr (h : Alike i x y) : Run.vlr i x = Run.vlr i y := same14 h.lr
theorem Alike.vqs (h : Alike i x y) : Run.vqs i x = Run.vqs i y := same18 h.qs
theorem Alike.vk (h : Alike i x y) : Run.vk i x = Run.vk i y := same19 h.k
theorem Alike.vq (h : Alike i x y) : Run.vq i x = Run.vq i y := same20 h.q
theorem Alike.vv (h : Alike i x y) : Run.vv i x = Run.vv i y := same21 h.v
theorem Alike.h1 (h : Alike i x y) (s : Scr F) : Run.h1 i x s = Run.h1 i y s := by
  unfold Run.h1 k0_pay22; dsimp only; rw [same19 h.k, h.vks]
theorem Alike.h3 (h : Alike i x y) (s : Scr F) : Run.h3 i x s = Run.h3 i y s := by
  unfold Run.h3 k0_pay23; dsimp only; rw [same19 h.k, h.vks]
theorem Alike.ex (h : Alike i x y) (s : Scr F) : Run.ex i x s = Run.ex i y s := by
  unfold Run.ex k0_pay24 k0_pay22; dsimp only; rw [same19 h.k, h.vks]
theorem Alike.gOf (h : Alike i x y) (s : Scr F) : Run.gOf i x s = Run.gOf i y s := by
  unfold Run.gOf; rw [h.h1, h.h3, h.ex]
theorem Alike.nrm (h : Alike i x y) (s : Scr F) : Run.nrm i x s = Run.nrm i y s := by
  unfold Run.nrm Run.g1 Run.g3 Run.g2 Run.sq1; rw [h.h1, h.h3, h.ex, h.vks, h.vlr, h.vk, h.vv]
theorem Alike.yOf (h : Alike i x y) (n : Norm F) (s : Scr F) : Run.yOf i x n s = Run.yOf i y n s := by
  unfold Run.yOf; rw [h.vqs, h.vq]

end Cert.Kernel.Run

end
-- ==== Proof.RunK.lean ====
/-
  The run of the whole kernel. The scratch a chunk finds is what the chunks before it in the sequence left; each chunk's
  results are named by it, and the first chunk of a sequence fills the scratch anew whatever it held.
-/
module

public import proofs.«01_k».proof.Proof.MaskK
public import Idealize.ShloMosaic.Lib.Pipeline.TableIdle

@[expose] public section

set_option synthInstance.maxSize 4096
set_option maxRecDepth 65536

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

/-- Contents nothing depends on: zeros. -/
def zf {s : Shape} (φ : FTy) : FVec F s φ := fun _ => Scalar.ofBits φ 0

variable (m : (ℓ : Loc nD τ sig) → Buf (Elt F) ℓ) (ρ : Dev nD → PrngReg) (c : Dev nD)

/-! ## The grid -/

theorem cond2_iff : ∀ t : Fin cfg0.N, k0_cond2 (grid0.coords t) = 1#1 ↔ t.val % 3 = 0 := by decide +kernel
theorem cond3_iff : ∀ t : Fin cfg0.N, k0_cond3 (grid0.coords t) = 1#1 ↔ t.val % 3 = 2 := by decide +kernel
theorem fetch0 : ∀ t : Fin cfg0.N, (cfg0.win 0).fetch t = true := by decide +kernel
theorem fetch1 : ∀ t : Fin cfg0.N, (cfg0.win 1).fetch t = true := by decide +kernel
theorem fetch2 : ∀ t : Fin cfg0.N, (cfg0.win 2).fetch t = true := by decide +kernel
theorem fetch3 : ∀ t : Fin cfg0.N, (cfg0.win 3).fetch t = true := by decide +kernel
theorem fetch4 : ∀ t : Fin cfg0.N, (cfg0.win 4).fetch t = true := by decide +kernel
theorem fetch5 : ∀ t : Fin cfg0.N, (cfg0.win 5).fetch t = true := by decide +kernel
theorem flush11 : ∀ t : Fin cfg0.N, (cfg0.win 11).flush t = decide (t.val % 3 = 2) := by decide +kernel
theorem flush12 : ∀ t : Fin cfg0.N, (cfg0.win 12).flush t = decide (t.val % 3 = 2) := by decide +kernel
theorem flush13 : ∀ t : Fin cfg0.N, (cfg0.win 13).flush t = decide (t.val % 3 = 2) := by decide +kernel
theorem flush14 : ∀ t : Fin cfg0.N, (cfg0.win 14).flush t = decide (t.val % 3 = 2) := by decide +kernel
theorem flush15 : ∀ t : Fin cfg0.N, (cfg0.win 15).flush t = decide (t.val % 3 = 2) := by decide +kernel
theorem flush16 : ∀ t : Fin cfg0.N, (cfg0.win 16).flush t = decide (t.val % 3 = 2) := by decide +kernel
theorem fresh14 : ∀ t : Fin cfg0.N, cfg0.fresh 14 t.val = decide (t.val % 3 = 0) := by decide +kernel
theorem fresh15 : ∀ t : Fin cfg0.N, cfg0.fresh 15 t.val = decide (t.val % 3 = 0) := by decide +kernel
theorem fresh16 : ∀ t : Fin cfg0.N, cfg0.fresh 16 t.val = decide (t.val % 3 = 0) := by decide +kernel
theorem xsize0 : ∀ (t : Fin cfg0.N) (a : Fin 3), win0_0.xsize (grid0.coords t) a = ![1, rows (grid0.coords t), 256] a := by decide +kernel
theorem xsize1 : ∀ (t : Fin cfg0.N) (a : Fin 3), win0_1.xsize (grid0.coords t) a = ![1, rows (grid0.coords t), 12] a := by decide +kernel
theorem xsize2 : ∀ (t : Fin cfg0.N) (a : Fin 3), win0_2.xsize (grid0.coords t) a = ![1, rows (grid0.coords t), 256] a := by decide +kernel
theorem xsize3 : ∀ (t : Fin cfg0.N) (a : Fin 3), win0_3.xsize (grid0.coords t) a = ![1, rows (grid0.coords t), 12] a := by decide +kernel
theorem xsize4 : ∀ (t : Fin cfg0.N) (a : Fin 3), win0_4.xsize (grid0.coords t) a = ![1, rows (grid0.coords t), 256] a := by decide +kernel
theorem xsize5 : ∀ (t : Fin cfg0.N) (a : Fin 3), win0_5.xsize (grid0.coords t) a = ![1, rows (grid0.coords t), 12] a := by decide +kernel

/-- Window 0's block, filled out in two ways, is one on the rows inside the arrays. -/
theorem same_fill0 {α : Type} (t : Fin cfg0.N) (d d' : win0_0.block.Idx → α) (g : (win0_0.xblock (grid0.coords t)).Idx → α) :
    Same (n := 256) (grid0.coords t) (win0_0.fill (grid0.coords t) d g) (win0_0.fill (grid0.coords t) d' g) := by
  intro j hj
  have hm : win0_0.moved (grid0.coords t) j = true := (win0_0.moved_iff _ j).mpr fun a => by
    rw [xsize0 t a]
    match a with
    | ⟨0, _⟩ => exact (j 0).isLt
    | ⟨1, _⟩ => exact hj
    | ⟨2, _⟩ => exact (j 2).isLt
  unfold Pipeline.Window.fill; rw [dif_pos hm, dif_pos hm]

/-- Window 1's block, filled out in two ways, is one on the rows inside the arrays. -/
theorem same_fill1 {α : Type} (t : Fin cfg0.N) (d d' : win0_1.block.Idx → α) (g : (win0_1.xblock (grid0.coords t)).Idx → α) :
    Same (n := 12) (grid0.coords t) (win0_1.fill (grid0.coords t) d g) (win0_1.fill (grid0.coords t) d' g) := by
  intro j hj
  have hm : win0_1.moved (grid0.coords t) j = true := (win0_1.moved_iff _ j).mpr fun a => by
    rw [xsize1 t a]
    match a with
    | ⟨0, _⟩ => exact (j 0).isLt
    | ⟨1, _⟩ => exact hj
    | ⟨2, _⟩ => exact (j 2).isLt
  unfold Pipeline.Window.fill; rw [dif_pos hm, dif_pos hm]

/-- Window 2's block, filled out in two ways, is one on the rows inside the arrays. -/
theorem same_fill2 {α : Type} (t : Fin cfg0.N) (d d' : win0_2.block.Idx → α) (g : (win0_2.xblock (grid0.coords t)).Idx → α) :
    Same (n := 256) (grid0.coords t) (win0_2.fill (grid0.coords t) d g) (win0_2.fill (grid0.coords t) d' g) := by
  intro j hj
  have hm : win0_2.moved (grid0.coords t) j = true := (win0_2.moved_iff _ j).mpr fun a => by
    rw [xsize2 t a]
    match a with
    | ⟨0, _⟩ => exact (j 0).isLt
    | ⟨1, _⟩ => exact hj
    | ⟨2, _⟩ => exact (j 2).isLt
  unfold Pipeline.Window.fill; rw [dif_pos hm, dif_pos hm]

/-- Window 3's block, filled out in two ways, is one on the rows inside the arrays. -/
theorem same_fill3 {α : Type} (t : Fin cfg0.N) (d d' : win0_3.block.Idx → α) (g : (win0_3.xblock (grid0.coords t)).Idx → α) :
    Same (n := 12) (grid0.coords t) (win0_3.fill (grid0.coords t) d g) (win0_3.fill (grid0.coords t) d' g) := by
  intro j hj
  have hm : win0_3.moved (grid0.coords t) j = true := (win0_3.moved_iff _ j).mpr fun a => by
    rw [xsize3 t a]
    match a with
    | ⟨0, _⟩ => exact (j 0).isLt
    | ⟨1, _⟩ => exact hj
    | ⟨2, _⟩ => exact (j 2).isLt
  unfold Pipeline.Window.fill; rw [dif_pos hm, dif_pos hm]

/-- Window 4's block, filled out in two ways, is one on the rows inside the arrays. -/
theorem same_fill4 {α : Type} (t : Fin cfg0.N) (d d' : win0_4.block.Idx → α) (g : (win0_4.xblock (grid0.coords t)).Idx → α) :
    Same (n := 256) (grid0.coords t) (win0_4.fill (grid0.coords t) d g) (win0_4.fill (grid0.coords t) d' g) := by
  intro j hj
  have hm : win0_4.moved (grid0.coords t) j = true := (win0_4.moved_iff _ j).mpr fun a => by
    rw [xsize4 t a]
    match a with
    | ⟨0, _⟩ => exact (j 0).isLt
    | ⟨1, _⟩ => exact hj
    | ⟨2, _⟩ => exact (j 2).isLt
  unfold Pipeline.Window.fill; rw [dif_pos hm, dif_pos hm]

/-- Window 5's block, filled out in two ways, is one on the rows inside the arrays. -/
theorem same_fill5 {α : Type} (t : Fin cfg0.N) (d d' : win0_5.block.Idx → α) (g : (win0_5.xblock (grid0.coords t)).Idx → α) :
    Same (n := 12) (grid0.coords t) (win0_5.fill (grid0.coords t) d g) (win0_5.fill (grid0.coords t) d' g) := by
  intro j hj
  have hm : win0_5.moved (grid0.coords t) j = true := (win0_5.moved_iff _ j).mpr fun a => by
    rw [xsize5 t a]
    match a with
    | ⟨0, _⟩ => exact (j 0).isLt
    | ⟨1, _⟩ => exact hj
    | ⟨2, _⟩ => exact (j 2).isLt
  unfold Pipeline.Window.fill; rw [dif_pos hm, dif_pos hm]

/-! ## What the chunks find and leave -/

/-- The chunk's blocks as they lie in the arrays, zeros past the arrays' end. -/
def xs (t : Fin cfg0.N) : Blocks F where
  q := win0_0.fill (grid0.coords t) (zf .fp8e4m3) (iblk m c 0 t)
  qs := win0_1.fill (grid0.coords t) (zf .f32) (iblk m c 1 t)
  k := win0_2.fill (grid0.coords t) (zf .fp8e4m3) (iblk m c 2 t)
  ks := win0_3.fill (grid0.coords t) (zf .f32) (iblk m c 3 t)
  v := win0_4.fill (grid0.coords t) (zf .bf16) (iblk m c 4 t)
  lr := win0_5.fill (grid0.coords t) (zf .f32) (iblk m c 5 t)

/-- The chunk's scratch once begun, from the scratch it finds. -/
def beg (t : Fin cfg0.N) (s : Scr F) : Scr F := begin (grid0.coords t) (iblk m c 6 t) (iblk m c 7 t) (iblk m c 8 t) s
/-- The chunk's normalised gradients. -/
def nrmAt (t : Fin cfg0.N) (s : Scr F) : Norm F := nrm (grid0.coords t) (xs m c t) (beg m c t s)
/-- The scratch the chunk leaves. -/
def stepAt (t : Fin cfg0.N) (s : Scr F) : Scr F := next (nrmAt m c t s) (beg m c t s)

/-- The scratch before the chunk. -/
def scr : ℕ → Scr F
  | 0 => ⟨zf .f32, zf .f32, zf .f32, zf .f32, zf .f32, zf .f32⟩
  | n + 1 => if h : n < cfg0.N then stepAt m c ⟨n, h⟩ (scr n) else scr n

/-- The chunk's normalised gradients, and the scratch it begins with, as they are. -/
def nAt (t : Fin cfg0.N) : Norm F := nrmAt m c t (scr m c t.val)
def sAt (t : Fin cfg0.N) : Scr F := beg m c t (scr m c t.val)

theorem scr_succ (t : Fin cfg0.N) : scr m c (t.val + 1) = next (nAt m c t) (sAt m c t) := by
  show (if h : t.val < cfg0.N then _ else _) = _
  rw [dif_pos t.isLt]; rfl

/-- The first chunk of a sequence does not depend on the scratch it finds. -/
theorem beg_eq (t : Fin cfg0.N) (s : Scr F) (h : t.val % 3 ≠ 0 → s = scr m c t.val) : beg m c t s = sAt m c t := by
  unfold sAt beg begin
  by_cases e : t.val % 3 = 0
  · rw [if_pos ((cond2_iff t).mpr e), if_pos ((cond2_iff t).mpr e)]
  · rw [h e]

/-- The first chunk of the chunk's sequence. -/
def grp (t : Fin cfg0.N) : Fin cfg0.N := ⟨3 * (t.val / 3), by have := t.isLt; omega⟩

theorem grp_of_zero (t : Fin cfg0.N) (h : t.val % 3 = 0) : grp t = t := Fin.ext (by show 3 * (t.val / 3) = t.val; omega)
theorem grp_pred (t : Fin cfg0.N) (h : t.val % 3 ≠ 0) : grp ⟨t.val - 1, by have := t.isLt; omega⟩ = grp t :=
  Fin.ext (by show 3 * ((t.val - 1) / 3) = 3 * (t.val / 3); omega)

/-- The invariant between chunks: inside a sequence the scratch is what the chunks before left. -/
def Inv (n : ℕ) : sProp 𝕄 :=
  iprop((∃ s : Scr F, ⌜n % 3 ≠ 0 → s = scr m c n⌝
    ∗ owns (c : Thread nD τ) (Memref.whole cc0_scratch0) fullShare s.w1
    ∗ owns (c : Thread nD τ) (Memref.whole cc0_scratch1) fullShare s.w3
    ∗ owns (c : Thread nD τ) (Memref.whole cc0_scratch2) fullShare s.w2
    ∗ owns (c : Thread nD τ) (Memref.whole cc0_scratch3) fullShare s.n1
    ∗ owns (c : Thread nD τ) (Memref.whole cc0_scratch4) fullShare s.n3
    ∗ owns (c : Thread nD τ) (Memref.whole cc0_scratch5) fullShare s.n2) ∗ ∃ r, prngReg c r)

/-- What the run leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => (xs m c t).q
    | ⟨1, _⟩ => (xs m c t).qs
    | ⟨2, _⟩ => (xs m c t).k
    | ⟨3, _⟩ => (xs m c t).ks
    | ⟨4, _⟩ => (xs m c t).v
    | ⟨5, _⟩ => (xs m c t).lr
    | ⟨6, _⟩ => iblk m c 6 t
    | ⟨7, _⟩ => iblk m c 7 t
    | ⟨8, _⟩ => iblk m c 8 t
    | ⟨9, _⟩ => yOf (grid0.coords t) (xs m c t) (nAt m c t) (sAt m c t)
    | ⟨10, _⟩ => gOf (grid0.coords t) (xs m c t) (sAt m c t)
    | ⟨11, _⟩ => w1Of (nAt m c t) (sAt m c t)
    | ⟨12, _⟩ => w3Of (nAt m c t) (sAt m c t)
    | ⟨13, _⟩ => w2Of (nAt m c t) (sAt m c t)
    | ⟨14, _⟩ => u1Of (nAt m c (grp t))
    | ⟨15, _⟩ => u3Of (nAt m c (grp t))
    | ⟨16, _⟩ => u2Of (nAt m c (grp t))
    | ⟨_ + 17, h⟩ => absurd h (Nat.not_lt.2 (Nat.le_add_left _ _))
  Φ n := Inv m c n.val
  q _ := fullShare
  owed _ := 0

theorem A_eq (w : Fin cfg0.W) : (dats m 0 c).A w = V m c (Pipeline.arrRef spec0 w) := by dsimp only [dats]

/-- Contents as the chunk must leave them are left. -/
theorem leave (w : Fin cfg0.W) (t : Fin cfg0.N) (X : (cfg0.win w).block.Idx → Elt F (cfg0.win w).elt) (h : (dats m 0 c).Leaves w t X) :
    owns (c : Thread nD τ) ((cfg0.win w).stage (cfg0.slots t w)) fullShare X ⊢ ((dats m 0 c).leaves w t : sProp 𝕄) := by
  unfold Dat.leaves
  unfold Dat.Leaves at h
  generalize cfg0.idle w (cfg0.grid.coords t) = a at h ⊢
  generalize (cfg0.win w).flush t = b at h ⊢
  generalize cfg0.loose w = e at h ⊢
  cases a <;> cases b <;> cases e <;> dsimp only at h ⊢ <;>
    first
      | (obtain ⟨d, rfl⟩ := h; iintro H; iexists d; iexact H)
      | (subst h; iintro H; iexact H)

/-- An input's buffer, fetched and only read. -/
theorem leave_in (w : Fin cfg0.W) (t : Fin cfg0.N) (d z : (cfg0.win w).block.Idx → Elt F (cfg0.win w).elt)
    (hf : (cfg0.win w).fetch t = true) (hi : cfg0.idle w (cfg0.grid.coords t) = false) (hl : cfg0.loose w = true)
    (ha : (dats m 0 c).after w t = (dats m 0 c).fetched w t z) : (dats m 0 c).Leaves w t ((dats m 0 c).before w t d) := by
  rw [Dat.Leaves.live_iff _ (.inl hi), hl]
  refine ⟨d, ?_⟩
  unfold Dat.before
  rw [if_pos hf, ha, (dats m 0 c).cut_fetched]
  rfl

theorem before0 (t : Fin cfg0.N) (d) : (dats m 0 c).before 0 t d = win0_0.fill (grid0.coords t) d (iblk m c 0 t) := by
  unfold Dat.before; rw [if_pos (fetch0 t)]; rfl
theorem before1 (t : Fin cfg0.N) (d) : (dats m 0 c).before 1 t d = win0_1.fill (grid0.coords t) d (iblk m c 1 t) := by
  unfold Dat.before; rw [if_pos (fetch1 t)]; rfl
theorem before2 (t : Fin cfg0.N) (d) : (dats m 0 c).before 2 t d = win0_2.fill (grid0.coords t) d (iblk m c 2 t) := by
  unfold Dat.before; rw [if_pos (fetch2 t)]; rfl
theorem before3 (t : Fin cfg0.N) (d) : (dats m 0 c).before 3 t d = win0_3.fill (grid0.coords t) d (iblk m c 3 t) := by
  unfold Dat.before; rw [if_pos (fetch3 t)]; rfl
theorem before4 (t : Fin cfg0.N) (d) : (dats m 0 c).before 4 t d = win0_4.fill (grid0.coords t) d (iblk m c 4 t) := by
  unfold Dat.before; rw [if_pos (fetch4 t)]; rfl
theorem before5 (t : Fin cfg0.N) (d) : (dats m 0 c).before 5 t d = win0_5.fill (grid0.coords t) d (iblk m c 5 t) := by
  unfold Dat.before; rw [if_pos (fetch5 t)]; rfl
/-- Past the sequence's first chunk the buffer still holds its update. -/
theorem before14 (t : Fin cfg0.N) (h : t.val % 3 ≠ 0) (d) : (dats m 0 c).before 14 t d = u1Of (nAt m c (grp t)) := by
  rw [(dats m 0 c).before_out_traj 14 rfl (fun _ _ => rfl) ?_ t.val t rfl d]
  · rw [if_neg (by rw [fresh14 t]; simpa using h)]
    show u1Of (nAt m c (grp ⟨t.val - 1, _⟩)) = _
    rw [grp_pred t h]
  · intro t ht hi hf
    have h : t.val % 3 ≠ 0 := by rw [fresh14 t] at hf; simpa using hf
    show u1Of (nAt m c (grp t)) = u1Of (nAt m c (grp ⟨t.val - 1, _⟩))
    rw [grp_pred t h]
/-- Past the sequence's first chunk the buffer still holds its update. -/
theorem before15 (t : Fin cfg0.N) (h : t.val % 3 ≠ 0) (d) : (dats m 0 c).before 15 t d = u3Of (nAt m c (grp t)) := by
  rw [(dats m 0 c).before_out_traj 15 rfl (fun _ _ => rfl) ?_ t.val t rfl d]
  · rw [if_neg (by rw [fresh15 t]; simpa using h)]
    show u3Of (nAt m c (grp ⟨t.val - 1, _⟩)) = _
    rw [grp_pred t h]
  · intro t ht hi hf
    have h : t.val % 3 ≠ 0 := by rw [fresh15 t] at hf; simpa using hf
    show u3Of (nAt m c (grp t)) = u3Of (nAt m c (grp ⟨t.val - 1, _⟩))
    rw [grp_pred t h]
/-- Past the sequence's first chunk the buffer still holds its update. -/
theorem before16 (t : Fin cfg0.N) (h : t.val % 3 ≠ 0) (d) : (dats m 0 c).before 16 t d = u2Of (nAt m c (grp t)) := by
  rw [(dats m 0 c).before_out_traj 16 rfl (fun _ _ => rfl) ?_ t.val t rfl d]
  · rw [if_neg (by rw [fresh16 t]; simpa using h)]
    show u2Of (nAt m c (grp ⟨t.val - 1, _⟩)) = _
    rw [grp_pred t h]
  · intro t ht hi hf
    have h : t.val % 3 ≠ 0 := by rw [fresh16 t] at hf; simpa using hf
    show u2Of (nAt m c (grp t)) = u2Of (nAt m c (grp ⟨t.val - 1, _⟩))
    rw [grp_pred t h]

/-- A buffer stored at the sequence's last chunk only. -/
theorem leave_last (w : Fin cfg0.W) (t : Fin cfg0.N) (X d) (hi : cfg0.idle w (cfg0.grid.coords t) = !(k0_cond3 (grid0.coords t) == 1#1))
    (hf : (cfg0.win w).flush t = decide (t.val % 3 = 2)) (hl : cfg0.loose w = false) (ha : (dats m 0 c).after w t = X) :
    (dats m 0 c).Leaves w t (if k0_cond3 (grid0.coords t) = 1#1 then X else (dats m 0 c).before w t d) := by
  by_cases h : t.val % 3 = 2
  · have e := (cond3_iff t).mpr h
    rw [if_pos e, Dat.Leaves.live_iff _ (.inl (hi.trans (by rw [e]; rfl))), hl]
    exact ha.symm
  · have e := mt (cond3_iff t).mp h
    rw [if_neg e, Dat.Leaves.idle_iff _ (hi.trans (by simp [e])) (hf.trans (decide_eq_false h))]
    exact ⟨d, rfl⟩

/-- A buffer stored at the sequence's first chunk and written back after its last. -/
theorem leave_first (w : Fin cfg0.W) (t : Fin cfg0.N) (X d) (hi : cfg0.idle w (cfg0.grid.coords t) = !(k0_cond2 (grid0.coords t) == 1#1))
    (hf : (cfg0.win w).flush t = decide (t.val % 3 = 2)) (hl : cfg0.loose w = false) (ha : t.val % 3 = 0 → (dats m 0 c).after w t = X)
    (hb : t.val % 3 ≠ 0 → (dats m 0 c).before w t d = (dats m 0 c).after w t) :
    (dats m 0 c).Leaves w t (if k0_cond2 (grid0.coords t) = 1#1 then X else (dats m 0 c).before w t d) := by
  by_cases h : t.val % 3 = 0
  · have e := (cond2_iff t).mpr h
    rw [if_pos e, Dat.Leaves.live_iff _ (.inl (hi.trans (by rw [e]; rfl))), hl]
    exact (ha h).symm
  · have e := mt (cond2_iff t).mp h
    rw [if_neg e]
    by_cases h2 : t.val % 3 = 2
    · rw [Dat.Leaves.live_iff _ (.inr (hf.trans (decide_eq_true h2))), hl]
      exact hb h
    · rw [Dat.Leaves.idle_iff _ (hi.trans (by simp [e])) (hf.trans (decide_eq_false h2))]
      exact ⟨d, rfl⟩

/-- The body table's row at the point is the body. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body at a chunk: from the buffers as the chunk finds them to the buffers as it must leave them. -/
theorem body_at (t : Fin cfg0.N) :
    iprop(Inv m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d))
        ∗ (∃ d, owns (c : Thread nD τ) (st0_8 t) fullShare ((dats m 0 c).before 8 t d))
        ∗ (∃ d, owns (c : Thread nD τ) (st0_9 t) fullShare ((dats m 0 c).before 9 t d))
        ∗ (∃ d, owns (c : Thread nD τ) (st0_10 t) fullShare ((dats m 0 c).before 10 t d))
        ∗ (∃ d, owns (c : Thread nD τ) (st0_11 t) fullShare ((dats m 0 c).before 11 t d))
        ∗ (∃ d, owns (c : Thread nD τ) (st0_12 t) fullShare ((dats m 0 c).before 12 t d))
        ∗ (∃ d, owns (c : Thread nD τ) (st0_13 t) fullShare ((dats m 0 c).before 13 t d))
        ∗ (∃ d, owns (c : Thread nD τ) (st0_14 t) fullShare ((dats m 0 c).before 14 t d))
        ∗ (∃ d, owns (c : Thread nD τ) (st0_15 t) fullShare ((dats m 0 c).before 15 t d))
        ∗ (∃ d, owns (c : Thread nD τ) (st0_16 t) fullShare ((dats m 0 c).before 16 t d)))
      ⊢ wp frame (wpE (defs₀ (F := F)) Variants.none c none) Set.univ (bodyAt0 t) fun _ =>
        iprop(Inv m c (t.val + 1) ∗ (dats m 0 c).owesAt () t.succ
          ∗ (dats m 0 c).leaves 0 t
          ∗ (dats m 0 c).leaves 1 t
          ∗ (dats m 0 c).leaves 2 t
          ∗ (dats m 0 c).leaves 3 t
          ∗ (dats m 0 c).leaves 4 t
          ∗ (dats m 0 c).leaves 5 t
          ∗ (dats m 0 c).leaves 6 t
          ∗ (dats m 0 c).leaves 7 t
          ∗ (dats m 0 c).leaves 8 t
          ∗ (dats m 0 c).leaves 9 t
          ∗ (dats m 0 c).leaves 10 t
          ∗ (dats m 0 c).leaves 11 t
          ∗ (dats m 0 c).leaves 12 t
          ∗ (dats m 0 c).leaves 13 t
          ∗ (dats m 0 c).leaves 14 t
          ∗ (dats m 0 c).leaves 15 t
          ∗ (dats m 0 c).leaves 16 t) := by
  unfold Inv
  iintro ⟨⟨⟨%s, %hs, S0, S1, S2, S3, S4, S5⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hb := beg_eq m c t s hs
  have hx : Alike (grid0.coords t) (⟨(dats m 0 c).before 0 t d0, (dats m 0 c).before 1 t d1, (dats m 0 c).before 2 t d2,
      (dats m 0 c).before 3 t d3, (dats m 0 c).before 4 t d4, (dats m 0 c).before 5 t d5⟩ : Blocks F) (xs m c t) :=
    ⟨by rw [before0]; exact same_fill0 t _ _ _, by rw [before1]; exact same_fill1 t _ _ _, by rw [before2]; exact same_fill2 t _ _ _,
      by rw [before3]; exact same_fill3 t _ _ _, by rw [before4]; exact same_fill4 t _ _ _, by rw [before5]; exact same_fill5 t _ _ _⟩
  have e6 : (dats m 0 c).before 6 t d6 = iblk m c 6 t := before0_6_of m (dats m 0 c) rfl (fun _ => rfl) t d6
  have e7 : (dats m 0 c).before 7 t d7 = iblk m c 7 t := before0_7_of m (dats m 0 c) rfl (fun _ => rfl) t d7
  have e8 : (dats m 0 c).before 8 t d8 = iblk m c 8 t := before0_8_of m (dats m 0 c) rfl (fun _ => rfl) t d8
  have hn := hx.nrm (sAt m c t)
  have hg := hx.gOf (sAt m c t)
  have hy := hx.yOf (nAt m c t) (sAt m c t)
  rw [e6, e7, e8]
  iapply (sound c (grid0.coords t) _ _ _ _ _ _ _ _ _ _ _ _ _ _ _ _ _ _ _ _ _ _ _ _ _ _ _ _ _ _ _ _ _ _ _ _ _ _ _ _ _ _ _ _ _ _
    ((dats m 0 c).before 0 t d0) ((dats m 0 c).before 1 t d1) ((dats m 0 c).before 2 t d2) ((dats m 0 c).before 3 t d3) ((dats m 0 c).before 4 t d4) ((dats m 0 c).before 5 t d5) (iblk m c 6 t) (iblk m c 7 t) (iblk m c 8 t) ((dats m 0 c).before 9 t d9) ((dats m 0 c).before 10 t d10) ((dats m 0 c).before 11 t d11) ((dats m 0 c).before 12 t d12) ((dats m 0 c).before 13 t d13) ((dats m 0 c).before 14 t d14) ((dats m 0 c).before 15 t d15) ((dats m 0 c).before 16 t d16) s.w1 s.w3 s.w2 s.n1 s.n3 s.n2 _)
  unfold pre post
  rw [show begin (grid0.coords t) (iblk m c 6 t) (iblk m c 7 t) (iblk m c 8 t) ⟨s.w1, s.w3, s.w2, s.n1, s.n3, s.n2⟩ = sAt m c t from hb]
  dsimp only
  rw [hn, hg, show nrm (grid0.coords t) (xs m c t) (sAt m c t) = nAt m c t from rfl, hy]
  isplitl [H0 H1 H2 H3 H4 H5 H6 H7 H8 H9 H10 H11 H12 H13 H14 H15 H16 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [S0]; · iexact S0
    isplitl [S1]; · iexact S1
    isplitl [S2]; · iexact S2
    isplitl [S3]; · iexact S3
    isplitl [S4]; · iexact S4
    iexact S5
  iintro ⟨H0, H1, H2, H3, H4, H5, H6, H7, H8, H9, H10, H11, H12, H13, H14, H15, H16, S0, S1, S2, S3, S4, S5⟩
  isplitl [S0 S1 S2 S3 S4 S5 Hr]
  · isplitr [Hr]
    · iexists (next (nAt m c t) (sAt m c t))
      isplitr
      · ipureintro; exact fun _ => (scr_succ m c t).symm
      isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]; · iapply (leave m c 0 t _ (leave_in m c 0 t d0 (zf .fp8e4m3) (fetch0 t) rfl rfl rfl)); iexact H0
  isplitl [H1]; · iapply (leave m c 1 t _ (leave_in m c 1 t d1 (zf .f32) (fetch1 t) rfl rfl rfl)); iexact H1
  isplitl [H2]; · iapply (leave m c 2 t _ (leave_in m c 2 t d2 (zf .fp8e4m3) (fetch2 t) rfl rfl rfl)); iexact H2
  isplitl [H3]; · iapply (leave m c 3 t _ (leave_in m c 3 t d3 (zf .f32) (fetch3 t) rfl rfl rfl)); iexact H3
  isplitl [H4]; · iapply (leave m c 4 t _ (leave_in m c 4 t d4 (zf .bf16) (fetch4 t) rfl rfl rfl)); iexact H4
  isplitl [H5]; · iapply (leave m c 5 t _ (leave_in m c 5 t d5 (zf .f32) (fetch5 t) rfl rfl rfl)); iexact H5
  isplitl [H6]; · iapply (leave m c 6 t _ ((Dat.Leaves.live_iff _ (.inl rfl)).mpr rfl)); iexact H6
  isplitl [H7]; · iapply (leave m c 7 t _ ((Dat.Leaves.live_iff _ (.inl rfl)).mpr rfl)); iexact H7
  isplitl [H8]; · iapply (leave m c 8 t _ ((Dat.Leaves.live_iff _ (.inl rfl)).mpr rfl)); iexact H8
  isplitl [H9]; · iapply (leave m c 9 t _ ((Dat.Leaves.live_iff _ (.inl rfl)).mpr ⟨_, (Pipeline.Window.fill_cut _ _ _).symm⟩)); iexact H9
  isplitl [H10]; · iapply (leave m c 10 t _ ((Dat.Leaves.live_iff _ (.inl rfl)).mpr ⟨_, (Pipeline.Window.fill_cut _ _ _).symm⟩)); iexact H10
  isplitl [H11]; · iapply (leave m c 11 t _ (leave_last m c 11 t _ d11 rfl (flush11 t) rfl rfl)); iexact H11
  isplitl [H12]; · iapply (leave m c 12 t _ (leave_last m c 12 t _ d12 rfl (flush12 t) rfl rfl)); iexact H12
  isplitl [H13]; · iapply (leave m c 13 t _ (leave_last m c 13 t _ d13 rfl (flush13 t) rfl rfl)); iexact H13
  isplitl [H14]; · iapply (leave m c 14 t _ (leave_first m c 14 t _ d14 rfl (flush14 t) rfl (fun h => by show u1Of (nAt m c (grp t)) = _; rw [grp_of_zero t h]) (fun h => before14 m c t h d14))); iexact H14
  isplitl [H15]; · iapply (leave m c 15 t _ (leave_first m c 15 t _ d15 rfl (flush15 t) rfl (fun h => by show u3Of (nAt m c (grp t)) = _; rw [grp_of_zero t h]) (fun h => before15 m c t h d15))); iexact H15
  iapply (leave m c 16 t _ (leave_first m c 16 t _ d16 rfl (flush16 t) rfl (fun h => by show u2Of (nAt m c (grp t)) = _; rw [grp_of_zero t h]) (fun h => before16 m c t h d16))); iexact H16

/-- The body obligation. -/
theorem body_obligation : BodyObligationLoose (dats (F := F) m 0 c) (defs₀ (F := F)) Variants.none () Set.univ := fun t => by
  rw [bigSep_W0, bigSep_W0, defs₀_row]
  exact body_at m c t

/-! ## The launch -/

theorem hin : Pipeline.ΦA (cfgs 0).spec c ⊢ ((dats (F := F) m 0 c).Φ 0 : sProp 𝕄) := by
  show Pipeline.ΦA spec0 c ⊢ Inv m c 0
  unfold Pipeline.ΦA Inv
  rw [scopedRest0_eq]
  simp only [owns_whole]
  iintro ⟨⟨⟨%f0, S0⟩, ⟨%f1, S1⟩, ⟨%f2, S2⟩, ⟨%f3, S3⟩, ⟨%f4, S4⟩, ⟨%f5, S5⟩⟩, Hr⟩
  isplitr [Hr]
  · iexists (⟨f0, f1, f2, f3, f4, f5⟩ : Scr F)
    isplitr
    · ipureintro; exact fun h => absurd rfl h
    isplitl [S0]; · iexact S0
    isplitl [S1]; · iexact S1
    isplitl [S2]; · iexact S2
    isplitl [S3]; · iexact S3
    isplitl [S4]; · iexact S4
    iexact S5
  iexact Hr

theorem hout : ((dats (F := F) m 0 c).Φ (Fin.last (cfgs 0).N) : sProp 𝕄) ⊢ Pipeline.ΦA (cfgs 0).spec c := by
  show Inv m c _ ⊢ Pipeline.ΦA spec0 c
  unfold Pipeline.ΦA Inv
  rw [scopedRest0_eq]
  simp only [owns_whole]
  iintro ⟨⟨%s, -, S0, S1, S2, S3, S4, S5⟩, Hr⟩
  isplitr [Hr]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hr

set_option backward.isDefEq.respectTransparency.types false in
/-- Every execution ends, with every array at what the run leaves in it and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => body_obligation m c) (hshare := fun c => (dats m 0 c).share_full fun _ => rfl)
    (howed := fun _ _ => rfl) (V₀ := V0 m) (opss := [hostOps1]) sfx_sub sfx_fresh sfx_keeps (hmain := hmain m Variants.none)
    (hA := fun c => A_eq m c) (hin := fun c => hin m c) (hout := fun c => hout m c)
    (Q' := fun r => Pipeline.FramePost cfgs (dats m) 0 (Pipeline.afterTail₀ cfgs (dats m) 0 (V0 m) [hostOps1]) r ∧ r.2.sem = fun _ => 0) (hQ' := fun _ h => h)

/-- The arguments after the run. -/
theorem args_of {r : PUnit × MemSt nD τ sig (Elt F)}
    (h : Pipeline.FramePost cfgs (dats (F := F) m) 0 (Pipeline.afterTail₀ cfgs (dats m) 0 (V0 m) [hostOps1]) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c)))⟩

/-- Every execution ends, with the arguments as they were and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => args_of m c h.1, h.2⟩) (run_main m ρ)

end Cert.Kernel.Run

end
-- ==== Proof.Body.lean ====
/- The kernel's body as memory operations around one pure value, the normalisation. -/
module

public import proofs.«01_k».proof.Proof.Gen.KernelIdeal.Skeleton

@[expose] public section

set_option synthInstance.maxSize 4096
set_option maxRecDepth 65536

noncomputable section

namespace Cert.KernelIdeal.Run

open Idealize.ShloMosaic Idealize.SL.Sem Cert.KernelIdeal Cert.KernelIdeal.Gen

variable {F : FTy → Type} [FloatOps F] [Named F]

/-- What the first half of the normalisation leaves for the second: the iterates and their limbs. -/
structure Half (F : FTy → Type) where
  v732 : FVec F S256x640 .f32
  v745 : FVec F S256x640 .f32
  v758 : FVec F S256x640 .f32
  v759 : FVec F S256x640 .bf16
  v762 : FVec F S256x640 .bf16
  v765 : FVec F S256x640 .bf16
  v766 : FVec F S256x640 .bf16
  v769 : FVec F S256x640 .bf16
  v772 : FVec F S256x640 .bf16

/-- What the normalisation leaves for the end of the body. -/
structure Norm (F : FTy → Type) where
  v745 : FVec F S256x640 .f32
  v758 : FVec F S256x640 .f32
  v766 : FVec F S256x640 .bf16
  v769 : FVec F S256x640 .bf16
  v772 : FVec F S256x640 .bf16
  v773 : FVec F S256x640 .bf16
  v776 : FVec F S256x640 .bf16
  v779 : FVec F S256x640 .bf16
  v1103 : FVec F S256x256 .f32
  v1109 : FVec F S256x256 .f32
  v1111 : FVec F S256x640 .f32
  v1121 : FVec F S256x640 .f32

/-- The first three steps of the normalisation, from the three gradients. -/
noncomputable def half (v117 v118 v119 : FVec F S256x640 .f32) (v121 : FVec F S1x256x640 .f32) : Half F :=
  let v129 : FVec F S256x640 .f32 := k0_pay35 v117 v121
  let v139 : FVec F S256x640 .f32 := k0_pay36 v118
  let v149 : FVec F S256x640 .f32 := k0_pay37 v119
  let v150 : FVec F S256x640 .bf16 := k0_pay38 v117 v121
  let v153 : FVec F S256x640 .bf16 := k0_pay40 v117 v121
  let v156 : FVec F S256x640 .bf16 := k0_pay41 v117 v121
  let v157 : FVec F S256x640 .bf16 := k0_pay42 v118
  let v160 : FVec F S256x640 .bf16 := k0_pay44 v118
  let v163 : FVec F S256x640 .bf16 := k0_pay45 v118
  let v164 : FVec F S256x640 .bf16 := k0_pay46 v119
  let v167 : FVec F S256x640 .bf16 := k0_pay48 v119
  let v170 : FVec F S256x640 .bf16 := k0_pay49 v119
  let v171 : FVec F S256x640 .bf16 := k0_pay50 (F := F)
  let v179 : FVec F S256x256 .f32 := k0_pay51 v150 v153 v156 v171
  let v188 : FVec F S256x256 .f32 := k0_pay52 v157 v160 v163
  let v197 : FVec F S256x256 .f32 := k0_pay53 v164 v167 v170
  let v198 : FVec F S256x256 .bf16 := k0_pay54 v150 v153 v156 v171
  let v201 : FVec F S256x256 .bf16 := k0_pay56 v150 v153 v156 v171
  let v204 : FVec F S256x256 .bf16 := k0_pay57 v150 v153 v156 v171
  let v205 : FVec F S256x256 .bf16 := k0_pay58 v157 v160 v163
  let v208 : FVec F S256x256 .bf16 := k0_pay60 v157 v160 v163
  let v211 : FVec F S256x256 .bf16 := k0_pay61 v157 v160 v163
  let v212 : FVec F S256x256 .bf16 := k0_pay62 v164 v167 v170
  let v215 : FVec F S256x256 .bf16 := k0_pay64 v164 v167 v170
  let v218 : FVec F S256x256 .bf16 := k0_pay65 v164 v167 v170
  let v220 : FVec F S256x256 .bf16 := k0_pay66 v150 v153 v156 v171
  let v221 : FVec F S256x256 .bf16 := k0_pay67 (F := F)
  let v250 : FVec F S256x256 .f32 := k0_pay68 v179 v198 v201 v204 v220 v221
  let v255 : FVec F S256x256 .f32 := k0_pay69 v188 v205 v208 v211
  let v260 : FVec F S256x256 .f32 := k0_pay70 v197 v212 v215 v218
  let v261 : FVec F S256x256 .bf16 := k0_pay71 v179 v198 v201 v204 v220 v221
  let v264 : FVec F S256x256 .bf16 := k0_pay73 v179 v198 v201 v204 v220 v221
  let v267 : FVec F S256x256 .bf16 := k0_pay74 v179 v198 v201 v204 v220 v221
  let v268 : FVec F S256x256 .bf16 := k0_pay75 v188 v205 v208 v211
  let v299 : FVec F S256x256 .f32 := k0_pay76 v255 v268
  let v308 : FVec F S256x256 .f32 := k0_pay77 v260
  let v312 : FVec F S256x256 .bf16 := k0_pay79 v250 v261 v264 v267
  let v315 : FVec F S256x256 .bf16 := k0_pay81 v250 v261 v264 v267
  let v318 : FVec F S256x256 .bf16 := k0_pay82 v250 v261 v264 v267
  let v360 : FVec F S256x256 .f32 := k0_pay83 v179 v198 v201 v204 v312 v315 v318
  let v364 : FVec F S256x256 .f32 := k0_pay84 v188 v205 v208 v211 v255 v299
  let v366 : FVec F S256x256 .f32 := k0_pay85 v197 v212 v215 v218 v260 v308
  let v367 : FVec F S256x256 .f32 := k0_pay86 (F := F)
  let v368 : FVec F S256x256 .f32 := k0_pay87 v366 v367
  let v369 : FVec F S256x256 .bf16 := k0_pay88 v360
  let v372 : FVec F S256x256 .bf16 := k0_pay90 v360
  let v375 : FVec F S256x256 .bf16 := k0_pay91 v360
  let v376 : FVec F S256x256 .bf16 := k0_pay92 v364
  let v379 : FVec F S256x256 .bf16 := k0_pay94 v364
  let v382 : FVec F S256x256 .bf16 := k0_pay95 v364
  let v383 : FVec F S256x256 .bf16 := k0_pay96 v366 v367
  let v386 : FVec F S256x256 .bf16 := k0_pay98 v366 v367
  let v389 : FVec F S256x256 .bf16 := k0_pay99 v366 v367
  let v398 : FVec F S256x256 .f32 := k0_pay100 v360
  let v407 : FVec F S256x256 .f32 := k0_pay101 v364
  let v416 : FVec F S256x256 .f32 := k0_pay102 v366 v367
  let v417 : FVec F S256x256 .f32 := k0_pay103 (F := F)
  let v421 : FVec F S256x256 .f32 := k0_pay104 v360 v398 v417
  let v426 : FVec F S256x256 .f32 := k0_pay105 v364 v407
  let v431 : FVec F S256x256 .f32 := k0_pay106 v368 v416
  let v432 : FVec F S256x256 .bf16 := k0_pay107 v360 v398 v417
  let v435 : FVec F S256x256 .bf16 := k0_pay109 v360 v398 v417
  let v438 : FVec F S256x256 .bf16 := k0_pay110 v360 v398 v417
  let v439 : FVec F S256x256 .bf16 := k0_pay111 v364 v407
  let v442 : FVec F S256x256 .bf16 := k0_pay113 v364 v407
  let v445 : FVec F S256x256 .bf16 := k0_pay114 v364 v407
  let v446 : FVec F S256x256 .bf16 := k0_pay115 v368 v416
  let v449 : FVec F S256x256 .bf16 := k0_pay117 v368 v416
  let v452 : FVec F S256x256 .bf16 := k0_pay118 v368 v416
  let v462 : FVec F S256x256 .f32 := k0_pay119 v250 v360 v398 v417
  let v470 : FVec F S256x1536 .bf16 := k0_pay120 v364 v407
  let v471 : FVec F S1536x256 .bf16 := k0_pay121 v255
  let v488 : FVec F S256x256 .f32 := k0_pay122 v250 v421 v462
  let v494 : FVec F S256x256 .f32 := k0_pay123 v255 v426 v470 v471
  let v500 : FVec F S256x256 .f32 := k0_pay124 v260 v431 v446 v449 v452
  let v509 : FVec F S256x256 .f32 := k0_pay125 v432 v435 v438
  let v516 : FVec F S256x256 .f32 := k0_pay126 v439 v442 v445
  let v517 : FVec F S256x256 .f32 := k0_pay127 v439 v442 v445
  let cst_141 : FVec F S256x256 .f32 := constant S256x256 .f32 0x00000000#32
  let v551 : FVec F S256x256 .bf16 := k0_pay129 v431 v446 v449 v452
  let v554 : FVec F S256x256 .bf16 := k0_pay131 v431 v446 v449 v452
  let v557 : FVec F S256x256 .bf16 := k0_pay132 v431 v446 v449 v452
  let v563 : FVec F S256x256 .f32 := k0_pay133 v360 v369 v372 v375 v421 v509
  let v565 : FVec F S256x256 .f32 := k0_pay134 v364
  let v566 : FVec F S256x1536 .bf16 := k0_pay135 v376 v379 v382
  let v567 : FVec F S1536x256 .bf16 := k0_pay136 v426 v516 v517
  let v579 : FVec F S256x256 .f32 := k0_pay137 v563
  let v583 : FVec F S256x256 .f32 := k0_pay138 v565 v566 v567 cst_141
  let v587 : FVec F S256x256 .f32 := k0_pay139 v368 v383 v386 v389 v551 v554 v557
  let v595 : FVec F S256x256 .bf16 := k0_pay140 v565 v566 v567 cst_141
  let v598 : FVec F S256x256 .bf16 := k0_pay142 v565 v566 v567 cst_141
  let v601 : FVec F S256x256 .bf16 := k0_pay143 v565 v566 v567 cst_141
  let v602 : FVec F S256x256 .bf16 := k0_pay144 v368 v383 v386 v389 v551 v554 v557
  let v605 : FVec F S256x256 .bf16 := k0_pay146 v368 v383 v386 v389 v551 v554 v557
  let v608 : FVec F S256x256 .bf16 := k0_pay147 v368 v383 v386 v389 v551 v554 v557
  let v617 : FVec F S256x256 .f32 := k0_pay148 v563
  let v618 : FVec F S256x256 .bf16 := k0_pay149 (F := F)
  let v640 : FVec F S256x256 .f32 := k0_pay150 v579 v617
  let v645 : FVec F S256x256 .f32 := k0_pay151 v583 v595 v598 v601 v618
  let v650 : FVec F S256x256 .f32 := k0_pay152 v587 v602 v605 v608
  let v651 : FVec F S256x256 .bf16 := k0_pay153 v579 v617
  let v654 : FVec F S256x256 .bf16 := k0_pay155 v579 v617
  let v657 : FVec F S256x256 .bf16 := k0_pay156 v579 v617
  let v658 : FVec F S256x256 .bf16 := k0_pay157 v583 v595 v598 v601 v618
  let v661 : FVec F S256x256 .bf16 := k0_pay159 v583 v595 v598 v601 v618
  let v664 : FVec F S256x256 .bf16 := k0_pay160 v583 v595 v598 v601 v618
  let v665 : FVec F S256x256 .bf16 := k0_pay161 v587 v602 v605 v608
  let v667 : FVec F S256x256 .f32 := k0_pay162 v587 v602 v605 v608
  let v701 : FVec F S256x256 .f32 := k0_pay163 v500 v665 v667
  let v707 : FVec F S256x256 .f32 := k0_pay164 v488 v640 v651 v654 v657
  let v713 : FVec F S256x256 .f32 := k0_pay165 v494 v645 v658 v661 v664
  let v718 : FVec F S256x256 .f32 := k0_pay166 v500 v650
  let v732 : FVec F S256x640 .f32 := k0_pay167 v129 v150 v153 v156 v707
  let v745 : FVec F S256x640 .f32 := k0_pay168 v139 v157 v160 v163 v713
  let v758 : FVec F S256x640 .f32 := k0_pay169 v149 v164 v167 v170 v701 v718
  let v759 : FVec F S256x640 .bf16 := k0_pay170 v129 v150 v153 v156 v707
  let v762 : FVec F S256x640 .bf16 := k0_pay172 v129 v150 v153 v156 v707
  let v765 : FVec F S256x640 .bf16 := k0_pay173 v129 v150 v153 v156 v707
  let v766 : FVec F S256x640 .bf16 := k0_pay174 v139 v157 v160 v163 v713
  let v769 : FVec F S256x640 .bf16 := k0_pay176 v139 v157 v160 v163 v713
  let v772 : FVec F S256x640 .bf16 := k0_pay177 v139 v157 v160 v163 v713
  ⟨v732, v745, v758, v759, v762, v765, v766, v769, v772⟩

/-- The last two steps of the normalisation. -/
noncomputable def norm (m : Half F) : Norm F :=
  let v732 := m.v732
  let v745 := m.v745
  let v758 := m.v758
  let v759 := m.v759
  let v762 := m.v762
  let v765 := m.v765
  let v766 := m.v766
  let v769 := m.v769
  let v772 := m.v772
  let v773 : FVec F S256x640 .bf16 := k0_pay178 v758
  let v776 : FVec F S256x640 .bf16 := k0_pay180 v758
  let v779 : FVec F S256x640 .bf16 := k0_pay181 v758
  let v788 : FVec F S256x256 .f32 := k0_pay182 v759 v762 v765
  let v797 : FVec F S256x256 .f32 := k0_pay183 v766 v769 v772
  let v806 : FVec F S256x256 .f32 := k0_pay184 v758
  let v807 : FVec F S256x256 .bf16 := k0_pay185 v759 v762 v765
  let v810 : FVec F S256x256 .bf16 := k0_pay187 v759 v762 v765
  let v813 : FVec F S256x256 .bf16 := k0_pay188 v759 v762 v765
  let v814 : FVec F S256x256 .bf16 := k0_pay189 v766 v769 v772
  let v817 : FVec F S256x256 .bf16 := k0_pay191 v766 v769 v772
  let v820 : FVec F S256x256 .bf16 := k0_pay192 v766 v769 v772
  let v821 : FVec F S256x256 .bf16 := k0_pay193 v758
  let v823 : FVec F S256x256 .f32 := k0_pay194 v758
  let v824 : FVec F S256x256 .bf16 := k0_pay195 v823
  let v827 : FVec F S256x256 .bf16 := k0_pay196 v823
  let v859 : FVec F S256x256 .f32 := k0_pay197 v788 v807 v810 v813
  let v864 : FVec F S256x256 .f32 := k0_pay198 v797 v814 v817 v820
  let v866 : FVec F S256x256 .f32 := k0_pay199 v806
  let v868 : FVec F S256x256 .f32 := k0_pay200 v821 v823
  let v869 : FVec F S256x256 .f32 := k0_pay201 v866 v868
  let v899 : FVec F S256x256 .f32 := k0_pay202 v859
  let v908 : FVec F S256x256 .f32 := k0_pay203 v864
  let v917 : FVec F S256x256 .f32 := k0_pay204 v866 v868
  let v918 : FVec F S256x256 .f32 := k0_pay205 (F := F)
  let v959 : FVec F S256x256 .f32 := k0_pay206 v797 v814 v817 v820 v864 v908
  let v965 : FVec F S256x256 .f32 := k0_pay207 v806 v821 v824 v827 v869 v917
  let v969 : FVec F S256x256 .f32 := k0_pay208 v788 v807 v810 v813 v859 v899 v918
  let v973 : FVec F S256x256 .f32 := k0_pay209 v959
  let v977 : FVec F S256x256 .f32 := k0_pay210 v965
  let v992 : FVec F S256x256 .bf16 := k0_pay211 v965
  let v995 : FVec F S256x256 .bf16 := k0_pay213 v965
  let v998 : FVec F S256x256 .bf16 := k0_pay214 v965
  let v1007 : FVec F S256x256 .f32 := k0_pay215 v969
  let v1016 : FVec F S256x256 .f32 := k0_pay216 v959
  let v1018 : FVec F S256x256 .bf16 := k0_pay217 v965
  let v1019 : FVec F S256x256 .bf16 := k0_pay218 (F := F)
  let v1030 : FVec F S256x256 .f32 := k0_pay219 v969 v1007
  let v1035 : FVec F S256x256 .f32 := k0_pay220 v973 v1016
  let v1040 : FVec F S256x256 .f32 := k0_pay221 v977 v992 v995 v998 v1018 v1019
  let v1048 : FVec F S256x256 .bf16 := k0_pay222 v973 v1016
  let v1051 : FVec F S256x256 .bf16 := k0_pay224 v973 v1016
  let v1054 : FVec F S256x256 .bf16 := k0_pay225 v973 v1016
  let v1055 : FVec F S256x256 .bf16 := k0_pay226 v977 v992 v995 v998 v1018 v1019
  let v1058 : FVec F S256x256 .bf16 := k0_pay228 v977 v992 v995 v998 v1018 v1019
  let v1061 : FVec F S256x256 .bf16 := k0_pay229 v977 v992 v995 v998 v1018 v1019
  let v1071 : FVec F S256x256 .f32 := k0_pay230 v859 v969 v1007
  let v1103 : FVec F S256x256 .f32 := k0_pay231 v864 v1035 v1048 v1051 v1054
  let v1109 : FVec F S256x256 .f32 := k0_pay232 v869 v1040 v1055 v1058 v1061
  let v1111 : FVec F S256x640 .f32 := k0_pay233 v732
  let v1121 : FVec F S256x640 .f32 := k0_pay234 v759 v762 v765 v859 v1030 v1071
  ⟨v745, v758, v766, v769, v772, v773, v776, v779, v1103, v1109, v1111, v1121⟩

/-- The body with its middle, the normalisation, as one value. -/
noncomputable def body (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) :
    Prog (TpuEff nD τ sig (Elt F) Λ₀ .tc) PUnit := do
  let ⟨arg2, v7, v18, v29, v31, v36, v37⟩ ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25
  let ⟨v40, v48, v56, v63, v68, v73, v76, cst_33⟩ ← k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 v18 v31 v36 v37
  let ⟨v117, v118, v119, v121⟩ ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v18 v29 v48 v63 v68 v73 v76 cst_33
  let m := norm (half v117 v118 v119 v121)
  let ⟨v1148, v1163, v1165⟩ ← k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 m.v745 m.v758 m.v766 m.v769 m.v772 m.v773 m.v776 m.v779 m.v1103 m.v1109 m.v1111 m.v1121
  let ⟨v1175, v1187, v1203⟩ ← k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v40 v56 v1148 v1163 v1165
  let v1219 : Vec F S1x384x256 .bf16 ← Prog.lift (.load arg12 (Rect.unit (s := S1x384x256) ![0, 0, 0] S1x384x256.size inb_S1x384x256_S1x384x256_0_0_0).toLoadRect (View.loadsAt_vmem h_S1x384x256))

  Prog.lift (.store arg12 (Rect.unit (s := S1x384x256) ![0, 0, 0] S1x384x256.size inb_S1x384x256_S1x384x256_0_0_0) (k0_pay1 v40 v56 v1175 v1187 v1203) Finset.univ (View.stores_vmem h_S1x384x256 (harg12.storeExact_slice rfl _ packedbf16_S1x384x256_S1x384x256_0_0_0) (fun _ => rfl)) (.inl rfl))
  pure ⟨⟩

/-- The printed body is that. -/
theorem body_eq : cc0_lact (F := F) = body (F := F) := rfl

end Cert.KernelIdeal.Run

end
-- ==== Proof.Sound.lean ====
/-
  The body of the idealized kernel does what the pure functions say: one lemma for each stretch of its operations, and the
  whole body put together.
-/
module

public import proofs.«01_k».proof.Proof.Body
public import proofs.«01_k».proof.Proof.Gen.KernelIdeal.Frame
public import Idealize.ShloMosaic.Lib.Tactic
public import Idealize.ShloMosaic.Lib.Pipeline.Frame
public import Idealize.ShloMosaic.Lib.VecWindow

@[expose] public section

set_option synthInstance.maxSize 4096
set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The scratch buffers' contents: the three weight matrices and the norms of their lines. -/
structure Scr (F : FTy → Type) where
  w1 : Vec F S256x640 .f32
  w3 : Vec F S256x640 .f32
  w2 : Vec F S256x640 .f32
  n1 : Vec F S1x640 .f32
  n3 : Vec F S1x640 .f32
  n2 : Vec F S256x1 .f32

/-- The blocks of a chunk the body reads: codes and scales of the queries and of the keys, the values, the rates. -/
structure Blocks (F : FTy → Type) where
  q : Vec F S1x384x256 .fp8e4m3
  qs : Vec F S1x384x12 .f32
  k : Vec F S1x384x256 .fp8e4m3
  ks : Vec F S1x384x12 .f32
  v : Vec F S1x384x256 .bf16
  lr : Vec F S1x384x12 .f32

/-- The scratch as the first chunk of a sequence fills it from the three weights. -/
noncomputable def fresh (x9 x10 : Vec F S1x640x256 .f32) (x11 : Vec F S1x256x640 .f32) : Scr F :=
  ⟨k0_pay5 x9, k0_pay6 x10, k0_pay7 x11, k0_pay8 x9, k0_pay9 x10, k0_pay11 (k0_pay10 x11)⟩

/-- The scratch as the chunk uses it: filled anew at the first chunk, else as the chunk before left it. -/
noncomputable def begin (i : grid0.Coords) (x9 x10 : Vec F S1x640x256 .f32) (x11 : Vec F S1x256x640 .f32) (s : Scr F) : Scr F :=
  if k0_cond2 i = 1#1 then fresh x9 x10 x11 else s

/-- The key scales, the rates and the query scales of the head, and the masked keys, queries and values. -/
noncomputable def vks (i : grid0.Coords) (x : Blocks F) : FVec F S384x1 .f32 := k0_pay13 i x.ks
noncomputable def vlr (i : grid0.Coords) (x : Blocks F) : FVec F S384x1 .f32 := k0_pay14 i x.lr
noncomputable def vqs (i : grid0.Coords) (x : Blocks F) : FVec F S384x1 .f32 := k0_pay18 (k0_pay15 x.qs) (k0_pay16 i) (k0_pay17 (F := F))
noncomputable def vk (i : grid0.Coords) (x : Blocks F) : FVec F S384x256 .bf16 := k0_pay19 (k0_pay12 i) x.k
noncomputable def vq (i : grid0.Coords) (x : Blocks F) : FVec F S384x256 .bf16 := k0_pay20 (k0_pay12 i) x.q
noncomputable def vv (i : grid0.Coords) (x : Blocks F) : FVec F S384x256 .f32 := k0_pay21 (k0_pay12 i) x.v
/-- The two hidden layers, and the exponential of the first one's opposite. -/
noncomputable def h1 (i : grid0.Coords) (x : Blocks F) (s : Scr F) : FVec F S384x640 .f32 := k0_pay22 (k0_pay12 i) (vks i x) x.k s.w1
noncomputable def h3 (i : grid0.Coords) (x : Blocks F) (s : Scr F) : FVec F S384x640 .f32 := k0_pay23 (k0_pay12 i) (vks i x) x.k s.w3
noncomputable def ex (i : grid0.Coords) (x : Blocks F) (s : Scr F) : FVec F S384x640 .f32 := k0_pay24 (k0_pay12 i) (vks i x) x.k s.w1
/-- The constant one. -/
noncomputable def one : F .f32 := Scalar.ofBits .f32 0x3F800000#32
/-- The gated hidden layer, as it is stored. -/
noncomputable def gOf (i : grid0.Coords) (x : Blocks F) (s : Scr F) : FVec F S1x384x640 .bf16 := k0_pay28 (h1 i x s) (h3 i x s) (ex i x s) one
/-- The three gradients, and the first one's square. -/
noncomputable def g1 (i : grid0.Coords) (x : Blocks F) (s : Scr F) : FVec F S256x640 .f32 :=
  k0_pay31 (vks i x) (vlr i x) (vk i x) (vv i x) (h1 i x s) (h3 i x s) (ex i x s) one s.w2
noncomputable def g3 (i : grid0.Coords) (x : Blocks F) (s : Scr F) : FVec F S256x640 .f32 :=
  k0_pay32 (vks i x) (vlr i x) (vk i x) (vv i x) (h1 i x s) (ex i x s) one s.w2
noncomputable def g2 (i : grid0.Coords) (x : Blocks F) (s : Scr F) : FVec F S256x640 .f32 :=
  k0_pay33 (vlr i x) (vv i x) (h1 i x s) (h3 i x s) (ex i x s) one
noncomputable def sq1 (i : grid0.Coords) (x : Blocks F) (s : Scr F) : FVec F S1x256x640 .f32 :=
  k0_pay34 (vks i x) (vlr i x) (vk i x) (vv i x) (h1 i x s) (h3 i x s) (ex i x s) one s.w2
/-- The normalisation of the chunk's gradients. -/
noncomputable def nrm (i : grid0.Coords) (x : Blocks F) (s : Scr F) : Norm F := norm (half (g1 i x s) (g3 i x s) (g2 i x s) (sq1 i x s))
/-- The three updates as they are stored. -/
noncomputable def u1Of (n : Norm F) : FVec F S1x1x640x256 .f32 := k0_pay238 n.v1111 n.v1121
noncomputable def u3Of (n : Norm F) : FVec F S1x1x640x256 .f32 := k0_pay239 n.v745 n.v766 n.v769 n.v772 n.v1103
noncomputable def u2Of (n : Norm F) : FVec F S1x1x256x640 .f32 := k0_pay240 n.v758 n.v773 n.v776 n.v779 n.v1109
/-- The second update; the first weights renormalised; the third weights less their update. -/
noncomputable def u2 (n : Norm F) : FVec F S256x640 .f32 := k0_pay237 n.v758 n.v773 n.v776 n.v779 n.v1109
noncomputable def m1 (n : Norm F) (s : Scr F) : FVec F S256x640 .f32 := k0_pay241 n.v1111 n.v1121 s.w1 s.n1
noncomputable def d3 (n : Norm F) (s : Scr F) : FVec F S256x640 .f32 := k0_pay242 n.v745 n.v766 n.v769 n.v772 n.v1103 s.w3
/-- The scratch after the chunk. -/
noncomputable def next (n : Norm F) (s : Scr F) : Scr F :=
  ⟨k0_pay245 (m1 n s), k0_pay246 (d3 n s) s.n3, k0_pay247 (u2 n) s.w2 s.n2, s.n1, s.n3, s.n2⟩
/-- The three weights as the last chunk stores them. -/
noncomputable def w1Of (n : Norm F) (s : Scr F) : FVec F S1x1x640x256 .f32 := k0_pay248 (m1 n s)
noncomputable def w3Of (n : Norm F) (s : Scr F) : FVec F S1x1x640x256 .f32 := k0_pay249 (d3 n s) s.n3
noncomputable def w2Of (n : Norm F) (s : Scr F) : FVec F S1x1x256x640 .f32 := k0_pay250 (u2 n) s.w2 s.n2
/-- The chunk's result, as it is stored. -/
noncomputable def yOf (i : grid0.Coords) (x : Blocks F) (n : Norm F) (s : Scr F) : FVec F S1x384x256 .bf16 :=
  k0_pay1 (vqs i x) (vq i x) (k0_pay243 (d3 n s) s.n3) (k0_pay244 (u2 n) s.w2 s.n2) (k0_pay251 (vqs i x) (vq i x) (m1 n s))

/-- What the body is called with: every buffer owned at some contents. -/
def pre (c : Dev nD) (arg3 : Memref sig .tc .vmem S1x384x256 .fp8e4m3) (arg4 : Memref sig .tc .vmem S1x384x12 .f32) (arg5 : Memref sig .tc .vmem S1x384x256 .fp8e4m3) (arg6 : Memref sig .tc .vmem S1x384x12 .f32) (arg7 : Memref sig .tc .vmem S1x384x256 .bf16) (arg8 : Memref sig .tc .vmem S1x384x12 .f32) (arg9 : Memref sig .tc .vmem S1x640x256 .f32) (arg10 : Memref sig .tc .vmem S1x640x256 .f32) (arg11 : Memref sig .tc .vmem S1x256x640 .f32) (arg12 : Memref sig .tc .vmem S1x384x256 .bf16) (arg13 : Memref sig .tc .vmem S1x384x640 .bf16) (arg14 : Memref sig .tc .vmem S1x1x640x256 .f32) (arg15 : Memref sig .tc .vmem S1x1x640x256 .f32) (arg16 : Memref sig .tc .vmem S1x1x256x640 .f32) (arg17 : Memref sig .tc .vmem S1x1x640x256 .f32) (arg18 : Memref sig .tc .vmem S1x1x640x256 .f32) (arg19 : Memref sig .tc .vmem S1x1x256x640 .f32) (arg20 : Memref sig .tc .vmem S256x640 .f32) (arg21 : Memref sig .tc .vmem S256x640 .f32) (arg22 : Memref sig .tc .vmem S256x640 .f32) (arg23 : Memref sig .tc .vmem S1x640 .f32) (arg24 : Memref sig .tc .vmem S1x640 .f32) (arg25 : Memref sig .tc .vmem S256x1 .f32)
    (X3 : Vec F S1x384x256 .fp8e4m3) (X4 : Vec F S1x384x12 .f32) (X5 : Vec F S1x384x256 .fp8e4m3) (X6 : Vec F S1x384x12 .f32) (X7 : Vec F S1x384x256 .bf16) (X8 : Vec F S1x384x12 .f32) (X9 : Vec F S1x640x256 .f32) (X10 : Vec F S1x640x256 .f32) (X11 : Vec F S1x256x640 .f32) (X12 : Vec F S1x384x256 .bf16) (X13 : Vec F S1x384x640 .bf16) (X14 : Vec F S1x1x640x256 .f32) (X15 : Vec F S1x1x640x256 .f32) (X16 : Vec F S1x1x256x640 .f32) (X17 : Vec F S1x1x640x256 .f32) (X18 : Vec F S1x1x640x256 .f32) (X19 : Vec F S1x1x256x640 .f32) (X20 : Vec F S256x640 .f32) (X21 : Vec F S256x640 .f32) (X22 : Vec F S256x640 .f32) (X23 : Vec F S1x640 .f32) (X24 : Vec F S1x640 .f32) (X25 : Vec F S256x1 .f32) : sProp 𝕄 :=
  iprop(owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare X12
    ∗ owns (c : Thread nD τ) arg13 fullShare X13
    ∗ owns (c : Thread nD τ) arg14 fullShare X14
    ∗ owns (c : Thread nD τ) arg15 fullShare X15
    ∗ owns (c : Thread nD τ) arg16 fullShare X16
    ∗ owns (c : Thread nD τ) arg17 fullShare X17
    ∗ owns (c : Thread nD τ) arg18 fullShare X18
    ∗ owns (c : Thread nD τ) arg19 fullShare X19
    ∗ owns (c : Thread nD τ) arg20 fullShare X20
    ∗ owns (c : Thread nD τ) arg21 fullShare X21
    ∗ owns (c : Thread nD τ) arg22 fullShare X22
    ∗ owns (c : Thread nD τ) arg23 fullShare X23
    ∗ owns (c : Thread nD τ) arg24 fullShare X24
    ∗ owns (c : Thread nD τ) arg25 fullShare X25)

/-- What it returns with: the results at what the chunk computes, the scratch carried on, the rest as it was. -/
def post (c : Dev nD) (i : grid0.Coords) (arg3 : Memref sig .tc .vmem S1x384x256 .fp8e4m3) (arg4 : Memref sig .tc .vmem S1x384x12 .f32) (arg5 : Memref sig .tc .vmem S1x384x256 .fp8e4m3) (arg6 : Memref sig .tc .vmem S1x384x12 .f32) (arg7 : Memref sig .tc .vmem S1x384x256 .bf16) (arg8 : Memref sig .tc .vmem S1x384x12 .f32) (arg9 : Memref sig .tc .vmem S1x640x256 .f32) (arg10 : Memref sig .tc .vmem S1x640x256 .f32) (arg11 : Memref sig .tc .vmem S1x256x640 .f32) (arg12 : Memref sig .tc .vmem S1x384x256 .bf16) (arg13 : Memref sig .tc .vmem S1x384x640 .bf16) (arg14 : Memref sig .tc .vmem S1x1x640x256 .f32) (arg15 : Memref sig .tc .vmem S1x1x640x256 .f32) (arg16 : Memref sig .tc .vmem S1x1x256x640 .f32) (arg17 : Memref sig .tc .vmem S1x1x640x256 .f32) (arg18 : Memref sig .tc .vmem S1x1x640x256 .f32) (arg19 : Memref sig .tc .vmem S1x1x256x640 .f32) (arg20 : Memref sig .tc .vmem S256x640 .f32) (arg21 : Memref sig .tc .vmem S256x640 .f32) (arg22 : Memref sig .tc .vmem S256x640 .f32) (arg23 : Memref sig .tc .vmem S1x640 .f32) (arg24 : Memref sig .tc .vmem S1x640 .f32) (arg25 : Memref sig .tc .vmem S256x1 .f32)
    (X3 : Vec F S1x384x256 .fp8e4m3) (X4 : Vec F S1x384x12 .f32) (X5 : Vec F S1x384x256 .fp8e4m3) (X6 : Vec F S1x384x12 .f32) (X7 : Vec F S1x384x256 .bf16) (X8 : Vec F S1x384x12 .f32) (X9 : Vec F S1x640x256 .f32) (X10 : Vec F S1x640x256 .f32) (X11 : Vec F S1x256x640 .f32) (X12 : Vec F S1x384x256 .bf16) (X13 : Vec F S1x384x640 .bf16) (X14 : Vec F S1x1x640x256 .f32) (X15 : Vec F S1x1x640x256 .f32) (X16 : Vec F S1x1x256x640 .f32) (X17 : Vec F S1x1x640x256 .f32) (X18 : Vec F S1x1x640x256 .f32) (X19 : Vec F S1x1x256x640 .f32) (X20 : Vec F S256x640 .f32) (X21 : Vec F S256x640 .f32) (X22 : Vec F S256x640 .f32) (X23 : Vec F S1x640 .f32) (X24 : Vec F S1x640 .f32) (X25 : Vec F S256x1 .f32) : sProp 𝕄 :=
  let x : Blocks F := ⟨X3, X4, X5, X6, X7, X8⟩
  let s : Scr F := (begin i X9 X10 X11 ⟨X20, X21, X22, X23, X24, X25⟩)
  iprop(owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ owns (c : Thread nD τ) arg8 fullShare X8
    ∗ owns (c : Thread nD τ) arg9 fullShare X9
    ∗ owns (c : Thread nD τ) arg10 fullShare X10
    ∗ owns (c : Thread nD τ) arg11 fullShare X11
    ∗ owns (c : Thread nD τ) arg12 fullShare (yOf i x (nrm i x s) s)
    ∗ owns (c : Thread nD τ) arg13 fullShare (gOf i x s)
    ∗ owns (c : Thread nD τ) arg14 fullShare (if k0_cond3 i = 1#1 then w1Of (nrm i x s) s else X14)
    ∗ owns (c : Thread nD τ) arg15 fullShare (if k0_cond3 i = 1#1 then w3Of (nrm i x s) s else X15)
    ∗ owns (c : Thread nD τ) arg16 fullShare (if k0_cond3 i = 1#1 then w2Of (nrm i x s) s else X16)
    ∗ owns (c : Thread nD τ) arg17 fullShare (if k0_cond2 i = 1#1 then u1Of (nrm i x s) else X17)
    ∗ owns (c : Thread nD τ) arg18 fullShare (if k0_cond2 i = 1#1 then u3Of (nrm i x s) else X18)
    ∗ owns (c : Thread nD τ) arg19 fullShare (if k0_cond2 i = 1#1 then u2Of (nrm i x s) else X19)
    ∗ owns (c : Thread nD τ) arg20 fullShare (next (nrm i x s) s).w1
    ∗ owns (c : Thread nD τ) arg21 fullShare (next (nrm i x s) s).w3
    ∗ owns (c : Thread nD τ) arg22 fullShare (next (nrm i x s) s).w2
    ∗ owns (c : Thread nD τ) arg23 fullShare (next (nrm i x s) s).n1
    ∗ owns (c : Thread nD τ) arg24 fullShare (next (nrm i x s) s).n3
    ∗ owns (c : Thread nD τ) arg25 fullShare (next (nrm i x s) s).n2)

/-- A load of a whole buffer gives its contents. -/
theorem ld (c : Dev nD) {s : Shape} {e : EltTy} {M : Memref sig .tc .vmem s e} (h : M.IsWhole) {off : Fin s.rank → ℕ}
    {inb : ∀ a, off a + s.size a ≤ s.size a} {hl : M.view.LoadsAt (Rect.unit off s.size inb).toLoadRect} (X : Vec F s e)
    {K : Vec F s e → sProp 𝕄} :
    iprop(owns (c : Thread nD τ) M fullShare X ∗ (owns (c : Thread nD τ) M fullShare X -∗ K X))
      ⊢ wp frame (wpE (defs₀ (F := F)) Variants.none c none) Set.univ
          (Prog.lift (.load M (Rect.unit off s.size inb).toLoadRect hl)) K := by
  unfold owns
  iintro ⟨⟨%f, %hf, H⟩, Hk⟩
  obtain rfl := h.eq_unread hf
  iapply (wp_load (defs := defs₀ (F := F)) Variants.none c none Set.univ (f := h.unread X) (S := M.view.set) (q := fullShare) (View.setOn_subset_set _ _)) $$ H
  iintro H
  iapply (Sem.le_wp_ret _ _ _ _ _)
  rw [View.readAt_full, h.read_unread]
  iapply Hk
  iexists _
  isplitr
  · ipureintro
    exact h.read_unread X
  iexact H

/-- A store of a whole buffer leaves what is stored. -/
theorem st (c : Dev nD) {s : Shape} {e : EltTy} {M : Memref sig .tc .vmem s e} (h : M.IsWhole) {off : Fin s.rank → ℕ}
    {inb : ∀ a, off a + s.size a ≤ s.size a} {w : Vec F s e}
    {hx : (M.access (Rect.unit off s.size inb)).Stores Finset.univ}
    {hm : Finset.univ = Finset.univ ∨ ∀ a, (Rect.unit off s.size inb).stride a = 1} (X : Vec F s e)
    {K : PUnit → sProp 𝕄} :
    iprop(owns (c : Thread nD τ) M fullShare X ∗ (owns (c : Thread nD τ) M fullShare w -∗ K ⟨⟩))
      ⊢ wp frame (wpE (defs₀ (F := F)) Variants.none c none) Set.univ
          (Prog.lift (.store M (Rect.unit off s.size inb) w Finset.univ hx hm)) K := by
  unfold owns
  iintro ⟨⟨%f, %hf, H⟩, Hk⟩
  iapply (wp_store_writes₀ (defs := defs₀ (F := F)) Variants.none c none Set.univ (m := M) (r := Rect.unit off s.size inb) (f := f) (w := w)
    (S := M.view.set) (View.set_slice_subset _ _)) $$ H
  iintro H
  iapply (Sem.le_wp_ret _ _ _ _ _)
  iapply Hk
  iexists _
  isplitr; swap
  · iexact H
  ipureintro
  exact View.read_writes_full M.view f inb w []

/-- A finished program meets what holds of its result. -/
theorem rt (c : Dev nD) {α : Type} (a : α) {K : α → sProp 𝕄} :
    K a ⊢ wp frame (wpE (defs₀ (F := F)) Variants.none c none) Set.univ (pure a) K :=
  Sem.le_wp_ret _ _ _ _ _

/-- A finished program, continued. -/
theorem pb {E : Type → Type 1} {α β : Type} (a : α) (k : α → Prog E β) : (pure a >>= k : Prog E β) = k a := rfl

set_option maxHeartbeats 1000000 in
/-- The start of a sequence: all but the last scratch buffer filled from the weights. -/
theorem part1_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole)
    (X9 : Vec F S1x640x256 .f32) (X10 : Vec F S1x640x256 .f32) (X11 : Vec F S1x256x640 .f32) (X20 : Vec F S256x640 .f32) (X21 : Vec F S256x640 .f32) (X22 : Vec F S256x640 .f32) (X23 : Vec F S1x640 .f32) (X24 : Vec F S1x640 .f32) (K : (FVec F S256 .f32) → sProp 𝕄) :
    iprop((owns (c : Thread nD τ) arg9 fullShare X9
      ∗ owns (c : Thread nD τ) arg10 fullShare X10
      ∗ owns (c : Thread nD τ) arg11 fullShare X11
      ∗ owns (c : Thread nD τ) arg20 fullShare X20
      ∗ owns (c : Thread nD τ) arg21 fullShare X21
      ∗ owns (c : Thread nD τ) arg22 fullShare X22
      ∗ owns (c : Thread nD τ) arg23 fullShare X23
      ∗ owns (c : Thread nD τ) arg24 fullShare X24)
      ∗ ((owns (c : Thread nD τ) arg9 fullShare X9
      ∗ owns (c : Thread nD τ) arg10 fullShare X10
      ∗ owns (c : Thread nD τ) arg11 fullShare X11
      ∗ owns (c : Thread nD τ) arg20 fullShare (k0_pay5 X9)
      ∗ owns (c : Thread nD τ) arg21 fullShare (k0_pay6 X10)
      ∗ owns (c : Thread nD τ) arg22 fullShare (k0_pay7 X11)
      ∗ owns (c : Thread nD τ) arg23 fullShare (k0_pay8 X9)
      ∗ owns (c : Thread nD τ) arg24 fullShare (k0_pay9 X10)) -∗ K (k0_pay10 X11)))
      ⊢ wp frame (wpE (defs₀ (F := F)) Variants.none c none) Set.univ (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 ) K := by
  rw [k0_part1_eq_skeleton]
  unfold k0_part1_skel
  try simp only [pb, Sem.wp_bind]
  iintro ⟨⟨H9, H10, H11, H20, H21, H22, H23, H24⟩, Hk⟩
  iapply (ld c harg9 _)
  isplitl [H9]
  · iexact H9
  iintro H9
  iapply (ld c harg10 _)
  isplitl [H10]
  · iexact H10
  iintro H10
  iapply (ld c harg11 _)
  isplitl [H11]
  · iexact H11
  iintro H11
  iapply (ld c harg20 _)
  isplitl [H20]
  · iexact H20
  iintro H20
  iapply (st c harg20 _)
  isplitl [H20]
  · iexact H20
  iintro H20
  iapply (ld c harg21 _)
  isplitl [H21]
  · iexact H21
  iintro H21
  iapply (st c harg21 _)
  isplitl [H21]
  · iexact H21
  iintro H21
  iapply (ld c harg22 _)
  isplitl [H22]
  · iexact H22
  iintro H22
  iapply (st c harg22 _)
  isplitl [H22]
  · iexact H22
  iintro H22
  iapply (ld c harg23 _)
  isplitl [H23]
  · iexact H23
  iintro H23
  iapply (st c harg23 _)
  isplitl [H23]
  · iexact H23
  iintro H23
  iapply (ld c harg24 _)
  isplitl [H24]
  · iexact H24
  iintro H24
  iapply (st c harg24 _)
  isplitl [H24]
  · iexact H24
  iintro H24
  iapply (rt c _)
  iapply Hk
  isplitl [H9]
  · iexact H9
  isplitl [H10]
  · iexact H10
  isplitl [H11]
  · iexact H11
  isplitl [H20]
  · iexact H20
  isplitl [H21]
  · iexact H21
  isplitl [H22]
  · iexact H22
  isplitl [H23]
  · iexact H23
  iexact H24

set_option maxHeartbeats 1000000 in
/-- The scratch filled at the start of a sequence, the rates and the scales loaded. -/
theorem part2_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole)
    (X4 : Vec F S1x384x12 .f32) (X6 : Vec F S1x384x12 .f32) (X8 : Vec F S1x384x12 .f32) (X9 : Vec F S1x640x256 .f32) (X10 : Vec F S1x640x256 .f32) (X11 : Vec F S1x256x640 .f32) (X20 : Vec F S256x640 .f32) (X21 : Vec F S256x640 .f32) (X22 : Vec F S256x640 .f32) (X23 : Vec F S1x640 .f32) (X24 : Vec F S1x640 .f32) (X25 : Vec F S256x1 .f32) (K : (Σ' (arg2 : BitVec 32) (v7 : IVec S384x1 1) (v18 : FVec F S384x1 .f32) (v29 : FVec F S384x1 .f32) (v31 : FVec F S384x12 .f32) (v36 : IVec S384x12 1), FVec F S384x12 .f32) → sProp 𝕄) :
    iprop((owns (c : Thread nD τ) arg4 fullShare X4
      ∗ owns (c : Thread nD τ) arg6 fullShare X6
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg20 fullShare X20
      ∗ owns (c : Thread nD τ) arg21 fullShare X21
      ∗ owns (c : Thread nD τ) arg22 fullShare X22
      ∗ owns (c : Thread nD τ) arg23 fullShare X23
      ∗ owns (c : Thread nD τ) arg24 fullShare X24
      ∗ owns (c : Thread nD τ) arg25 fullShare X25)
      ∗ ((owns (c : Thread nD τ) arg4 fullShare X4
      ∗ owns (c : Thread nD τ) arg6 fullShare X6
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg20 fullShare (begin i X9 X10 X11 ⟨X20, X21, X22, X23, X24, X25⟩).w1
      ∗ owns (c : Thread nD τ) arg21 fullShare (begin i X9 X10 X11 ⟨X20, X21, X22, X23, X24, X25⟩).w3
      ∗ owns (c : Thread nD τ) arg22 fullShare (begin i X9 X10 X11 ⟨X20, X21, X22, X23, X24, X25⟩).w2
      ∗ owns (c : Thread nD τ) arg23 fullShare (begin i X9 X10 X11 ⟨X20, X21, X22, X23, X24, X25⟩).n1
      ∗ owns (c : Thread nD τ) arg24 fullShare (begin i X9 X10 X11 ⟨X20, X21, X22, X23, X24, X25⟩).n3
      ∗ owns (c : Thread nD τ) arg25 fullShare (begin i X9 X10 X11 ⟨X20, X21, X22, X23, X24, X25⟩).n2) -∗ K ⟨BitVec.ofNat 32 (i 2).val, k0_pay12 i, k0_pay13 i X6, k0_pay14 i X8, k0_pay15 X4, k0_pay16 i, k0_pay17 (F := F)⟩))
      ⊢ wp frame (wpE (defs₀ (F := F)) Variants.none c none) Set.univ (k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 ) K := by
  rw [k0_part2_eq_skeleton]
  unfold k0_part2_skel
  try simp only [pb, Sem.wp_bind]
  iintro ⟨⟨H4, H6, H8, H9, H10, H11, H20, H21, H22, H23, H24, H25⟩, Hk⟩
  by_cases h2 : k0_cond2 i = 1#1
  · simp only [begin, if_pos h2, fresh]
    rw [dif_pos (show Scalar.cmpi .ne (Scalar.extui (Scalar.cmpi .eq (BitVec.ofNat 32 (i 2).val) 0#32)) 0#32 = 1#1 from h2)]
    try simp only [pb, Sem.wp_bind]
    iapply (part1_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  X9 X10 X11 X20 X21 X22 X23 X24 _)
    isplitl [H9 H10 H11 H20 H21 H22 H23 H24]
    ·   isplitl [H9]
        · iexact H9
        isplitl [H10]
        · iexact H10
        isplitl [H11]
        · iexact H11
        isplitl [H20]
        · iexact H20
        isplitl [H21]
        · iexact H21
        isplitl [H22]
        · iexact H22
        isplitl [H23]
        · iexact H23
        iexact H24
    iintro ⟨H9, H10, H11, H20, H21, H22, H23, H24⟩
    iapply (ld c harg25 _)
    isplitl [H25]
    · iexact H25
    iintro H25
    iapply (st c harg25 _)
    isplitl [H25]
    · iexact H25
    iintro H25
    iapply (ld c harg6 _)
    isplitl [H6]
    · iexact H6
    iintro H6
    iapply (ld c harg8 _)
    isplitl [H8]
    · iexact H8
    iintro H8
    iapply (ld c harg4 _)
    isplitl [H4]
    · iexact H4
    iintro H4
    iapply (rt c _)
    iapply Hk
    isplitl [H4]
    · iexact H4
    isplitl [H6]
    · iexact H6
    isplitl [H8]
    · iexact H8
    isplitl [H9]
    · iexact H9
    isplitl [H10]
    · iexact H10
    isplitl [H11]
    · iexact H11
    isplitl [H20]
    · iexact H20
    isplitl [H21]
    · iexact H21
    isplitl [H22]
    · iexact H22
    isplitl [H23]
    · iexact H23
    isplitl [H24]
    · iexact H24
    iexact H25
  · simp only [begin, if_neg h2]
    rw [dif_neg (show ¬ Scalar.cmpi .ne (Scalar.extui (Scalar.cmpi .eq (BitVec.ofNat 32 (i 2).val) 0#32)) 0#32 = 1#1 from h2)]
    try simp only [pb, Sem.wp_bind]
    iapply (ld c harg6 _)
    isplitl [H6]
    · iexact H6
    iintro H6
    iapply (ld c harg8 _)
    isplitl [H8]
    · iexact H8
    iintro H8
    iapply (ld c harg4 _)
    isplitl [H4]
    · iexact H4
    iintro H4
    iapply (rt c _)
    iapply Hk
    isplitl [H4]
    · iexact H4
    isplitl [H6]
    · iexact H6
    isplitl [H8]
    · iexact H8
    isplitl [H9]
    · iexact H9
    isplitl [H10]
    · iexact H10
    isplitl [H11]
    · iexact H11
    isplitl [H20]
    · iexact H20
    isplitl [H21]
    · iexact H21
    isplitl [H22]
    · iexact H22
    isplitl [H23]
    · iexact H23
    isplitl [H24]
    · iexact H24
    iexact H25

set_option maxHeartbeats 1000000 in
/-- The codes, the values and two of the weights loaded. -/
theorem part3_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) (v7 : IVec S384x1 1) (v18 : FVec F S384x1 .f32) (v31 : FVec F S384x12 .f32) (v36 : IVec S384x12 1) (v37 : FVec F S384x12 .f32)
    (X3 : Vec F S1x384x256 .fp8e4m3) (X5 : Vec F S1x384x256 .fp8e4m3) (X7 : Vec F S1x384x256 .bf16) (X20 : Vec F S256x640 .f32) (X21 : Vec F S256x640 .f32) (K : (Σ' (v40 : FVec F S384x1 .f32) (v48 : FVec F S384x256 .bf16) (v56 : FVec F S384x256 .bf16) (v63 : FVec F S384x256 .f32) (v68 : FVec F S384x640 .f32) (v73 : FVec F S384x640 .f32) (v76 : FVec F S384x640 .f32), F .f32) → sProp 𝕄) :
    iprop((owns (c : Thread nD τ) arg3 fullShare X3
      ∗ owns (c : Thread nD τ) arg5 fullShare X5
      ∗ owns (c : Thread nD τ) arg7 fullShare X7
      ∗ owns (c : Thread nD τ) arg20 fullShare X20
      ∗ owns (c : Thread nD τ) arg21 fullShare X21)
      ∗ ((owns (c : Thread nD τ) arg3 fullShare X3
      ∗ owns (c : Thread nD τ) arg5 fullShare X5
      ∗ owns (c : Thread nD τ) arg7 fullShare X7
      ∗ owns (c : Thread nD τ) arg20 fullShare X20
      ∗ owns (c : Thread nD τ) arg21 fullShare X21) -∗ K ⟨k0_pay18 v31 v36 v37, k0_pay19 v7 X5, k0_pay20 v7 X3, k0_pay21 v7 X7, k0_pay22 v7 v18 X5 X20, k0_pay23 v7 v18 X5 X21, k0_pay24 v7 v18 X5 X20, Scalar.ofBits .f32 0x3F800000#32⟩))
      ⊢ wp frame (wpE (defs₀ (F := F)) Variants.none c none) Set.univ (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v7 v18 v31 v36 v37) K := by
  rw [k0_part3_eq_skeleton]
  unfold k0_part3_skel
  try simp only [pb, Sem.wp_bind]
  iintro ⟨⟨H3, H5, H7, H20, H21⟩, Hk⟩
  iapply (ld c harg5 _)
  isplitl [H5]
  · iexact H5
  iintro H5
  iapply (ld c harg3 _)
  isplitl [H3]
  · iexact H3
  iintro H3
  iapply (ld c harg7 _)
  isplitl [H7]
  · iexact H7
  iintro H7
  iapply (ld c harg20 _)
  isplitl [H20]
  · iexact H20
  iintro H20
  iapply (ld c harg21 _)
  isplitl [H21]
  · iexact H21
  iintro H21
  iapply (rt c _)
  iapply Hk
  isplitl [H3]
  · iexact H3
  isplitl [H5]
  · iexact H5
  isplitl [H7]
  · iexact H7
  isplitl [H20]
  · iexact H20
  iexact H21

set_option maxHeartbeats 1000000 in
/-- The hidden layer stored, the gradients formed. -/
theorem part4_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) (v18 : FVec F S384x1 .f32) (v29 : FVec F S384x1 .f32) (v48 : FVec F S384x256 .bf16) (v63 : FVec F S384x256 .f32) (v68 : FVec F S384x640 .f32) (v73 : FVec F S384x640 .f32) (v76 : FVec F S384x640 .f32) (cst_33 : F .f32)
    (X13 : Vec F S1x384x640 .bf16) (X22 : Vec F S256x640 .f32) (K : (Σ' (v117 : FVec F S256x640 .f32) (v118 : FVec F S256x640 .f32) (v119 : FVec F S256x640 .f32), FVec F S1x256x640 .f32) → sProp 𝕄) :
    iprop((owns (c : Thread nD τ) arg13 fullShare X13
      ∗ owns (c : Thread nD τ) arg22 fullShare X22)
      ∗ ((owns (c : Thread nD τ) arg13 fullShare (k0_pay28 v68 v73 v76 cst_33)
      ∗ owns (c : Thread nD τ) arg22 fullShare X22) -∗ K ⟨k0_pay31 v18 v29 v48 v63 v68 v73 v76 cst_33 X22, k0_pay32 v18 v29 v48 v63 v68 v76 cst_33 X22, k0_pay33 v29 v63 v68 v73 v76 cst_33, k0_pay34 v18 v29 v48 v63 v68 v73 v76 cst_33 X22⟩))
      ⊢ wp frame (wpE (defs₀ (F := F)) Variants.none c none) Set.univ (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v18 v29 v48 v63 v68 v73 v76 cst_33) K := by
  rw [k0_part4_eq_skeleton]
  unfold k0_part4_skel
  try simp only [pb, Sem.wp_bind]
  iintro ⟨⟨H13, H22⟩, Hk⟩
  iapply (ld c harg13 _)
  isplitl [H13]
  · iexact H13
  iintro H13
  iapply (st c harg13 _)
  isplitl [H13]
  · iexact H13
  iintro H13
  iapply (ld c harg22 _)
  isplitl [H22]
  · iexact H22
  iintro H22
  iapply (rt c _)
  iapply Hk
  isplitl [H13]
  · iexact H13
  iexact H22

set_option maxHeartbeats 1000000 in
/-- The updates stored at the first chunk of a sequence. -/
theorem part25_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) (arg2 : BitVec 32) (v745 : FVec F S256x640 .f32) (v758 : FVec F S256x640 .f32) (v766 : FVec F S256x640 .bf16) (v769 : FVec F S256x640 .bf16) (v772 : FVec F S256x640 .bf16) (v773 : FVec F S256x640 .bf16) (v776 : FVec F S256x640 .bf16) (v779 : FVec F S256x640 .bf16) (v1103 : FVec F S256x256 .f32) (v1109 : FVec F S256x256 .f32) (v1111 : FVec F S256x640 .f32) (v1121 : FVec F S256x640 .f32)
    (X17 : Vec F S1x1x640x256 .f32) (X18 : Vec F S1x1x640x256 .f32) (X19 : Vec F S1x1x256x640 .f32) (X20 : Vec F S256x640 .f32) (X21 : Vec F S256x640 .f32) (X23 : Vec F S1x640 .f32) (K : (Σ' (v1148 : FVec F S256x640 .f32) (v1163 : FVec F S256x640 .f32), FVec F S256x640 .f32) → sProp 𝕄) :
    iprop((owns (c : Thread nD τ) arg17 fullShare X17
      ∗ owns (c : Thread nD τ) arg18 fullShare X18
      ∗ owns (c : Thread nD τ) arg19 fullShare X19
      ∗ owns (c : Thread nD τ) arg20 fullShare X20
      ∗ owns (c : Thread nD τ) arg21 fullShare X21
      ∗ owns (c : Thread nD τ) arg23 fullShare X23)
      ∗ ((owns (c : Thread nD τ) arg17 fullShare (if k0_cond2 i = 1#1 then k0_pay238 v1111 v1121 else X17)
      ∗ owns (c : Thread nD τ) arg18 fullShare (if k0_cond2 i = 1#1 then k0_pay239 v745 v766 v769 v772 v1103 else X18)
      ∗ owns (c : Thread nD τ) arg19 fullShare (if k0_cond2 i = 1#1 then k0_pay240 v758 v773 v776 v779 v1109 else X19)
      ∗ owns (c : Thread nD τ) arg20 fullShare X20
      ∗ owns (c : Thread nD τ) arg21 fullShare X21
      ∗ owns (c : Thread nD τ) arg23 fullShare X23) -∗ K ⟨k0_pay237 v758 v773 v776 v779 v1109, k0_pay241 v1111 v1121 X20 X23, k0_pay242 v745 v766 v769 v772 v1103 X21⟩))
      ⊢ wp frame (wpE (defs₀ (F := F)) Variants.none c none) Set.univ (k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v745 v758 v766 v769 v772 v773 v776 v779 v1103 v1109 v1111 v1121) K := by
  rw [k0_part25_eq_skeleton]
  unfold k0_part25_skel
  try simp only [pb, Sem.wp_bind]
  iintro ⟨⟨H17, H18, H19, H20, H21, H23⟩, Hk⟩
  by_cases h : k0_cond2 i = 1#1
  · simp only [if_pos h]
    rw [dif_pos h]
    try simp only [pb, Sem.wp_bind]
    iapply (ld c harg17 _)
    isplitl [H17]
    · iexact H17
    iintro H17
    iapply (st c harg17 _)
    isplitl [H17]
    · iexact H17
    iintro H17
    iapply (ld c harg18 _)
    isplitl [H18]
    · iexact H18
    iintro H18
    iapply (st c harg18 _)
    isplitl [H18]
    · iexact H18
    iintro H18
    iapply (ld c harg19 _)
    isplitl [H19]
    · iexact H19
    iintro H19
    iapply (st c harg19 _)
    isplitl [H19]
    · iexact H19
    iintro H19
    iapply (ld c harg20 _)
    isplitl [H20]
    · iexact H20
    iintro H20
    iapply (ld c harg23 _)
    isplitl [H23]
    · iexact H23
    iintro H23
    iapply (ld c harg21 _)
    isplitl [H21]
    · iexact H21
    iintro H21
    iapply (rt c _)
    iapply Hk
    isplitl [H17]
    · iexact H17
    isplitl [H18]
    · iexact H18
    isplitl [H19]
    · iexact H19
    isplitl [H20]
    · iexact H20
    isplitl [H21]
    · iexact H21
    iexact H23
  · simp only [if_neg h]
    rw [dif_neg h]
    try simp only [pb, Sem.wp_bind]
    iapply (ld c harg20 _)
    isplitl [H20]
    · iexact H20
    iintro H20
    iapply (ld c harg23 _)
    isplitl [H23]
    · iexact H23
    iintro H23
    iapply (ld c harg21 _)
    isplitl [H21]
    · iexact H21
    iintro H21
    iapply (rt c _)
    iapply Hk
    isplitl [H17]
    · iexact H17
    isplitl [H18]
    · iexact H18
    isplitl [H19]
    · iexact H19
    isplitl [H20]
    · iexact H20
    isplitl [H21]
    · iexact H21
    iexact H23

set_option maxHeartbeats 1000000 in
/-- The weights carried on, and stored at the last chunk of a sequence. -/
theorem part26_sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole) (arg2 : BitVec 32) (v40 : FVec F S384x1 .f32) (v56 : FVec F S384x256 .bf16) (v1148 : FVec F S256x640 .f32) (v1163 : FVec F S256x640 .f32) (v1165 : FVec F S256x640 .f32)
    (X14 : Vec F S1x1x640x256 .f32) (X15 : Vec F S1x1x640x256 .f32) (X16 : Vec F S1x1x256x640 .f32) (X20 : Vec F S256x640 .f32) (X21 : Vec F S256x640 .f32) (X22 : Vec F S256x640 .f32) (X24 : Vec F S1x640 .f32) (X25 : Vec F S256x1 .f32) (K : (Σ' (v1175 : FVec F S256x640 .f32) (v1187 : FVec F S256x640 .f32), FVec F S384x640 .f32) → sProp 𝕄) :
    iprop((owns (c : Thread nD τ) arg14 fullShare X14
      ∗ owns (c : Thread nD τ) arg15 fullShare X15
      ∗ owns (c : Thread nD τ) arg16 fullShare X16
      ∗ owns (c : Thread nD τ) arg20 fullShare X20
      ∗ owns (c : Thread nD τ) arg21 fullShare X21
      ∗ owns (c : Thread nD τ) arg22 fullShare X22
      ∗ owns (c : Thread nD τ) arg24 fullShare X24
      ∗ owns (c : Thread nD τ) arg25 fullShare X25)
      ∗ ((owns (c : Thread nD τ) arg14 fullShare (if k0_cond3 i = 1#1 then k0_pay248 v1163 else X14)
      ∗ owns (c : Thread nD τ) arg15 fullShare (if k0_cond3 i = 1#1 then k0_pay249 v1165 X24 else X15)
      ∗ owns (c : Thread nD τ) arg16 fullShare (if k0_cond3 i = 1#1 then k0_pay250 v1148 X22 X25 else X16)
      ∗ owns (c : Thread nD τ) arg20 fullShare (k0_pay245 v1163)
      ∗ owns (c : Thread nD τ) arg21 fullShare (k0_pay246 v1165 X24)
      ∗ owns (c : Thread nD τ) arg22 fullShare (k0_pay247 v1148 X22 X25)
      ∗ owns (c : Thread nD τ) arg24 fullShare X24
      ∗ owns (c : Thread nD τ) arg25 fullShare X25) -∗ K ⟨k0_pay243 v1165 X24, k0_pay244 v1148 X22 X25, k0_pay251 v40 v56 v1163⟩))
      ⊢ wp frame (wpE (defs₀ (F := F)) Variants.none c none) Set.univ (k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v40 v56 v1148 v1163 v1165) K := by
  rw [k0_part26_eq_skeleton]
  unfold k0_part26_skel
  try simp only [pb, Sem.wp_bind]
  iintro ⟨⟨H14, H15, H16, H20, H21, H22, H24, H25⟩, Hk⟩
  iapply (ld c harg24 _)
  isplitl [H24]
  · iexact H24
  iintro H24
  iapply (ld c harg22 _)
  isplitl [H22]
  · iexact H22
  iintro H22
  iapply (ld c harg25 _)
  isplitl [H25]
  · iexact H25
  iintro H25
  iapply (ld c harg20 _)
  isplitl [H20]
  · iexact H20
  iintro H20
  iapply (st c harg20 _)
  isplitl [H20]
  · iexact H20
  iintro H20
  iapply (ld c harg21 _)
  isplitl [H21]
  · iexact H21
  iintro H21
  iapply (st c harg21 _)
  isplitl [H21]
  · iexact H21
  iintro H21
  iapply (ld c harg22 _)
  isplitl [H22]
  · iexact H22
  iintro H22
  iapply (st c harg22 _)
  isplitl [H22]
  · iexact H22
  iintro H22
  by_cases h : k0_cond3 i = 1#1
  · simp only [if_pos h]
    rw [dif_pos h]
    try simp only [pb, Sem.wp_bind]
    iapply (ld c harg14 _)
    isplitl [H14]
    · iexact H14
    iintro H14
    iapply (st c harg14 _)
    isplitl [H14]
    · iexact H14
    iintro H14
    iapply (ld c harg15 _)
    isplitl [H15]
    · iexact H15
    iintro H15
    iapply (st c harg15 _)
    isplitl [H15]
    · iexact H15
    iintro H15
    iapply (ld c harg16 _)
    isplitl [H16]
    · iexact H16
    iintro H16
    iapply (st c harg16 _)
    isplitl [H16]
    · iexact H16
    iintro H16
    iapply (rt c _)
    iapply Hk
    isplitl [H14]
    · iexact H14
    isplitl [H15]
    · iexact H15
    isplitl [H16]
    · iexact H16
    isplitl [H20]
    · iexact H20
    isplitl [H21]
    · iexact H21
    isplitl [H22]
    · iexact H22
    isplitl [H24]
    · iexact H24
    iexact H25
  · simp only [if_neg h]
    rw [dif_neg h]
    try simp only [pb, Sem.wp_bind]
    iapply (rt c _)
    iapply Hk
    isplitl [H14]
    · iexact H14
    isplitl [H15]
    · iexact H15
    isplitl [H16]
    · iexact H16
    isplitl [H20]
    · iexact H20
    isplitl [H21]
    · iexact H21
    isplitl [H22]
    · iexact H22
    isplitl [H24]
    · iexact H24
    iexact H25

set_option maxHeartbeats 1000000 in
/-- The body runs from the one to the other. -/
theorem sound (c : Dev nD) (i : grid0.Coords) (arg3 : Memref sig .tc .vmem S1x384x256 .fp8e4m3) (harg3 : arg3.IsWhole) (arg4 : Memref sig .tc .vmem S1x384x12 .f32) (harg4 : arg4.IsWhole) (arg5 : Memref sig .tc .vmem S1x384x256 .fp8e4m3) (harg5 : arg5.IsWhole) (arg6 : Memref sig .tc .vmem S1x384x12 .f32) (harg6 : arg6.IsWhole) (arg7 : Memref sig .tc .vmem S1x384x256 .bf16) (harg7 : arg7.IsWhole) (arg8 : Memref sig .tc .vmem S1x384x12 .f32) (harg8 : arg8.IsWhole) (arg9 : Memref sig .tc .vmem S1x640x256 .f32) (harg9 : arg9.IsWhole) (arg10 : Memref sig .tc .vmem S1x640x256 .f32) (harg10 : arg10.IsWhole) (arg11 : Memref sig .tc .vmem S1x256x640 .f32) (harg11 : arg11.IsWhole) (arg12 : Memref sig .tc .vmem S1x384x256 .bf16) (harg12 : arg12.IsWhole) (arg13 : Memref sig .tc .vmem S1x384x640 .bf16) (harg13 : arg13.IsWhole) (arg14 : Memref sig .tc .vmem S1x1x640x256 .f32) (harg14 : arg14.IsWhole) (arg15 : Memref sig .tc .vmem S1x1x640x256 .f32) (harg15 : arg15.IsWhole) (arg16 : Memref sig .tc .vmem S1x1x256x640 .f32) (harg16 : arg16.IsWhole) (arg17 : Memref sig .tc .vmem S1x1x640x256 .f32) (harg17 : arg17.IsWhole) (arg18 : Memref sig .tc .vmem S1x1x640x256 .f32) (harg18 : arg18.IsWhole) (arg19 : Memref sig .tc .vmem S1x1x256x640 .f32) (harg19 : arg19.IsWhole) (arg20 : Memref sig .tc .vmem S256x640 .f32) (harg20 : arg20.IsWhole) (arg21 : Memref sig .tc .vmem S256x640 .f32) (harg21 : arg21.IsWhole) (arg22 : Memref sig .tc .vmem S256x640 .f32) (harg22 : arg22.IsWhole) (arg23 : Memref sig .tc .vmem S1x640 .f32) (harg23 : arg23.IsWhole) (arg24 : Memref sig .tc .vmem S1x640 .f32) (harg24 : arg24.IsWhole) (arg25 : Memref sig .tc .vmem S256x1 .f32) (harg25 : arg25.IsWhole)
    (X3 : Vec F S1x384x256 .fp8e4m3) (X4 : Vec F S1x384x12 .f32) (X5 : Vec F S1x384x256 .fp8e4m3) (X6 : Vec F S1x384x12 .f32) (X7 : Vec F S1x384x256 .bf16) (X8 : Vec F S1x384x12 .f32) (X9 : Vec F S1x640x256 .f32) (X10 : Vec F S1x640x256 .f32) (X11 : Vec F S1x256x640 .f32) (X12 : Vec F S1x384x256 .bf16) (X13 : Vec F S1x384x640 .bf16) (X14 : Vec F S1x1x640x256 .f32) (X15 : Vec F S1x1x640x256 .f32) (X16 : Vec F S1x1x256x640 .f32) (X17 : Vec F S1x1x640x256 .f32) (X18 : Vec F S1x1x640x256 .f32) (X19 : Vec F S1x1x256x640 .f32) (X20 : Vec F S256x640 .f32) (X21 : Vec F S256x640 .f32) (X22 : Vec F S256x640 .f32) (X23 : Vec F S1x640 .f32) (X24 : Vec F S1x640 .f32) (X25 : Vec F S256x1 .f32) (K : PUnit → sProp 𝕄) :
    iprop(pre c arg3 arg4 arg5 arg6 arg7 arg8 arg9 arg10 arg11 arg12 arg13 arg14 arg15 arg16 arg17 arg18 arg19 arg20 arg21 arg22 arg23 arg24 arg25 X3 X4 X5 X6 X7 X8 X9 X10 X11 X12 X13 X14 X15 X16 X17 X18 X19 X20 X21 X22 X23 X24 X25 ∗ (post c i arg3 arg4 arg5 arg6 arg7 arg8 arg9 arg10 arg11 arg12 arg13 arg14 arg15 arg16 arg17 arg18 arg19 arg20 arg21 arg22 arg23 arg24 arg25 X3 X4 X5 X6 X7 X8 X9 X10 X11 X12 X13 X14 X15 X16 X17 X18 X19 X20 X21 X22 X23 X24 X25 -∗ K ⟨⟩))
      ⊢ wp frame (wpE (defs₀ (F := F)) Variants.none c none) Set.univ (cc0_lact i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  rw [body_eq]
  unfold body pre
  try simp only [pb, Sem.wp_bind]
  iintro ⟨⟨H3, H4, H5, H6, H7, H8, H9, H10, H11, H12, H13, H14, H15, H16, H17, H18, H19, H20, H21, H22, H23, H24, H25⟩, Hk⟩
  iapply (part2_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25  X4 X6 X8 X9 X10 X11 X20 X21 X22 X23 X24 X25 _)
  isplitl [H4 H6 H8 H9 H10 H11 H20 H21 H22 H23 H24 H25]
  ·   isplitl [H4]
      · iexact H4
      isplitl [H6]
      · iexact H6
      isplitl [H8]
      · iexact H8
      isplitl [H9]
      · iexact H9
      isplitl [H10]
      · iexact H10
      isplitl [H11]
      · iexact H11
      isplitl [H20]
      · iexact H20
      isplitl [H21]
      · iexact H21
      isplitl [H22]
      · iexact H22
      isplitl [H23]
      · iexact H23
      isplitl [H24]
      · iexact H24
      iexact H25
  iintro ⟨H4, H6, H8, H9, H10, H11, H20, H21, H22, H23, H24, H25⟩
  dsimp only
  try simp only [pb, Sem.wp_bind]
  iapply (part3_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _)
  isplitl [H3 H5 H7 H20 H21]
  ·   isplitl [H3]
      · iexact H3
      isplitl [H5]
      · iexact H5
      isplitl [H7]
      · iexact H7
      isplitl [H20]
      · iexact H20
      iexact H21
  iintro ⟨H3, H5, H7, H20, H21⟩
  dsimp only
  try simp only [pb, Sem.wp_bind]
  iapply (part4_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _)
  isplitl [H13 H22]
  ·   isplitl [H13]
      · iexact H13
      iexact H22
  iintro ⟨H13, H22⟩
  dsimp only
  try simp only [pb, Sem.wp_bind]
  iapply (part25_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _ _ _ _ _ _)
  isplitl [H17 H18 H19 H20 H21 H23]
  ·   isplitl [H17]
      · iexact H17
      isplitl [H18]
      · iexact H18
      isplitl [H19]
      · iexact H19
      isplitl [H20]
      · iexact H20
      isplitl [H21]
      · iexact H21
      iexact H23
  iintro ⟨H17, H18, H19, H20, H21, H23⟩
  dsimp only
  try simp only [pb, Sem.wp_bind]
  iapply (part26_sound c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ _ _ _ _)
  isplitl [H14 H15 H16 H20 H21 H22 H24 H25]
  ·   isplitl [H14]
      · iexact H14
      isplitl [H15]
      · iexact H15
      isplitl [H16]
      · iexact H16
      isplitl [H20]
      · iexact H20
      isplitl [H21]
      · iexact H21
      isplitl [H22]
      · iexact H22
      isplitl [H24]
      · iexact H24
      iexact H25
  iintro ⟨H14, H15, H16, H20, H21, H22, H24, H25⟩
  dsimp only
  try simp only [pb, Sem.wp_bind]
  iapply (ld c harg12 _)
  isplitl [H12]
  · iexact H12
  iintro H12
  iapply (st c harg12 _)
  isplitl [H12]
  · iexact H12
  iintro H12
  iapply (rt c _)
  iapply Hk
  unfold post
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  iexact H25

end Cert.KernelIdeal.Run

end
-- ==== Proof.Mask.lean ====
/-
  Rows past the end of the arrays. The last chunk of a sequence reaches past the arrays, and the rows it reads there
  hold anything. The body masks them before it uses them: blocks that agree on the rows inside give the same values.
-/
module

public import proofs.«01_k».proof.Proof.Sound
public import Idealize.ShloMosaic.Lib.Pipeline.Value

@[expose] public section

namespace Cert.KernelIdeal.Run

open Cert.KernelIdeal Cert.KernelIdeal.Gen
open Idealize.ShloMosaic Idealize.ShloMosaic.TcCoe

variable {F : FTy → Type} [FloatOps F] [Named F]

/-- The number of a chunk's rows inside the arrays. -/
def rows (i : grid0.Coords) : ℕ := if (i 2).val = 2 then 128 else 384

theorem slt_128 : ∀ r : Fin 384, Scalar.cmpi .slt (BitVec.ofNat 32 r.val) 128#32 = 1#1 → r.val < 128 := by decide +kernel

/-- The mask lets through rows inside the arrays only. -/
theorem mask_lt (i : grid0.Coords) (j : S384x1.Idx) (h : k0_pay12 i j = 1#1) : (j 0).val < rows i := by
  unfold rows
  have h0 : (j 0).val < 384 := (j 0).isLt
  split
  · rename_i h2
    refine slt_128 ⟨(j 0).val, h0⟩ ?_
    rw [← h]
    unfold k0_pay12
    simp only [h2]
    show _ = Scalar.cmpi .slt (iota .tc S384x1 32 [0] iota_S384x1_d0_w32 j) _
    rw [iota_single_apply]
    rfl
  · exact h0

/-- Two arrays agree on the rows inside. -/
def Same {n : ℕ} {α : Type} (i : grid0.Coords) (x y : (⟨3, ![1, 384, n]⟩ : Shape).Idx → α) : Prop :=
  ∀ j, (j 1).val < rows i → x j = y j

/-- Under a mask within the rows inside, arrays that agree there are one. -/
theorem same_select {n : ℕ} {α β : Type} {i : grid0.Coords} {x y : (⟨3, ![1, 384, n]⟩ : Shape).Idx → α} (h : Same i x y)
    (hc : (⟨3, ![1, 384, n]⟩ : Shape).ShapeCasts ⟨2, ![384, n]⟩) (m : IVec ⟨2, ![384, n]⟩ 1)
    (hm : ∀ j, m j = 1#1 → (j 0).val < rows i) (f : α → β) (z : (⟨2, ![384, n]⟩ : Shape).Idx → β) :
    select m (fun j => f (shapeCast ⟨2, ![384, n]⟩ x hc j)) z = select m (fun j => f (shapeCast ⟨2, ![384, n]⟩ y hc j)) z := by
  funext j
  unfold select
  by_cases e : m j = 1#1
  · have := h (Fin.cons ⟨0, Nat.one_pos⟩ j) (hm j e)
    have e1 : shapeCast ⟨2, ![384, n]⟩ x hc j = shapeCast ⟨2, ![384, n]⟩ y hc j := by
      refine (shapeCast_dropUnit_apply ![384, n] x hc j).trans (this.trans (shapeCast_dropUnit_apply ![384, n] y hc j).symm)
    simp only [e1]
  · simp only [Scalar.select]
    exact (if_neg e).trans (if_neg e).symm

theorem bit_and : ∀ a b : BitVec 1, a &&& b = 1#1 → b = 1#1 := by decide

/-- The row mask spread over the columns. -/
theorem mask_col {n : ℕ} (i : grid0.Coords) (hb : S384x1.Broadcasts ⟨2, ![384, n]⟩) (j : (⟨2, ![384, n]⟩ : Shape).Idx)
    (h : broadcastTo ⟨2, ![384, n]⟩ (k0_pay12 i) hb j = 1#1) : (j 0).val < rows i := by
  refine mask_lt i (Fin.cons (j 0) (Fin.cons ⟨0, Nat.one_pos⟩ finZeroElim)) ?_
  rw [← h]
  refine (broadcastTo_apply _ hb j _ ?_).symm
  intro a
  match a with
  | ⟨0, _⟩ => rfl
  | ⟨1, _⟩ => rfl

theorem mask12 (i : grid0.Coords) (j : S384x12.Idx) (h : k0_pay16 i j = 1#1) : (j 0).val < rows i :=
  mask_col i broadcasts_S384x1_S384x12 j (bit_and _ _ h)

theorem mask256 (i : grid0.Coords) (j : S384x256.Idx)
    (h : broadcastTo S384x256 (shapeCast S384x1 (k0_pay12 i) shapeCasts_S384x1_S384x1) broadcasts_S384x1_S384x256 j = 1#1) : (j 0).val < rows i := by
  rw [shapeCast_self] at h
  exact mask_col i broadcasts_S384x1_S384x256 j h

theorem same13 {i : grid0.Coords} {x y : Vec F S1x384x12 .f32} (h : Same i x y) : k0_pay13 i x = k0_pay13 i y := by
  have e := same_select h shapeCasts_S1x384x12_S384x12 (k0_pay16 i) (mask12 i) id (broadcast S384x12 (Scalar.ofBits (F := F) .f32 0x00000000#32))
  exact congrArg (fun v => shapeCast S384x1 (multiReduction .add [1] S384 v 0x00000000#32 reduces_S384x12_S384 (.inl rfl) rfl) shapeCasts_S384_S384x1) e

theorem same14 {i : grid0.Coords} {x y : Vec F S1x384x12 .f32} (h : Same i x y) : k0_pay14 i x = k0_pay14 i y := by
  have e := same_select h shapeCasts_S1x384x12_S384x12 (k0_pay16 i) (mask12 i) id (broadcast S384x12 (Scalar.ofBits (F := F) .f32 0x00000000#32))
  exact congrArg (fun v => shapeCast S384x1 (multiReduction .add [1] S384 v 0x00000000#32 reduces_S384x12_S384 (.inl rfl) rfl) shapeCasts_S384_S384x1) e

theorem same18 {i : grid0.Coords} {x y : Vec F S1x384x12 .f32} (h : Same i x y) :
    k0_pay18 (k0_pay15 x) (k0_pay16 i) (k0_pay17 (F := F)) = k0_pay18 (k0_pay15 y) (k0_pay16 i) (k0_pay17 (F := F)) := by
  have e := same_select h shapeCasts_S1x384x12_S384x12 (k0_pay16 i) (mask12 i) id (broadcast S384x12 (Scalar.ofBits (F := F) .f32 0x00000000#32))
  exact congrArg (fun v => shapeCast S384x1 (multiReduction .add [1] S384 v 0x00000000#32 reduces_S384x12_S384 (.inl rfl) rfl) shapeCasts_S384_S384x1) e

theorem same19 {i : grid0.Coords} {x y : Vec F S1x384x256 .fp8e4m3} (h : Same i x y) : k0_pay19 (k0_pay12 i) x = k0_pay19 (k0_pay12 i) y := by
  have e := same_select h shapeCasts_S1x384x256_S384x256 _ (mask256 i) (FloatOps.extf (F := F) (φ := .fp8e4m3) .f32 bitsLt_fp8e4m3_f32) (broadcast S384x256 (Scalar.ofBits (F := F) .f32 0x00000000#32))
  exact congrArg (fun v => truncf .bf16 v bitsLt_bf16_f32) e

theorem same20 {i : grid0.Coords} {x y : Vec F S1x384x256 .fp8e4m3} (h : Same i x y) : k0_pay20 (k0_pay12 i) x = k0_pay20 (k0_pay12 i) y := by
  exact same19 h

theorem same21 {i : grid0.Coords} {x y : Vec F S1x384x256 .bf16} (h : Same i x y) : k0_pay21 (k0_pay12 i) x = k0_pay21 (k0_pay12 i) y := by
  exact same_select h shapeCasts_S1x384x256_S384x256 _ (mask256 i) (FloatOps.extf (F := F) (φ := .bf16) .f32 bitsLt_bf16_f32) (broadcast S384x256 (Scalar.ofBits (F := F) .f32 0x00000000#32))

/-- Two chunks' blocks agree on the rows inside. -/
structure Alike (i : grid0.Coords) (x y : Blocks F) : Prop where
  q : Same i x.q y.q
  qs : Same i x.qs y.qs
  k : Same i x.k y.k
  ks : Same i x.ks y.ks
  v : Same i x.v y.v
  lr : Same i x.lr y.lr

variable {i : grid0.Coords} {x y : Blocks F}

theorem Alike.vks (h : Alike i x y) : Run.vks i x = Run.vks i y := same13 h.ks
theorem Alike.vlr (h : Alike i x y) : Run.vlr i x = Run.vlr i y := same14 h.lr
theorem Alike.vqs (h : Alike i x y) : Run.vqs i x = Run.vqs i y := same18 h.qs
theorem Alike.vk (h : Alike i x y) : Run.vk i x = Run.vk i y := same19 h.k
theorem Alike.vq (h : Alike i x y) : Run.vq i x = Run.vq i y := same20 h.q
theorem Alike.vv (h : Alike i x y) : Run.vv i x = Run.vv i y := same21 h.v
theorem Alike.h1 (h : Alike i x y) (s : Scr F) : Run.h1 i x s = Run.h1 i y s := by
  unfold Run.h1 k0_pay22; dsimp only; rw [same19 h.k, h.vks]
theorem Alike.h3 (h : Alike i x y) (s : Scr F) : Run.h3 i x s = Run.h3 i y s := by
  unfold Run.h3 k0_pay23; dsimp only; rw [same19 h.k, h.vks]
theorem Alike.ex (h : Alike i x y) (s : Scr F) : Run.ex i x s = Run.ex i y s := by
  unfold Run.ex k0_pay24 k0_pay22; dsimp only; rw [same19 h.k, h.vks]
theorem Alike.gOf (h : Alike i x y) (s : Scr F) : Run.gOf i x s = Run.gOf i y s := by
  unfold Run.gOf; rw [h.h1, h.h3, h.ex]
theorem Alike.nrm (h : Alike i x y) (s : Scr F) : Run.nrm i x s = Run.nrm i y s := by
  unfold Run.nrm Run.g1 Run.g3 Run.g2 Run.sq1; rw [h.h1, h.h3, h.ex, h.vks, h.vlr, h.vk, h.vv]
theorem Alike.yOf (h : Alike i x y) (n : Norm F) (s : Scr F) : Run.yOf i x n s = Run.yOf i y n s := by
  unfold Run.yOf; rw [h.vqs, h.vq]

end Cert.KernelIdeal.Run

end
-- ==== Proof.Run.lean ====
/-
  The run of the whole kernel. The scratch a chunk finds is what the chunks before it in the sequence left; each chunk's
  results are named by it, and the first chunk of a sequence fills the scratch anew whatever it held.
-/
module

public import proofs.«01_k».proof.Proof.Mask
public import Idealize.ShloMosaic.Lib.Pipeline.TableIdle

@[expose] public section

set_option synthInstance.maxSize 4096
set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F] [Named F]

local notation "𝕄" => MT nD τ sig Unit (Elt F) ℕ (UR sig nD τ) ℕ

/-- Contents nothing depends on: zeros. -/
def zf {s : Shape} (φ : FTy) : FVec F s φ := fun _ => Scalar.ofBits φ 0

variable (m : (ℓ : Loc nD τ sig) → Buf (Elt F) ℓ) (ρ : Dev nD → PrngReg) (c : Dev nD)

/-! ## The grid -/

theorem cond2_iff : ∀ t : Fin cfg0.N, k0_cond2 (grid0.coords t) = 1#1 ↔ t.val % 3 = 0 := by decide +kernel
theorem cond3_iff : ∀ t : Fin cfg0.N, k0_cond3 (grid0.coords t) = 1#1 ↔ t.val % 3 = 2 := by decide +kernel
theorem fetch0 : ∀ t : Fin cfg0.N, (cfg0.win 0).fetch t = true := by decide +kernel
theorem fetch1 : ∀ t : Fin cfg0.N, (cfg0.win 1).fetch t = true := by decide +kernel
theorem fetch2 : ∀ t : Fin cfg0.N, (cfg0.win 2).fetch t = true := by decide +kernel
theorem fetch3 : ∀ t : Fin cfg0.N, (cfg0.win 3).fetch t = true := by decide +kernel
theorem fetch4 : ∀ t : Fin cfg0.N, (cfg0.win 4).fetch t = true := by decide +kernel
theorem fetch5 : ∀ t : Fin cfg0.N, (cfg0.win 5).fetch t = true := by decide +kernel
theorem flush11 : ∀ t : Fin cfg0.N, (cfg0.win 11).flush t = decide (t.val % 3 = 2) := by decide +kernel
theorem flush12 : ∀ t : Fin cfg0.N, (cfg0.win 12).flush t = decide (t.val % 3 = 2) := by decide +kernel
theorem flush13 : ∀ t : Fin cfg0.N, (cfg0.win 13).flush t = decide (t.val % 3 = 2) := by decide +kernel
theorem flush14 : ∀ t : Fin cfg0.N, (cfg0.win 14).flush t = decide (t.val % 3 = 2) := by decide +kernel
theorem flush15 : ∀ t : Fin cfg0.N, (cfg0.win 15).flush t = decide (t.val % 3 = 2) := by decide +kernel
theorem flush16 : ∀ t : Fin cfg0.N, (cfg0.win 16).flush t = decide (t.val % 3 = 2) := by decide +kernel
theorem fresh14 : ∀ t : Fin cfg0.N, cfg0.fresh 14 t.val = decide (t.val % 3 = 0) := by decide +kernel
theorem fresh15 : ∀ t : Fin cfg0.N, cfg0.fresh 15 t.val = decide (t.val % 3 = 0) := by decide +kernel
theorem fresh16 : ∀ t : Fin cfg0.N, cfg0.fresh 16 t.val = decide (t.val % 3 = 0) := by decide +kernel
theorem xsize0 : ∀ (t : Fin cfg0.N) (a : Fin 3), win0_0.xsize (grid0.coords t) a = ![1, rows (grid0.coords t), 256] a := by decide +kernel
theorem xsize1 : ∀ (t : Fin cfg0.N) (a : Fin 3), win0_1.xsize (grid0.coords t) a = ![1, rows (grid0.coords t), 12] a := by decide +kernel
theorem xsize2 : ∀ (t : Fin cfg0.N) (a : Fin 3), win0_2.xsize (grid0.coords t) a = ![1, rows (grid0.coords t), 256] a := by decide +kernel
theorem xsize3 : ∀ (t : Fin cfg0.N) (a : Fin 3), win0_3.xsize (grid0.coords t) a = ![1, rows (grid0.coords t), 12] a := by decide +kernel
theorem xsize4 : ∀ (t : Fin cfg0.N) (a : Fin 3), win0_4.xsize (grid0.coords t) a = ![1, rows (grid0.coords t), 256] a := by decide +kernel
theorem xsize5 : ∀ (t : Fin cfg0.N) (a : Fin 3), win0_5.xsize (grid0.coords t) a = ![1, rows (grid0.coords t), 12] a := by decide +kernel

/-- Window 0's block, filled out in two ways, is one on the rows inside the arrays. -/
theorem same_fill0 {α : Type} (t : Fin cfg0.N) (d d' : win0_0.block.Idx → α) (g : (win0_0.xblock (grid0.coords t)).Idx → α) :
    Same (n := 256) (grid0.coords t) (win0_0.fill (grid0.coords t) d g) (win0_0.fill (grid0.coords t) d' g) := by
  intro j hj
  have hm : win0_0.moved (grid0.coords t) j = true := (win0_0.moved_iff _ j).mpr fun a => by
    rw [xsize0 t a]
    match a with
    | ⟨0, _⟩ => exact (j 0).isLt
    | ⟨1, _⟩ => exact hj
    | ⟨2, _⟩ => exact (j 2).isLt
  unfold Pipeline.Window.fill; rw [dif_pos hm, dif_pos hm]

/-- Window 1's block, filled out in two ways, is one on the rows inside the arrays. -/
theorem same_fill1 {α : Type} (t : Fin cfg0.N) (d d' : win0_1.block.Idx → α) (g : (win0_1.xblock (grid0.coords t)).Idx → α) :
    Same (n := 12) (grid0.coords t) (win0_1.fill (grid0.coords t) d g) (win0_1.fill (grid0.coords t) d' g) := by
  intro j hj
  have hm : win0_1.moved (grid0.coords t) j = true := (win0_1.moved_iff _ j).mpr fun a => by
    rw [xsize1 t a]
    match a with
    | ⟨0, _⟩ => exact (j 0).isLt
    | ⟨1, _⟩ => exact hj
    | ⟨2, _⟩ => exact (j 2).isLt
  unfold Pipeline.Window.fill; rw [dif_pos hm, dif_pos hm]

/-- Window 2's block, filled out in two ways, is one on the rows inside the arrays. -/
theorem same_fill2 {α : Type} (t : Fin cfg0.N) (d d' : win0_2.block.Idx → α) (g : (win0_2.xblock (grid0.coords t)).Idx → α) :
    Same (n := 256) (grid0.coords t) (win0_2.fill (grid0.coords t) d g) (win0_2.fill (grid0.coords t) d' g) := by
  intro j hj
  have hm : win0_2.moved (grid0.coords t) j = true := (win0_2.moved_iff _ j).mpr fun a => by
    rw [xsize2 t a]
    match a with
    | ⟨0, _⟩ => exact (j 0).isLt
    | ⟨1, _⟩ => exact hj
    | ⟨2, _⟩ => exact (j 2).isLt
  unfold Pipeline.Window.fill; rw [dif_pos hm, dif_pos hm]

/-- Window 3's block, filled out in two ways, is one on the rows inside the arrays. -/
theorem same_fill3 {α : Type} (t : Fin cfg0.N) (d d' : win0_3.block.Idx → α) (g : (win0_3.xblock (grid0.coords t)).Idx → α) :
    Same (n := 12) (grid0.coords t) (win0_3.fill (grid0.coords t) d g) (win0_3.fill (grid0.coords t) d' g) := by
  intro j hj
  have hm : win0_3.moved (grid0.coords t) j = true := (win0_3.moved_iff _ j).mpr fun a => by
    rw [xsize3 t a]
    match a with
    | ⟨0, _⟩ => exact (j 0).isLt
    | ⟨1, _⟩ => exact hj
    | ⟨2, _⟩ => exact (j 2).isLt
  unfold Pipeline.Window.fill; rw [dif_pos hm, dif_pos hm]

/-- Window 4's block, filled out in two ways, is one on the rows inside the arrays. -/
theorem same_fill4 {α : Type} (t : Fin cfg0.N) (d d' : win0_4.block.Idx → α) (g : (win0_4.xblock (grid0.coords t)).Idx → α) :
    Same (n := 256) (grid0.coords t) (win0_4.fill (grid0.coords t) d g) (win0_4.fill (grid0.coords t) d' g) := by
  intro j hj
  have hm : win0_4.moved (grid0.coords t) j = true := (win0_4.moved_iff _ j).mpr fun a => by
    rw [xsize4 t a]
    match a with
    | ⟨0, _⟩ => exact (j 0).isLt
    | ⟨1, _⟩ => exact hj
    | ⟨2, _⟩ => exact (j 2).isLt
  unfold Pipeline.Window.fill; rw [dif_pos hm, dif_pos hm]

/-- Window 5's block, filled out in two ways, is one on the rows inside the arrays. -/
theorem same_fill5 {α : Type} (t : Fin cfg0.N) (d d' : win0_5.block.Idx → α) (g : (win0_5.xblock (grid0.coords t)).Idx → α) :
    Same (n := 12) (grid0.coords t) (win0_5.fill (grid0.coords t) d g) (win0_5.fill (grid0.coords t) d' g) := by
  intro j hj
  have hm : win0_5.moved (grid0.coords t) j = true := (win0_5.moved_iff _ j).mpr fun a => by
    rw [xsize5 t a]
    match a with
    | ⟨0, _⟩ => exact (j 0).isLt
    | ⟨1, _⟩ => exact hj
    | ⟨2, _⟩ => exact (j 2).isLt
  unfold Pipeline.Window.fill; rw [dif_pos hm, dif_pos hm]

/-! ## What the chunks find and leave -/

/-- The chunk's blocks as they lie in the arrays, zeros past the arrays' end. -/
def xs (t : Fin cfg0.N) : Blocks F where
  q := win0_0.fill (grid0.coords t) (zf .fp8e4m3) (iblk m c 0 t)
  qs := win0_1.fill (grid0.coords t) (zf .f32) (iblk m c 1 t)
  k := win0_2.fill (grid0.coords t) (zf .fp8e4m3) (iblk m c 2 t)
  ks := win0_3.fill (grid0.coords t) (zf .f32) (iblk m c 3 t)
  v := win0_4.fill (grid0.coords t) (zf .bf16) (iblk m c 4 t)
  lr := win0_5.fill (grid0.coords t) (zf .f32) (iblk m c 5 t)

/-- The chunk's scratch once begun, from the scratch it finds. -/
def beg (t : Fin cfg0.N) (s : Scr F) : Scr F := begin (grid0.coords t) (iblk m c 6 t) (iblk m c 7 t) (iblk m c 8 t) s
/-- The chunk's normalised gradients. -/
def nrmAt (t : Fin cfg0.N) (s : Scr F) : Norm F := nrm (grid0.coords t) (xs m c t) (beg m c t s)
/-- The scratch the chunk leaves. -/
def stepAt (t : Fin cfg0.N) (s : Scr F) : Scr F := next (nrmAt m c t s) (beg m c t s)

/-- The scratch before the chunk. -/
def scr : ℕ → Scr F
  | 0 => ⟨zf .f32, zf .f32, zf .f32, zf .f32, zf .f32, zf .f32⟩
  | n + 1 => if h : n < cfg0.N then stepAt m c ⟨n, h⟩ (scr n) else scr n

/-- The chunk's normalised gradients, and the scratch it begins with, as they are. -/
def nAt (t : Fin cfg0.N) : Norm F := nrmAt m c t (scr m c t.val)
def sAt (t : Fin cfg0.N) : Scr F := beg m c t (scr m c t.val)

theorem scr_succ (t : Fin cfg0.N) : scr m c (t.val + 1) = next (nAt m c t) (sAt m c t) := by
  show (if h : t.val < cfg0.N then _ else _) = _
  rw [dif_pos t.isLt]; rfl

/-- The first chunk of a sequence does not depend on the scratch it finds. -/
theorem beg_eq (t : Fin cfg0.N) (s : Scr F) (h : t.val % 3 ≠ 0 → s = scr m c t.val) : beg m c t s = sAt m c t := by
  unfold sAt beg begin
  by_cases e : t.val % 3 = 0
  · rw [if_pos ((cond2_iff t).mpr e), if_pos ((cond2_iff t).mpr e)]
  · rw [h e]

/-- The first chunk of the chunk's sequence. -/
def grp (t : Fin cfg0.N) : Fin cfg0.N := ⟨3 * (t.val / 3), by have := t.isLt; omega⟩

theorem grp_of_zero (t : Fin cfg0.N) (h : t.val % 3 = 0) : grp t = t := Fin.ext (by show 3 * (t.val / 3) = t.val; omega)
theorem grp_pred (t : Fin cfg0.N) (h : t.val % 3 ≠ 0) : grp ⟨t.val - 1, by have := t.isLt; omega⟩ = grp t :=
  Fin.ext (by show 3 * ((t.val - 1) / 3) = 3 * (t.val / 3); omega)

/-- The invariant between chunks: inside a sequence the scratch is what the chunks before left. -/
def Inv (n : ℕ) : sProp 𝕄 :=
  iprop((∃ s : Scr F, ⌜n % 3 ≠ 0 → s = scr m c n⌝
    ∗ owns (c : Thread nD τ) (Memref.whole cc0_scratch0) fullShare s.w1
    ∗ owns (c : Thread nD τ) (Memref.whole cc0_scratch1) fullShare s.w3
    ∗ owns (c : Thread nD τ) (Memref.whole cc0_scratch2) fullShare s.w2
    ∗ owns (c : Thread nD τ) (Memref.whole cc0_scratch3) fullShare s.n1
    ∗ owns (c : Thread nD τ) (Memref.whole cc0_scratch4) fullShare s.n3
    ∗ owns (c : Thread nD τ) (Memref.whole cc0_scratch5) fullShare s.n2) ∗ ∃ r, prngReg c r)

/-- What the run leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => (xs m c t).q
    | ⟨1, _⟩ => (xs m c t).qs
    | ⟨2, _⟩ => (xs m c t).k
    | ⟨3, _⟩ => (xs m c t).ks
    | ⟨4, _⟩ => (xs m c t).v
    | ⟨5, _⟩ => (xs m c t).lr
    | ⟨6, _⟩ => iblk m c 6 t
    | ⟨7, _⟩ => iblk m c 7 t
    | ⟨8, _⟩ => iblk m c 8 t
    | ⟨9, _⟩ => yOf (grid0.coords t) (xs m c t) (nAt m c t) (sAt m c t)
    | ⟨10, _⟩ => gOf (grid0.coords t) (xs m c t) (sAt m c t)
    | ⟨11, _⟩ => w1Of (nAt m c t) (sAt m c t)
    | ⟨12, _⟩ => w3Of (nAt m c t) (sAt m c t)
    | ⟨13, _⟩ => w2Of (nAt m c t) (sAt m c t)
    | ⟨14, _⟩ => u1Of (nAt m c (grp t))
    | ⟨15, _⟩ => u3Of (nAt m c (grp t))
    | ⟨16, _⟩ => u2Of (nAt m c (grp t))
    | ⟨_ + 17, h⟩ => absurd h (Nat.not_lt.2 (Nat.le_add_left _ _))
  Φ n := Inv m c n.val
  q _ := fullShare
  owed _ := 0

theorem A_eq (w : Fin cfg0.W) : (dats m 0 c).A w = V m c (Pipeline.arrRef spec0 w) := by dsimp only [dats]

/-- Contents as the chunk must leave them are left. -/
theorem leave (w : Fin cfg0.W) (t : Fin cfg0.N) (X : (cfg0.win w).block.Idx → Elt F (cfg0.win w).elt) (h : (dats m 0 c).Leaves w t X) :
    owns (c : Thread nD τ) ((cfg0.win w).stage (cfg0.slots t w)) fullShare X ⊢ ((dats m 0 c).leaves w t : sProp 𝕄) := by
  unfold Dat.leaves
  unfold Dat.Leaves at h
  generalize cfg0.idle w (cfg0.grid.coords t) = a at h ⊢
  generalize (cfg0.win w).flush t = b at h ⊢
  generalize cfg0.loose w = e at h ⊢
  cases a <;> cases b <;> cases e <;> dsimp only at h ⊢ <;>
    first
      | (obtain ⟨d, rfl⟩ := h; iintro H; iexists d; iexact H)
      | (subst h; iintro H; iexact H)

/-- An input's buffer, fetched and only read. -/
theorem leave_in (w : Fin cfg0.W) (t : Fin cfg0.N) (d z : (cfg0.win w).block.Idx → Elt F (cfg0.win w).elt)
    (hf : (cfg0.win w).fetch t = true) (hi : cfg0.idle w (cfg0.grid.coords t) = false) (hl : cfg0.loose w = true)
    (ha : (dats m 0 c).after w t = (dats m 0 c).fetched w t z) : (dats m 0 c).Leaves w t ((dats m 0 c).before w t d) := by
  rw [Dat.Leaves.live_iff _ (.inl hi), hl]
  refine ⟨d, ?_⟩
  unfold Dat.before
  rw [if_pos hf, ha, (dats m 0 c).cut_fetched]
  rfl

theorem before0 (t : Fin cfg0.N) (d) : (dats m 0 c).before 0 t d = win0_0.fill (grid0.coords t) d (iblk m c 0 t) := by
  unfold Dat.before; rw [if_pos (fetch0 t)]; rfl
theorem before1 (t : Fin cfg0.N) (d) : (dats m 0 c).before 1 t d = win0_1.fill (grid0.coords t) d (iblk m c 1 t) := by
  unfold Dat.before; rw [if_pos (fetch1 t)]; rfl
theorem before2 (t : Fin cfg0.N) (d) : (dats m 0 c).before 2 t d = win0_2.fill (grid0.coords t) d (iblk m c 2 t) := by
  unfold Dat.before; rw [if_pos (fetch2 t)]; rfl
theorem before3 (t : Fin cfg0.N) (d) : (dats m 0 c).before 3 t d = win0_3.fill (grid0.coords t) d (iblk m c 3 t) := by
  unfold Dat.before; rw [if_pos (fetch3 t)]; rfl
theorem before4 (t : Fin cfg0.N) (d) : (dats m 0 c).before 4 t d = win0_4.fill (grid0.coords t) d (iblk m c 4 t) := by
  unfold Dat.before; rw [if_pos (fetch4 t)]; rfl
theorem before5 (t : Fin cfg0.N) (d) : (dats m 0 c).before 5 t d = win0_5.fill (grid0.coords t) d (iblk m c 5 t) := by
  unfold Dat.before; rw [if_pos (fetch5 t)]; rfl
/-- Past the sequence's first chunk the buffer still holds its update. -/
theorem before14 (t : Fin cfg0.N) (h : t.val % 3 ≠ 0) (d) : (dats m 0 c).before 14 t d = u1Of (nAt m c (grp t)) := by
  rw [(dats m 0 c).before_out_traj 14 rfl (fun _ _ => rfl) ?_ t.val t rfl d]
  · rw [if_neg (by rw [fresh14 t]; simpa using h)]
    show u1Of (nAt m c (grp ⟨t.val - 1, _⟩)) = _
    rw [grp_pred t h]
  · intro t ht hi hf
    have h : t.val % 3 ≠ 0 := by rw [fresh14 t] at hf; simpa using hf
    show u1Of (nAt m c (grp t)) = u1Of (nAt m c (grp ⟨t.val - 1, _⟩))
    rw [grp_pred t h]
/-- Past the sequence's first chunk the buffer still holds its update. -/
theorem before15 (t : Fin cfg0.N) (h : t.val % 3 ≠ 0) (d) : (dats m 0 c).before 15 t d = u3Of (nAt m c (grp t)) := by
  rw [(dats m 0 c).before_out_traj 15 rfl (fun _ _ => rfl) ?_ t.val t rfl d]
  · rw [if_neg (by rw [fresh15 t]; simpa using h)]
    show u3Of (nAt m c (grp ⟨t.val - 1, _⟩)) = _
    rw [grp_pred t h]
  · intro t ht hi hf
    have h : t.val % 3 ≠ 0 := by rw [fresh15 t] at hf; simpa using hf
    show u3Of (nAt m c (grp t)) = u3Of (nAt m c (grp ⟨t.val - 1, _⟩))
    rw [grp_pred t h]
/-- Past the sequence's first chunk the buffer still holds its update. -/
theorem before16 (t : Fin cfg0.N) (h : t.val % 3 ≠ 0) (d) : (dats m 0 c).before 16 t d = u2Of (nAt m c (grp t)) := by
  rw [(dats m 0 c).before_out_traj 16 rfl (fun _ _ => rfl) ?_ t.val t rfl d]
  · rw [if_neg (by rw [fresh16 t]; simpa using h)]
    show u2Of (nAt m c (grp ⟨t.val - 1, _⟩)) = _
    rw [grp_pred t h]
  · intro t ht hi hf
    have h : t.val % 3 ≠ 0 := by rw [fresh16 t] at hf; simpa using hf
    show u2Of (nAt m c (grp t)) = u2Of (nAt m c (grp ⟨t.val - 1, _⟩))
    rw [grp_pred t h]

/-- A buffer stored at the sequence's last chunk only. -/
theorem leave_last (w : Fin cfg0.W) (t : Fin cfg0.N) (X d) (hi : cfg0.idle w (cfg0.grid.coords t) = !(k0_cond3 (grid0.coords t) == 1#1))
    (hf : (cfg0.win w).flush t = decide (t.val % 3 = 2)) (hl : cfg0.loose w = false) (ha : (dats m 0 c).after w t = X) :
    (dats m 0 c).Leaves w t (if k0_cond3 (grid0.coords t) = 1#1 then X else (dats m 0 c).before w t d) := by
  by_cases h : t.val % 3 = 2
  · have e := (cond3_iff t).mpr h
    rw [if_pos e, Dat.Leaves.live_iff _ (.inl (hi.trans (by rw [e]; rfl))), hl]
    exact ha.symm
  · have e := mt (cond3_iff t).mp h
    rw [if_neg e, Dat.Leaves.idle_iff _ (hi.trans (by simp [e])) (hf.trans (decide_eq_false h))]
    exact ⟨d, rfl⟩

/-- A buffer stored at the sequence's first chunk and written back after its last. -/
theorem leave_first (w : Fin cfg0.W) (t : Fin cfg0.N) (X d) (hi : cfg0.idle w (cfg0.grid.coords t) = !(k0_cond2 (grid0.coords t) == 1#1))
    (hf : (cfg0.win w).flush t = decide (t.val % 3 = 2)) (hl : cfg0.loose w = false) (ha : t.val % 3 = 0 → (dats m 0 c).after w t = X)
    (hb : t.val % 3 ≠ 0 → (dats m 0 c).before w t d = (dats m 0 c).after w t) :
    (dats m 0 c).Leaves w t (if k0_cond2 (grid0.coords t) = 1#1 then X else (dats m 0 c).before w t d) := by
  by_cases h : t.val % 3 = 0
  · have e := (cond2_iff t).mpr h
    rw [if_pos e, Dat.Leaves.live_iff _ (.inl (hi.trans (by rw [e]; rfl))), hl]
    exact (ha h).symm
  · have e := mt (cond2_iff t).mp h
    rw [if_neg e]
    by_cases h2 : t.val % 3 = 2
    · rw [Dat.Leaves.live_iff _ (.inr (hf.trans (decide_eq_true h2))), hl]
      exact hb h
    · rw [Dat.Leaves.idle_iff _ (hi.trans (by simp [e])) (hf.trans (decide_eq_false h2))]
      exact ⟨d, rfl⟩

/-- The body table's row at the point is the body. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body at a chunk: from the buffers as the chunk finds them to the buffers as it must leave them. -/
theorem body_at (t : Fin cfg0.N) :
    iprop(Inv m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d))
        ∗ (∃ d, owns (c : Thread nD τ) (st0_8 t) fullShare ((dats m 0 c).before 8 t d))
        ∗ (∃ d, owns (c : Thread nD τ) (st0_9 t) fullShare ((dats m 0 c).before 9 t d))
        ∗ (∃ d, owns (c : Thread nD τ) (st0_10 t) fullShare ((dats m 0 c).before 10 t d))
        ∗ (∃ d, owns (c : Thread nD τ) (st0_11 t) fullShare ((dats m 0 c).before 11 t d))
        ∗ (∃ d, owns (c : Thread nD τ) (st0_12 t) fullShare ((dats m 0 c).before 12 t d))
        ∗ (∃ d, owns (c : Thread nD τ) (st0_13 t) fullShare ((dats m 0 c).before 13 t d))
        ∗ (∃ d, owns (c : Thread nD τ) (st0_14 t) fullShare ((dats m 0 c).before 14 t d))
        ∗ (∃ d, owns (c : Thread nD τ) (st0_15 t) fullShare ((dats m 0 c).before 15 t d))
        ∗ (∃ d, owns (c : Thread nD τ) (st0_16 t) fullShare ((dats m 0 c).before 16 t d)))
      ⊢ wp frame (wpE (defs₀ (F := F)) Variants.none c none) Set.univ (bodyAt0 t) fun _ =>
        iprop(Inv m c (t.val + 1) ∗ (dats m 0 c).owesAt () t.succ
          ∗ (dats m 0 c).leaves 0 t
          ∗ (dats m 0 c).leaves 1 t
          ∗ (dats m 0 c).leaves 2 t
          ∗ (dats m 0 c).leaves 3 t
          ∗ (dats m 0 c).leaves 4 t
          ∗ (dats m 0 c).leaves 5 t
          ∗ (dats m 0 c).leaves 6 t
          ∗ (dats m 0 c).leaves 7 t
          ∗ (dats m 0 c).leaves 8 t
          ∗ (dats m 0 c).leaves 9 t
          ∗ (dats m 0 c).leaves 10 t
          ∗ (dats m 0 c).leaves 11 t
          ∗ (dats m 0 c).leaves 12 t
          ∗ (dats m 0 c).leaves 13 t
          ∗ (dats m 0 c).leaves 14 t
          ∗ (dats m 0 c).leaves 15 t
          ∗ (dats m 0 c).leaves 16 t) := by
  unfold Inv
  iintro ⟨⟨⟨%s, %hs, S0, S1, S2, S3, S4, S5⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hb := beg_eq m c t s hs
  have hx : Alike (grid0.coords t) (⟨(dats m 0 c).before 0 t d0, (dats m 0 c).before 1 t d1, (dats m 0 c).before 2 t d2,
      (dats m 0 c).before 3 t d3, (dats m 0 c).before 4 t d4, (dats m 0 c).before 5 t d5⟩ : Blocks F) (xs m c t) :=
    ⟨by rw [before0]; exact same_fill0 t _ _ _, by rw [before1]; exact same_fill1 t _ _ _, by rw [before2]; exact same_fill2 t _ _ _,
      by rw [before3]; exact same_fill3 t _ _ _, by rw [before4]; exact same_fill4 t _ _ _, by rw [before5]; exact same_fill5 t _ _ _⟩
  have e6 : (dats m 0 c).before 6 t d6 = iblk m c 6 t := before0_6_of m (dats m 0 c) rfl (fun _ => rfl) t d6
  have e7 : (dats m 0 c).before 7 t d7 = iblk m c 7 t := before0_7_of m (dats m 0 c) rfl (fun _ => rfl) t d7
  have e8 : (dats m 0 c).before 8 t d8 = iblk m c 8 t := before0_8_of m (dats m 0 c) rfl (fun _ => rfl) t d8
  have hn := hx.nrm (sAt m c t)
  have hg := hx.gOf (sAt m c t)
  have hy := hx.yOf (nAt m c t) (sAt m c t)
  rw [e6, e7, e8]
  iapply (sound c (grid0.coords t) _ _ _ _ _ _ _ _ _ _ _ _ _ _ _ _ _ _ _ _ _ _ _ _ _ _ _ _ _ _ _ _ _ _ _ _ _ _ _ _ _ _ _ _ _ _
    ((dats m 0 c).before 0 t d0) ((dats m 0 c).before 1 t d1) ((dats m 0 c).before 2 t d2) ((dats m 0 c).before 3 t d3) ((dats m 0 c).before 4 t d4) ((dats m 0 c).before 5 t d5) (iblk m c 6 t) (iblk m c 7 t) (iblk m c 8 t) ((dats m 0 c).before 9 t d9) ((dats m 0 c).before 10 t d10) ((dats m 0 c).before 11 t d11) ((dats m 0 c).before 12 t d12) ((dats m 0 c).before 13 t d13) ((dats m 0 c).before 14 t d14) ((dats m 0 c).before 15 t d15) ((dats m 0 c).before 16 t d16) s.w1 s.w3 s.w2 s.n1 s.n3 s.n2 _)
  unfold pre post
  rw [show begin (grid0.coords t) (iblk m c 6 t) (iblk m c 7 t) (iblk m c 8 t) ⟨s.w1, s.w3, s.w2, s.n1, s.n3, s.n2⟩ = sAt m c t from hb]
  dsimp only
  rw [hn, hg, show nrm (grid0.coords t) (xs m c t) (sAt m c t) = nAt m c t from rfl, hy]
  isplitl [H0 H1 H2 H3 H4 H5 H6 H7 H8 H9 H10 H11 H12 H13 H14 H15 H16 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [S0]; · iexact S0
    isplitl [S1]; · iexact S1
    isplitl [S2]; · iexact S2
    isplitl [S3]; · iexact S3
    isplitl [S4]; · iexact S4
    iexact S5
  iintro ⟨H0, H1, H2, H3, H4, H5, H6, H7, H8, H9, H10, H11, H12, H13, H14, H15, H16, S0, S1, S2, S3, S4, S5⟩
  isplitl [S0 S1 S2 S3 S4 S5 Hr]
  · isplitr [Hr]
    · iexists (next (nAt m c t) (sAt m c t))
      isplitr
      · ipureintro; exact fun _ => (scr_succ m c t).symm
      isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]; · iapply (leave m c 0 t _ (leave_in m c 0 t d0 (zf .fp8e4m3) (fetch0 t) rfl rfl rfl)); iexact H0
  isplitl [H1]; · iapply (leave m c 1 t _ (leave_in m c 1 t d1 (zf .f32) (fetch1 t) rfl rfl rfl)); iexact H1
  isplitl [H2]; · iapply (leave m c 2 t _ (leave_in m c 2 t d2 (zf .fp8e4m3) (fetch2 t) rfl rfl rfl)); iexact H2
  isplitl [H3]; · iapply (leave m c 3 t _ (leave_in m c 3 t d3 (zf .f32) (fetch3 t) rfl rfl rfl)); iexact H3
  isplitl [H4]; · iapply (leave m c 4 t _ (leave_in m c 4 t d4 (zf .bf16) (fetch4 t) rfl rfl rfl)); iexact H4
  isplitl [H5]; · iapply (leave m c 5 t _ (leave_in m c 5 t d5 (zf .f32) (fetch5 t) rfl rfl rfl)); iexact H5
  isplitl [H6]; · iapply (leave m c 6 t _ ((Dat.Leaves.live_iff _ (.inl rfl)).mpr rfl)); iexact H6
  isplitl [H7]; · iapply (leave m c 7 t _ ((Dat.Leaves.live_iff _ (.inl rfl)).mpr rfl)); iexact H7
  isplitl [H8]; · iapply (leave m c 8 t _ ((Dat.Leaves.live_iff _ (.inl rfl)).mpr rfl)); iexact H8
  isplitl [H9]; · iapply (leave m c 9 t _ ((Dat.Leaves.live_iff _ (.inl rfl)).mpr ⟨_, (Pipeline.Window.fill_cut _ _ _).symm⟩)); iexact H9
  isplitl [H10]; · iapply (leave m c 10 t _ ((Dat.Leaves.live_iff _ (.inl rfl)).mpr ⟨_, (Pipeline.Window.fill_cut _ _ _).symm⟩)); iexact H10
  isplitl [H11]; · iapply (leave m c 11 t _ (leave_last m c 11 t _ d11 rfl (flush11 t) rfl rfl)); iexact H11
  isplitl [H12]; · iapply (leave m c 12 t _ (leave_last m c 12 t _ d12 rfl (flush12 t) rfl rfl)); iexact H12
  isplitl [H13]; · iapply (leave m c 13 t _ (leave_last m c 13 t _ d13 rfl (flush13 t) rfl rfl)); iexact H13
  isplitl [H14]; · iapply (leave m c 14 t _ (leave_first m c 14 t _ d14 rfl (flush14 t) rfl (fun h => by show u1Of (nAt m c (grp t)) = _; rw [grp_of_zero t h]) (fun h => before14 m c t h d14))); iexact H14
  isplitl [H15]; · iapply (leave m c 15 t _ (leave_first m c 15 t _ d15 rfl (flush15 t) rfl (fun h => by show u3Of (nAt m c (grp t)) = _; rw [grp_of_zero t h]) (fun h => before15 m c t h d15))); iexact H15
  iapply (leave m c 16 t _ (leave_first m c 16 t _ d16 rfl (flush16 t) rfl (fun h => by show u2Of (nAt m c (grp t)) = _; rw [grp_of_zero t h]) (fun h => before16 m c t h d16))); iexact H16

/-- The body obligation. -/
theorem body_obligation : BodyObligationLoose (dats (F := F) m 0 c) (defs₀ (F := F)) Variants.none () Set.univ := fun t => by
  rw [bigSep_W0, bigSep_W0, defs₀_row]
  exact body_at m c t

/-! ## The launch -/

theorem hin : Pipeline.ΦA (cfgs 0).spec c ⊢ ((dats (F := F) m 0 c).Φ 0 : sProp 𝕄) := by
  show Pipeline.ΦA spec0 c ⊢ Inv m c 0
  unfold Pipeline.ΦA Inv
  rw [scopedRest0_eq]
  simp only [owns_whole]
  iintro ⟨⟨⟨%f0, S0⟩, ⟨%f1, S1⟩, ⟨%f2, S2⟩, ⟨%f3, S3⟩, ⟨%f4, S4⟩, ⟨%f5, S5⟩⟩, Hr⟩
  isplitr [Hr]
  · iexists (⟨f0, f1, f2, f3, f4, f5⟩ : Scr F)
    isplitr
    · ipureintro; exact fun h => absurd rfl h
    isplitl [S0]; · iexact S0
    isplitl [S1]; · iexact S1
    isplitl [S2]; · iexact S2
    isplitl [S3]; · iexact S3
    isplitl [S4]; · iexact S4
    iexact S5
  iexact Hr

theorem hout : ((dats (F := F) m 0 c).Φ (Fin.last (cfgs 0).N) : sProp 𝕄) ⊢ Pipeline.ΦA (cfgs 0).spec c := by
  show Inv m c _ ⊢ Pipeline.ΦA spec0 c
  unfold Pipeline.ΦA Inv
  rw [scopedRest0_eq]
  simp only [owns_whole]
  iintro ⟨⟨%s, -, S0, S1, S2, S3, S4, S5⟩, Hr⟩
  isplitr [Hr]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hr

set_option backward.isDefEq.respectTransparency.types false in
/-- Every execution ends, with every array at what the run leaves in it and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => body_obligation m c) (hshare := fun c => (dats m 0 c).share_full fun _ => rfl)
    (howed := fun _ _ => rfl) (V₀ := V0 m) (opss := [hostOps1]) sfx_sub sfx_fresh sfx_keeps (hmain := hmain m Variants.none)
    (hA := fun c => A_eq m c) (hin := fun c => hin m c) (hout := fun c => hout m c)
    (Q' := fun r => Pipeline.FramePost cfgs (dats m) 0 (Pipeline.afterTail₀ cfgs (dats m) 0 (V0 m) [hostOps1]) r ∧ r.2.sem = fun _ => 0) (hQ' := fun _ h => h)

/-- The arguments after the run. -/
theorem args_of {r : PUnit × MemSt nD τ sig (Elt F)}
    (h : Pipeline.FramePost cfgs (dats (F := F) m) 0 (Pipeline.afterTail₀ cfgs (dats m) 0 (V0 m) [hostOps1]) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c)))⟩

/-- Every execution ends, with the arguments as they were and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => args_of m c h.1, h.2⟩) (run_main m ρ)

end Cert.KernelIdeal.Run

end
-- ==== Proof.Model.lean ====
/-
  The problem over the real numbers, one head of one sequence at a time: what a chunk makes of the weights it finds, its
  gradients, their normalisation by five polynomial steps, and the results.
-/
module

public import Idealize.ShloMosaic.Lib.Pointwise
public import Mathlib.Data.Matrix.Mul
public import Mathlib.Analysis.SpecialFunctions.Exp

@[expose] public section

noncomputable section

namespace Cert.Lact

open Matrix

/-- A real matrix. -/
abbrev Mat (n m : ℕ) := Matrix (Fin n) (Fin m) ℝ

/-- The coefficients of the polynomial step, and the two small numbers added to a norm. -/
def cA : ℝ := 902955 / 262144
def cB : ℝ := -(10013901 / 2097152)
def cC : ℝ := 8520729 / 4194304
def cE : ℝ := 14073749 / 140737488355328
def cR : ℝ := 10995116 / 1099511627776

theorem cE_pos : 0 < cE := by unfold cE; norm_num
theorem cR_pos : 0 < cR := by unfold cR; norm_num

variable {n m : ℕ}

/-- The norm of all of a matrix. -/
def nrm (x : Mat n m) : ℝ := Real.sqrt (∑ i, ∑ j, x i j * x i j)

/-- The matrix over its norm. -/
def unit (x : Mat n m) : Mat n m := Matrix.of fun i j => x i j * (1 / (nrm x + cE))

/-- One polynomial step. -/
def nsStep (x : Mat n m) : Mat n m :=
  cA • x + (cB • (x * xᵀ) + cC • ((x * xᵀ) * (x * xᵀ))) * x

/-- The normalisation: five steps from the matrix over its norm. -/
def ns (x : Mat n m) : Mat n m := nsStep (nsStep (nsStep (nsStep (nsStep (unit x)))))

/-! The same five steps as three and two, each group through powers of one Gram matrix. -/

def gr (x : Mat n m) : Mat n n := x * xᵀ
def pe (a : Mat n n) : Mat n n := cB • a + cC • gr a
def c2A : ℝ := 2 * cA
def cAA : ℝ := cA * cA
def cAAA : ℝ := cA * cA * cA
/-- The Gram matrix of the step's result, from the Gram matrix of what it takes. -/
def nx (a : Mat n n) : Mat n n :=
  (1 / 2 : ℝ) • ((cAA • a + a * (c2A • pe a + gr (pe a))) + (cAA • a + a * (c2A • pe a + gr (pe a)))ᵀ)
def d1 (a : Mat n n) : Mat n n := cA • pe (nx a) + cA • pe a + pe (nx a) * pe a
def d2 (a : Mat n n) : Mat n n := cAA • pe (nx (nx a)) + cA • d1 a + pe (nx (nx a)) * d1 a
def three (x : Mat n m) : Mat n m := cAAA • x + d2 (gr x) * x
def two (x : Mat n m) : Mat n m := cAA • x + d1 (gr x) * x

theorem pe_tr {a : Mat n n} (h : aᵀ = a) : (pe a)ᵀ = pe a := by
  simp only [pe, gr, Matrix.transpose_add, Matrix.transpose_smul, Matrix.transpose_mul, Matrix.transpose_transpose, h]

theorem gr_tr (x : Mat n m) : (gr x)ᵀ = gr x := by
  simp only [gr, Matrix.transpose_mul, Matrix.transpose_transpose]

theorem nx_tr (a : Mat n n) : (nx a)ᵀ = nx a := by
  simp only [nx, Matrix.transpose_smul, Matrix.transpose_add _ (_ᵀ), Matrix.transpose_transpose]
  rw [add_comm]

theorem nsStep_eq (x : Mat n m) : nsStep x = cA • x + pe (gr x) * x := by
  simp only [nsStep, pe, gr_tr, gr, Matrix.transpose_mul, Matrix.transpose_transpose]

theorem pe_comm {a : Mat n n} (h : aᵀ = a) : a * pe a = pe a * a := by
  simp only [pe, gr, h, Matrix.mul_add, Matrix.add_mul, Matrix.mul_smul, Matrix.smul_mul, Matrix.mul_assoc]

theorem nx_gr (x : Mat n m) : nx (gr x) = gr (nsStep x) := by
  have hp := pe_tr (gr_tr x)
  have hc := pe_comm (gr_tr x)
  have e : gr (nsStep x) = cAA • gr x + gr x * (c2A • pe (gr x) + gr (pe (gr x))) := by
    rw [nsStep_eq]
    have : gr (cA • x + pe (gr x) * x)
        = (cA * cA) • gr x + cA • (gr x * pe (gr x)) + cA • (pe (gr x) * gr x) + pe (gr x) * gr x * pe (gr x) := by
      conv_lhs => unfold gr
      simp only [Matrix.transpose_add, Matrix.transpose_smul, Matrix.transpose_mul]
      rw [show (pe (x * xᵀ))ᵀ = pe (x * xᵀ) from hp]
      simp only [Matrix.mul_add, Matrix.add_mul, Matrix.mul_smul, Matrix.smul_mul, smul_smul, smul_add, gr, Matrix.mul_assoc]
      abel
    rw [this, ← hc, Matrix.mul_add, Matrix.mul_smul, c2A, cAA]
    have h2 : gr x * gr (pe (gr x)) = gr x * pe (gr x) * pe (gr x) := by
      rw [show gr (pe (gr x)) = pe (gr x) * (pe (gr x))ᵀ from rfl, hp, Matrix.mul_assoc]
    rw [h2, two_mul, add_smul]
    abel
  unfold nx
  rw [← e, gr_tr]
  rw [← two_smul ℝ (gr (nsStep x)), smul_smul]
  norm_num

theorem two_eq (x : Mat n m) : two x = nsStep (nsStep x) := by
  rw [nsStep_eq (nsStep x), ← nx_gr, nsStep_eq x]
  simp only [two, d1, cAA, Matrix.mul_add, Matrix.add_mul, Matrix.mul_smul, Matrix.smul_mul, smul_smul, smul_add, Matrix.mul_assoc]
  abel

theorem three_eq (x : Mat n m) : three x = nsStep (nsStep (nsStep x)) := by
  rw [nsStep_eq (nsStep (nsStep x)), ← two_eq, two_eq, ← nx_gr, ← nx_gr, ← two_eq]
  simp only [three, two, d2, cAA, cAAA, Matrix.mul_add, Matrix.add_mul, Matrix.mul_smul, Matrix.smul_mul, smul_smul, smul_add, Matrix.mul_assoc, mul_assoc]
  abel

theorem ns_eq (x : Mat n m) : two (three (unit x)) = ns x := by
  rw [two_eq, three_eq]; rfl

/-! A chunk. -/

/-- What a chunk reads: queries, keys and values with the queries' and keys' scales and the rates. -/
structure Chunk where
  q : Mat 384 256
  qs : Fin 384 → ℝ
  k : Mat 384 256
  ks : Fin 384 → ℝ
  v : Mat 384 256
  lr : Fin 384 → ℝ

/-- Three weights, width first. -/
structure W where
  w1 : Mat 256 640
  w3 : Mat 256 640
  w2 : Mat 256 640

def sc {a b : ℕ} (x : Mat a b) (s : Fin a → ℝ) : Mat a b := Matrix.of fun i j => x i j * s i
def had {a b : ℕ} (x y : Mat a b) : Mat a b := Matrix.of fun i j => x i j * y i j
def sig {a b : ℕ} (x : Mat a b) : Mat a b := Matrix.of fun i j => 1 / (1 + Real.exp (0 - x i j))
def one {a b : ℕ} : Mat a b := Matrix.of fun _ _ => 1

variable (c : Chunk) (w : W)

def h1 : Mat 384 640 := sc (c.k * w.w1) c.ks
def h3 : Mat 384 640 := sc (c.k * w.w3) c.ks
def act1 : Mat 384 640 := had (h1 c w) (sig (h1 c w))
def gk : Mat 384 640 := had (act1 c w) (h3 c w)
def dg : Mat 384 640 := sc (c.v * w.w2) fun i => 0 - c.lr i
def dh3 : Mat 384 640 := had (dg c w) (act1 c w)
def dh1 : Mat 384 640 :=
  had (had (had (dg c w) (h3 c w)) (sig (h1 c w))) (one + had (h1 c w) (one - sig (h1 c w)))
def kq : Mat 384 256 := sc c.k c.ks
def ev : Mat 384 256 := sc c.v fun i => 0 - c.lr i
def g1 : Mat 256 640 := (kq c)ᵀ * dh1 c w
def g3 : Mat 256 640 := (kq c)ᵀ * dh3 c w
def g2 : Mat 256 640 := (ev c)ᵀ * gk c w

/-- The columns' norms and the rows'. -/
def colN (x : Mat 256 640) : Fin 640 → ℝ := fun j => Real.sqrt (∑ i, x i j * x i j)
def rowN (x : Mat 256 640) : Fin 256 → ℝ := fun i => Real.sqrt (∑ j, x i j * x i j)
def reC (n : Fin 640 → ℝ) (x : Mat 256 640) : Mat 256 640 := Matrix.of fun i j => x i j * (n j / (colN x j + cR))
def reR (n : Fin 256 → ℝ) (x : Mat 256 640) : Mat 256 640 := Matrix.of fun i j => x i j * (n i / (rowN x i + cR))

/-- The updates. -/
def us : W := ⟨ns (g1 c w), ns (g3 c w), ns (g2 c w)⟩

/-- The weights after a chunk; their norms are those of `o`. -/
def nextW (o : W) : W :=
  ⟨reC (colN o.w1) (w.w1 - (us c w).w1), reC (colN o.w3) (w.w3 - (us c w).w3), reR (rowN o.w2) (w.w2 - (us c w).w2)⟩

/-- What the queries make of weights. -/
def p1 : Mat 384 640 := sc (c.q * w.w1) c.qs
def p3 : Mat 384 640 := sc (c.q * w.w3) c.qs
def yo : Mat 384 256 := had (had (p1 c w) (sig (p1 c w))) (p3 c w) * w.w2ᵀ

end Cert.Lact

end
-- ==== Proof.Real2.lean ====
/-
  The kernel's vector operations on blocks of real numbers: each gives the block of the matrix operation's result.
-/
module

public import proofs.«01_k».proof.Proof.Model
public import proofs.«01_k».proof.Proof.Body

@[expose] public section

set_option maxRecDepth 65536

noncomputable section

namespace Cert.Lact

open Idealize.ShloMosaic Cert.KernelIdeal Cert.KernelIdeal.Gen
open Matrix

/-- A real number among the extended ones. -/
abbrev er (x : ℝ) : EReal := (x : EReal)

/-- The block that holds a matrix. -/
def R2 {n m : ℕ} (φ : FTy) (A : Mat n m) : FVec Ideal ⟨2, ![n, m]⟩ φ := fun i => er (A (i 0) (i 1))

theorem er_sum {ι : Type} (s : Finset ι) (f : ι → ℝ) : er (∑ i ∈ s, f i) = ∑ i ∈ s, er (f i) := by
  classical
  induction s using Finset.induction_on with
  | empty => simp
  | insert a s h ih => rw [Finset.sum_insert h, Finset.sum_insert h, ← ih]; exact EReal.coe_add _ _

theorem er_div {x y : ℝ} (h : y ≠ 0) : Ideal.div (er x) (er y) = er (x / y) := by
  unfold Ideal.div
  rw [if_neg (by simpa using h), div_eq_mul_inv]
  show er x * (er y)⁻¹ = er (x * y⁻¹)
  exact ((EReal.coe_mul _ _).trans (by rw [EReal.coe_inv])).symm

theorem er_sqrt {x : ℝ} (h : 0 ≤ x) : Ideal.sqrt (er x) = er (Real.sqrt x) := by
  show (if x < 0 then ⊥ else (Real.sqrt x : EReal)) = _
  rw [if_neg (not_lt.2 h)]

theorem bits_B : Ideal.ofBits .f32 0xC098CCCD#32 = er cB := by
  simp [Ideal.ofBits, Ideal.ieee, -EReal.coe_mul, -EReal.coe_neg, cB]; norm_num
theorem bits_C : Ideal.ofBits .f32 0x40020419#32 = er cC := by
  simp [Ideal.ofBits, Ideal.ieee, -EReal.coe_mul, -EReal.coe_neg, cC]; norm_num
theorem bits_A : Ideal.ofBits .f32 0x405C72B0#32 = er cA := by
  simp [Ideal.ofBits, Ideal.ieee, -EReal.coe_mul, -EReal.coe_neg, cA]; norm_num
theorem bits_2A : Ideal.ofBits .f32 0x40DC72B0#32 = er c2A := by
  simp [Ideal.ofBits, Ideal.ieee, -EReal.coe_mul, -EReal.coe_neg, cA, c2A]; norm_num
theorem bits_E : Ideal.ofBits .f32 0x33D6BF95#32 = er cE := by
  simp [Ideal.ofBits, Ideal.ieee, -EReal.coe_mul, -EReal.coe_neg, cE]; norm_num
theorem bits_R : Ideal.ofBits .f32 0x3727C5AC#32 = er cR := by
  simp [Ideal.ofBits, Ideal.ieee, -EReal.coe_mul, -EReal.coe_neg, cR]; norm_num
theorem bits_half : Ideal.ofBits .f32 0x3F000000#32 = er (1 / 2) := by
  simp [Ideal.ofBits, Ideal.ieee, -EReal.coe_mul, -EReal.coe_neg]; norm_num
theorem bits_half16 : Ideal.ofBits .bf16 0x3F00#16 = er (1 / 2) := by
  simp [Ideal.ofBits, Ideal.ieee, -EReal.coe_mul, -EReal.coe_neg]; norm_num
theorem bits_1 : Ideal.ofBits .f32 0x3F800000#32 = er 1 := Ideal.ofBits_one_f32
theorem bits_0 : Ideal.ofBits .f32 0x00000000#32 = er 0 := Ideal.ofBits_zero_f32
theorem named_a2 : (Named.named κ "a2" (φ := .f32) 0x413DD552#32 : Ideal .f32) = er cAA := by
  show er _ = _
  congr 1; unfold cAA cA; norm_num
theorem named_a3 : (Named.named κ "a3" (φ := .f32) 0x4223785E#32 : Ideal .f32) = er cAAA := by
  show er _ = _
  congr 1; unfold cAAA cA; norm_num

section ops
variable {n m : ℕ} {φ ψ : FTy} (A B : Mat n m) (x : ℝ)

theorem truncf_R (h : ψ.bits < φ.bits) : truncf ψ (R2 φ A) h = R2 ψ A := rfl
theorem extf_R (h : φ.bits < ψ.bits) : extf ψ (R2 φ A) h = R2 ψ A := rfl
theorem addf_R : addf (R2 φ A) (R2 φ B) = R2 φ (A + B) := by
  funext i; exact (EReal.coe_add _ _).symm
theorem subf_R : subf (R2 φ A) (R2 φ B) = R2 φ (A - B) := by
  funext i; exact (EReal.coe_sub _ _).symm
theorem mulf_R : mulf (R2 φ A) (R2 φ B) = R2 φ (had A B) := by
  funext i; exact (EReal.coe_mul _ _).symm
theorem mulf_cR (a : Ideal φ) (h : a = er x) : mulf (broadcast ⟨2, ![n, m]⟩ a) (R2 φ A) = R2 φ (x • A) := by
  subst h; funext i; exact (EReal.coe_mul _ _).symm
theorem mulf_Rc (a : Ideal φ) (h : a = er x) : mulf (R2 φ A) (broadcast ⟨2, ![n, m]⟩ a) = R2 φ (x • A) := by
  subst h; funext i; exact (EReal.coe_mul _ _).symm.trans (by rw [mul_comm]; rfl)

theorem transpose_R (h : Shape.Transposes (⟨2, ![n, m]⟩ : Shape) [1, 0] ⟨2, ![m, n]⟩) :
    transpose ⟨2, ![m, n]⟩ [1, 0] (R2 φ A) h = R2 φ Aᵀ := by
  funext i
  rfl
end ops

/-- A sum over four pieces laid end to end. -/
theorem sum_four {M : Type} [AddCommMonoid M] (K : ℕ) (f : Fin (4 * K) → M) :
    ∑ x, f x = (∑ k : Fin K, f ⟨k, by omega⟩) + (∑ k : Fin K, f ⟨k + K, by omega⟩)
      + (∑ k : Fin K, f ⟨k + 2 * K, by omega⟩) + ∑ k : Fin K, f ⟨k + 3 * K, by omega⟩ := by
  rw [← finProdFinEquiv.sum_comp, Fintype.sum_prod_type, Fin.sum_univ_four]
  congr 1
  · congr 1
    · congr 1 <;> exact Finset.sum_congr rfl fun k _ => congrArg f (Fin.ext (by simp [finProdFinEquiv]))
    · exact Finset.sum_congr rfl fun k _ => congrArg f (Fin.ext (by simp [finProdFinEquiv, mul_comm]))
  · exact Finset.sum_congr rfl fun k _ => congrArg f (Fin.ext (by simp [finProdFinEquiv, mul_comm]))

/-- A sum over six pieces laid end to end. -/
theorem sum_six {M : Type} [AddCommMonoid M] (K : ℕ) (f : Fin (6 * K) → M) :
    ∑ x, f x = (∑ k : Fin K, f ⟨k, by omega⟩) + (∑ k : Fin K, f ⟨k + K, by omega⟩)
      + (∑ k : Fin K, f ⟨k + 2 * K, by omega⟩) + (∑ k : Fin K, f ⟨k + 3 * K, by omega⟩)
      + (∑ k : Fin K, f ⟨k + 4 * K, by omega⟩) + ∑ k : Fin K, f ⟨k + 5 * K, by omega⟩ := by
  rw [← finProdFinEquiv.sum_comp, Fintype.sum_prod_type, Fin.sum_univ_six]
  congr 1
  · congr 1
    · congr 1
      · congr 1
        · congr 1 <;> exact Finset.sum_congr rfl fun k _ => congrArg f (Fin.ext (by simp [finProdFinEquiv]))
        · exact Finset.sum_congr rfl fun k _ => congrArg f (Fin.ext (by simp [finProdFinEquiv, mul_comm]))
      · exact Finset.sum_congr rfl fun k _ => congrArg f (Fin.ext (by simp [finProdFinEquiv, mul_comm]))
    · exact Finset.sum_congr rfl fun k _ => congrArg f (Fin.ext (by simp [finProdFinEquiv, mul_comm]))
  · exact Finset.sum_congr rfl fun k _ => congrArg f (Fin.ext (by simp [finProdFinEquiv, mul_comm]))

theorem nlt (x K m : ℕ) (h : m ≤ K) : (x + K < m) = False := eq_false (by omega)
theorem er_mul_sum {K : ℕ} (f g : Fin K → ℝ) : ∑ k, er (f k) * er (g k) = er (∑ k, f k * g k) := by
  rw [er_sum]; exact Finset.sum_congr rfl fun k _ => (EReal.coe_mul _ _).symm
theorem er_add (x y : ℝ) : er x + er y = er (x + y) := (EReal.coe_add _ _).symm
theorem er_mul (x y : ℝ) : er x * er y = er (x * y) := (EReal.coe_mul _ _).symm

theorem gram_2560 (l1 l2 l3 l4 r1 r2 r3 r4 : Mat 256 640) :
    matmul dot_S256x2560_S256x2560_S256x256_1_1_0_0_n_n none
      (concatenate S256x2560 1 [⟨S256x640, R2 .bf16 l1⟩, ⟨S256x640, R2 .bf16 l2⟩, ⟨S256x640, R2 .bf16 l3⟩, ⟨S256x640, R2 .bf16 l4⟩] concatenates_S256x640_S256x640_S256x640_S256x640_S256x2560_d1)
      (concatenate S256x2560 1 [⟨S256x640, R2 .bf16 r1⟩, ⟨S256x640, R2 .bf16 r2⟩, ⟨S256x640, R2 .bf16 r3⟩, ⟨S256x640, R2 .bf16 r4⟩] concatenates_S256x640_S256x640_S256x640_S256x640_S256x2560_d1)
      (constant S256x256 .f32 0x00000000#32)
      = R2 .f32 (l1 * r1ᵀ + l2 * r2ᵀ + l3 * r3ᵀ + l4 * r4ᵀ) := by
  funext i; idx_vars i
  pointwise [R2]
  refine (sum_four 640 _).trans ?_
  simp [nlt, er_mul_sum, er_add, Matrix.mul_apply, -EReal.coe_mul, -EReal.coe_add]

theorem gram_1024 (l1 l2 l3 l4 r1 r2 r3 r4 : Mat 256 256) :
    matmul dot_S256x1024_S256x1024_S256x256_1_1_0_0_n_n none
      (concatenate S256x1024 1 [⟨S256x256, R2 .bf16 l1⟩, ⟨S256x256, R2 .bf16 l2⟩, ⟨S256x256, R2 .bf16 l3⟩, ⟨S256x256, R2 .bf16 l4⟩] concatenates_S256x256_S256x256_S256x256_S256x256_S256x1024_d1)
      (concatenate S256x1024 1 [⟨S256x256, R2 .bf16 r1⟩, ⟨S256x256, R2 .bf16 r2⟩, ⟨S256x256, R2 .bf16 r3⟩, ⟨S256x256, R2 .bf16 r4⟩] concatenates_S256x256_S256x256_S256x256_S256x256_S256x1024_d1)
      (constant S256x256 .f32 0x00000000#32)
      = R2 .f32 (l1 * r1ᵀ + l2 * r2ᵀ + l3 * r3ᵀ + l4 * r4ᵀ) := by
  funext i; idx_vars i
  pointwise [R2]
  refine (sum_four 256 _).trans ?_
  simp [nlt, er_mul_sum, er_add, Matrix.mul_apply, -EReal.coe_mul, -EReal.coe_add]

theorem mul_256 (l1 l2 l3 l4 l5 l6 r1 r2 r3 r4 r5 r6 : Mat 256 256) :
    matmul dot_S256x1536_S1536x256_S256x256_1_0_0_1_n_n none
      (concatenate S256x1536 1 [⟨S256x256, R2 .bf16 l1⟩, ⟨S256x256, R2 .bf16 l2⟩, ⟨S256x256, R2 .bf16 l3⟩, ⟨S256x256, R2 .bf16 l4⟩, ⟨S256x256, R2 .bf16 l5⟩, ⟨S256x256, R2 .bf16 l6⟩] concatenates_S256x256_S256x256_S256x256_S256x256_S256x256_S256x256_S256x1536_d1)
      (concatenate S1536x256 0 [⟨S256x256, R2 .bf16 r1⟩, ⟨S256x256, R2 .bf16 r2⟩, ⟨S256x256, R2 .bf16 r3⟩, ⟨S256x256, R2 .bf16 r4⟩, ⟨S256x256, R2 .bf16 r5⟩, ⟨S256x256, R2 .bf16 r6⟩] concatenates_S256x256_S256x256_S256x256_S256x256_S256x256_S256x256_S1536x256_d0)
      (constant S256x256 .f32 0x00000000#32)
      = R2 .f32 (l1 * r1 + l2 * r2 + l3 * r3 + l4 * r4 + l5 * r5 + l6 * r6) := by
  funext i; idx_vars i
  pointwise [R2]
  refine (sum_six 256 _).trans ?_
  simp [nlt, er_mul_sum, er_add, Matrix.mul_apply, -EReal.coe_mul, -EReal.coe_add]

theorem mul_640 (l1 l2 l3 l4 l5 l6 : Mat 256 256) (r1 r2 r3 r4 r5 r6 : Mat 256 640) :
    matmul dot_S256x1536_S1536x640_S256x640_1_0_0_1_n_n none
      (concatenate S256x1536 1 [⟨S256x256, R2 .bf16 l1⟩, ⟨S256x256, R2 .bf16 l2⟩, ⟨S256x256, R2 .bf16 l3⟩, ⟨S256x256, R2 .bf16 l4⟩, ⟨S256x256, R2 .bf16 l5⟩, ⟨S256x256, R2 .bf16 l6⟩] concatenates_S256x256_S256x256_S256x256_S256x256_S256x256_S256x256_S256x1536_d1)
      (concatenate S1536x640 0 [⟨S256x640, R2 .bf16 r1⟩, ⟨S256x640, R2 .bf16 r2⟩, ⟨S256x640, R2 .bf16 r3⟩, ⟨S256x640, R2 .bf16 r4⟩, ⟨S256x640, R2 .bf16 r5⟩, ⟨S256x640, R2 .bf16 r6⟩] concatenates_S256x640_S256x640_S256x640_S256x640_S256x640_S256x640_S1536x640_d0)
      (constant S256x640 .f32 0x00000000#32)
      = R2 .f32 (l1 * r1 + l2 * r2 + l3 * r3 + l4 * r4 + l5 * r5 + l6 * r6) := by
  funext i; idx_vars i
  pointwise [R2]
  refine (sum_six 256 _).trans ?_
  simp [nlt, er_mul_sum, er_add, Matrix.mul_apply, -EReal.coe_mul, -EReal.coe_add]

theorem mul_h (l : Mat 384 256) (r : Mat 256 640) :
    matmul dot_S384x256_S256x640_S384x640_1_0_0_1_n_n none (R2 .bf16 l) (R2 .bf16 r) (constant S384x640 .f32 0x00000000#32)
      = R2 .f32 (l * r) := by
  funext i; idx_vars i
  pointwise [R2]
  rw [er_mul_sum, Matrix.mul_apply]

theorem mul_g (l : Mat 384 256) (r : Mat 384 640) :
    matmul dot_S384x256_S384x640_S256x640_0_0_1_1_n_n none (R2 .bf16 l) (R2 .bf16 r) (constant S256x640 .f32 0x00000000#32)
      = R2 .f32 (lᵀ * r) := by
  funext i; idx_vars i
  pointwise [R2]
  rw [er_mul_sum, Matrix.mul_apply]; rfl

theorem mul_y (l : Mat 384 640) (r : Mat 256 640) :
    matmul dot_S384x640_S256x640_S384x256_1_1_0_0_n_n none (R2 .bf16 l) (R2 .bf16 r) (constant S384x256 .f32 0x00000000#32)
      = R2 .f32 (l * rᵀ) := by
  funext i; idx_vars i
  pointwise [R2]
  rw [er_mul_sum, Matrix.mul_apply]; rfl

theorem half_gr {n m : ℕ} (x : Mat n m) : (1 / 2 : ℝ) • x * xᵀ + ((1 / 2 : ℝ) • x * xᵀ)ᵀ = gr x := by
  rw [Matrix.smul_mul, Matrix.transpose_smul, Matrix.transpose_mul, Matrix.transpose_transpose, ← two_smul ℝ, smul_smul]
  norm_num; rfl

end Cert.Lact

end
-- ==== Proof.NormR.lean ====
/-
  The kernel's normalisation on gradients that are real numbers: five polynomial steps of each.
-/
module

public import proofs.«01_k».proof.Proof.Real2

@[expose] public section

set_option maxRecDepth 65536

noncomputable section

namespace Cert.Lact

open Idealize.ShloMosaic Cert.KernelIdeal Cert.KernelIdeal.Gen Cert.KernelIdeal.Run
open Matrix

section rules
variable {n m : ℕ} {φ : FTy} (A : Mat n m)

theorem cB_R : mulf (broadcast ⟨2, ![n, m]⟩ (Scalar.ofBits .f32 0xC098CCCD#32)) (R2 .f32 A) = R2 .f32 (cB • A) :=
  mulf_cR A cB _ bits_B
theorem cC_R : mulf (broadcast ⟨2, ![n, m]⟩ (Scalar.ofBits .f32 0x40020419#32)) (R2 .f32 A) = R2 .f32 (cC • A) :=
  mulf_cR A cC _ bits_C
theorem cA_R : mulf (broadcast ⟨2, ![n, m]⟩ (Scalar.ofBits .f32 0x405C72B0#32)) (R2 .f32 A) = R2 .f32 (cA • A) :=
  mulf_cR A cA _ bits_A
theorem c2A_R : mulf (broadcast ⟨2, ![n, m]⟩ (Scalar.ofBits .f32 0x40DC72B0#32)) (R2 .f32 A) = R2 .f32 (c2A • A) :=
  mulf_cR A c2A _ bits_2A
theorem chalf_R : mulf (broadcast ⟨2, ![n, m]⟩ (Scalar.ofBits .f32 0x3F000000#32)) (R2 .f32 A) = R2 .f32 ((1 / 2 : ℝ) • A) :=
  mulf_cR A _ _ bits_half
theorem half_R16 : mulf (R2 .bf16 A) (broadcast ⟨2, ![n, m]⟩ (Scalar.ofBits .bf16 0x3F00#16)) = R2 .bf16 ((1 / 2 : ℝ) • A) :=
  mulf_Rc A _ _ bits_half16
theorem cAA_R : mulf (broadcast ⟨2, ![n, m]⟩ (Named.named κ "a2" (φ := .f32) 0x413DD552#32 : Ideal .f32)) (R2 .f32 A) = R2 .f32 (cAA • A) :=
  mulf_cR A cAA _ named_a2
theorem cAAA_R : mulf (broadcast ⟨2, ![n, m]⟩ (Named.named κ "a3" (φ := .f32) 0x4223785E#32 : Ideal .f32)) (R2 .f32 A) = R2 .f32 (cAAA • A) :=
  mulf_cR A cAAA _ named_a3

theorem pe_fold (a : Mat n n) : cB • a + cC • gr a = pe a := rfl
theorem nx_fold (a : Mat n n) :
    (1 / 2 : ℝ) • ((cAA • a + a * (c2A • pe a + gr (pe a))) + (cAA • a + a * (c2A • pe a + gr (pe a)))ᵀ) = nx a := rfl
theorem d1_fold (a : Mat n n) : cA • pe (nx a) + cA • pe a + pe (nx a) * pe a = d1 a := rfl
theorem d2_fold (a : Mat n n) : cAA • pe (nx (nx a)) + cA • d1 a + pe (nx (nx a)) * d1 a = d2 a := rfl
theorem three_fold (x : Mat n m) : cAAA • x + d2 (gr x) * x = three x := rfl
theorem two_fold (x : Mat n m) : cAA • x + d1 (gr x) * x = two x := rfl

theorem sum_R (g : Mat 256 640) (h : S256x640.ShapeCasts S1x256x640) (h2 : S1.ShapeCasts S1x1x1) :
    extractAt ![0, 0, 0] (shapeCast S1x1x1 (multiReduction .add [1, 2] S1 (shapeCast S1x256x640 (R2 .f32 g) h)
      0x00000000#32 reduces_S1x256x640_S1 (.inl rfl) rfl) h2) inpos_S1x1x1_p0_0_0 = er (∑ i, ∑ j, g i j) := by
  pointwise [R2]
  simp only [er_sum]

theorem inv_R (g : Mat 256 640) :
    Scalar.divf (Scalar.ofBits (F := Ideal) .f32 0x3F800000#32)
      (Scalar.addf (Scalar.sqrt (er (∑ i, ∑ j, had g g i j))) (Scalar.ofBits .f32 0x33D6BF95#32)) = er (1 / (nrm g + cE)) := by
  show Ideal.div (Ideal.ofBits .f32 0x3F800000#32) (Ideal.sqrt (er (∑ i, ∑ j, had g g i j)) + Ideal.ofBits .f32 0x33D6BF95#32) = _
  rw [bits_1, bits_E, er_sqrt (x := ∑ i, ∑ j, had g g i j) (Finset.sum_nonneg fun i _ => Finset.sum_nonneg fun j _ => mul_self_nonneg _), er_add, er_div]
  · rfl
  · exact (add_pos_of_nonneg_of_pos (Real.sqrt_nonneg _) cE_pos).ne'

theorem unit_R (g : Mat 256 640) : mulf (R2 .f32 g) (broadcast S256x640 (er (1 / (nrm g + cE)))) = R2 .f32 (unit g) := by
  funext i; exact (EReal.coe_mul _ _).symm

theorem pay35_R (g : Mat 256 640) (h : S256x640.ShapeCasts S1x256x640) :
    k0_pay35 (R2 .f32 g) (shapeCast S1x256x640 (R2 .f32 (had g g)) h) = R2 .f32 (unit g) := by
  simp only [k0_pay35]
  rw [sum_R, ← unit_R, ← inv_R]
theorem pay36_R (g : Mat 256 640) : k0_pay36 (R2 .f32 g) = R2 .f32 (unit g) := by
  simp only [k0_pay36, mulf_R]
  rw [sum_R, ← unit_R, ← inv_R]
theorem pay37_R (g : Mat 256 640) : k0_pay37 (R2 .f32 g) = R2 .f32 (unit g) := by
  simp only [k0_pay37, mulf_R]
  rw [sum_R, ← unit_R, ← inv_R]

/-- The transpose of a square block. -/
def trF (x : FVec Ideal S256x256 .f32) : FVec Ideal S256x256 .f32 :=
  Idealize.ShloMosaic.transpose S256x256 [1, 0] x transposes_S256x256_p1_0_S256x256
theorem tr_fold (x : FVec Ideal S256x256 .f32) (p : List (Fin S256x256.rank)) (hp : p = [1, 0])
    (h : S256x256.Transposes p S256x256) : Idealize.ShloMosaic.transpose S256x256 p x h = trF x := by
  subst hp; rfl
theorem tr_R (A : Mat 256 256) : trF (R2 .f32 A) = R2 .f32 Aᵀ := by
  funext i; idx_vars i
  show Idealize.ShloMosaic.transpose S256x256 [1, 0] (R2 .f32 A) transposes_S256x256_p1_0_S256x256 _ = _
  pointwise [R2]
  rfl

end rules

/-- 4 blocks side by side or one above the other. -/
def catG (x1 x2 x3 x4 : FVec Ideal S256x640 .bf16) : FVec Ideal S256x2560 .bf16 :=
  concatenate S256x2560 1 [⟨S256x640, x1⟩, ⟨S256x640, x2⟩, ⟨S256x640, x3⟩, ⟨S256x640, x4⟩] concatenates_S256x640_S256x640_S256x640_S256x640_S256x2560_d1
theorem catG_fold (x1 x2 x3 x4 : FVec Ideal S256x640 .bf16) :
    concatenate S256x2560 1 [⟨S256x640, x1⟩, ⟨S256x640, x2⟩, ⟨S256x640, x3⟩, ⟨S256x640, x4⟩] concatenates_S256x640_S256x640_S256x640_S256x640_S256x2560_d1 = catG x1 x2 x3 x4 := rfl
/-- 4 blocks side by side or one above the other. -/
def catH (x1 x2 x3 x4 : FVec Ideal S256x256 .bf16) : FVec Ideal S256x1024 .bf16 :=
  concatenate S256x1024 1 [⟨S256x256, x1⟩, ⟨S256x256, x2⟩, ⟨S256x256, x3⟩, ⟨S256x256, x4⟩] concatenates_S256x256_S256x256_S256x256_S256x256_S256x1024_d1
theorem catH_fold (x1 x2 x3 x4 : FVec Ideal S256x256 .bf16) :
    concatenate S256x1024 1 [⟨S256x256, x1⟩, ⟨S256x256, x2⟩, ⟨S256x256, x3⟩, ⟨S256x256, x4⟩] concatenates_S256x256_S256x256_S256x256_S256x256_S256x1024_d1 = catH x1 x2 x3 x4 := rfl
/-- 6 blocks side by side or one above the other. -/
def catL (x1 x2 x3 x4 x5 x6 : FVec Ideal S256x256 .bf16) : FVec Ideal S256x1536 .bf16 :=
  concatenate S256x1536 1 [⟨S256x256, x1⟩, ⟨S256x256, x2⟩, ⟨S256x256, x3⟩, ⟨S256x256, x4⟩, ⟨S256x256, x5⟩, ⟨S256x256, x6⟩] concatenates_S256x256_S256x256_S256x256_S256x256_S256x256_S256x256_S256x1536_d1
theorem catL_fold (x1 x2 x3 x4 x5 x6 : FVec Ideal S256x256 .bf16) :
    concatenate S256x1536 1 [⟨S256x256, x1⟩, ⟨S256x256, x2⟩, ⟨S256x256, x3⟩, ⟨S256x256, x4⟩, ⟨S256x256, x5⟩, ⟨S256x256, x6⟩] concatenates_S256x256_S256x256_S256x256_S256x256_S256x256_S256x256_S256x1536_d1 = catL x1 x2 x3 x4 x5 x6 := rfl
/-- 6 blocks side by side or one above the other. -/
def catR (x1 x2 x3 x4 x5 x6 : FVec Ideal S256x256 .bf16) : FVec Ideal S1536x256 .bf16 :=
  concatenate S1536x256 0 [⟨S256x256, x1⟩, ⟨S256x256, x2⟩, ⟨S256x256, x3⟩, ⟨S256x256, x4⟩, ⟨S256x256, x5⟩, ⟨S256x256, x6⟩] concatenates_S256x256_S256x256_S256x256_S256x256_S256x256_S256x256_S1536x256_d0
theorem catR_fold (x1 x2 x3 x4 x5 x6 : FVec Ideal S256x256 .bf16) :
    concatenate S1536x256 0 [⟨S256x256, x1⟩, ⟨S256x256, x2⟩, ⟨S256x256, x3⟩, ⟨S256x256, x4⟩, ⟨S256x256, x5⟩, ⟨S256x256, x6⟩] concatenates_S256x256_S256x256_S256x256_S256x256_S256x256_S256x256_S1536x256_d0 = catR x1 x2 x3 x4 x5 x6 := rfl
/-- 6 blocks side by side or one above the other. -/
def catW (x1 x2 x3 x4 x5 x6 : FVec Ideal S256x640 .bf16) : FVec Ideal S1536x640 .bf16 :=
  concatenate S1536x640 0 [⟨S256x640, x1⟩, ⟨S256x640, x2⟩, ⟨S256x640, x3⟩, ⟨S256x640, x4⟩, ⟨S256x640, x5⟩, ⟨S256x640, x6⟩] concatenates_S256x640_S256x640_S256x640_S256x640_S256x640_S256x640_S1536x640_d0
theorem catW_fold (x1 x2 x3 x4 x5 x6 : FVec Ideal S256x640 .bf16) :
    concatenate S1536x640 0 [⟨S256x640, x1⟩, ⟨S256x640, x2⟩, ⟨S256x640, x3⟩, ⟨S256x640, x4⟩, ⟨S256x640, x5⟩, ⟨S256x640, x6⟩] concatenates_S256x640_S256x640_S256x640_S256x640_S256x640_S256x640_S1536x640_d0 = catW x1 x2 x3 x4 x5 x6 := rfl

theorem gramG (l1 l2 l3 l4 r1 r2 r3 r4 : Mat 256 640) :
    matmul dot_S256x2560_S256x2560_S256x256_1_1_0_0_n_n none (catG (R2 .bf16 l1) (R2 .bf16 l2) (R2 .bf16 l3) (R2 .bf16 l4))
      (catG (R2 .bf16 r1) (R2 .bf16 r2) (R2 .bf16 r3) (R2 .bf16 r4)) (constant S256x256 .f32 0x00000000#32)
      = R2 .f32 (l1 * r1ᵀ + l2 * r2ᵀ + l3 * r3ᵀ + l4 * r4ᵀ) := gram_2560 ..
theorem gramH (l1 l2 l3 l4 r1 r2 r3 r4 : Mat 256 256) :
    matmul dot_S256x1024_S256x1024_S256x256_1_1_0_0_n_n none (catH (R2 .bf16 l1) (R2 .bf16 l2) (R2 .bf16 l3) (R2 .bf16 l4))
      (catH (R2 .bf16 r1) (R2 .bf16 r2) (R2 .bf16 r3) (R2 .bf16 r4)) (constant S256x256 .f32 0x00000000#32)
      = R2 .f32 (l1 * r1ᵀ + l2 * r2ᵀ + l3 * r3ᵀ + l4 * r4ᵀ) := gram_1024 ..
theorem mulR (l1 l2 l3 l4 l5 l6 r1 r2 r3 r4 r5 r6 : Mat 256 256) :
    matmul dot_S256x1536_S1536x256_S256x256_1_0_0_1_n_n none (catL (R2 .bf16 l1) (R2 .bf16 l2) (R2 .bf16 l3) (R2 .bf16 l4) (R2 .bf16 l5) (R2 .bf16 l6))
      (catR (R2 .bf16 r1) (R2 .bf16 r2) (R2 .bf16 r3) (R2 .bf16 r4) (R2 .bf16 r5) (R2 .bf16 r6)) (constant S256x256 .f32 0x00000000#32)
      = R2 .f32 (l1 * r1 + l2 * r2 + l3 * r3 + l4 * r4 + l5 * r5 + l6 * r6) := mul_256 ..
theorem mulW (l1 l2 l3 l4 l5 l6 : Mat 256 256) (r1 r2 r3 r4 r5 r6 : Mat 256 640) :
    matmul dot_S256x1536_S1536x640_S256x640_1_0_0_1_n_n none (catL (R2 .bf16 l1) (R2 .bf16 l2) (R2 .bf16 l3) (R2 .bf16 l4) (R2 .bf16 l5) (R2 .bf16 l6))
      (catW (R2 .bf16 r1) (R2 .bf16 r2) (R2 .bf16 r3) (R2 .bf16 r4) (R2 .bf16 r5) (R2 .bf16 r6)) (constant S256x640 .f32 0x00000000#32)
      = R2 .f32 (l1 * r1 + l2 * r2 + l3 * r3 + l4 * r4 + l5 * r5 + l6 * r6) := mul_640 ..

theorem half_R (a b c : Mat 256 640) (h : S256x640.ShapeCasts S1x256x640) :
    half (R2 .f32 a) (R2 .f32 b) (R2 .f32 c) (shapeCast S1x256x640 (R2 .f32 (had a a)) h)
      = (⟨R2 .f32 (three (unit a)), R2 .f32 (three (unit b)), R2 .f32 (three (unit c)),
          R2 .bf16 (three (unit a)), R2 .bf16 0, R2 .bf16 0, R2 .bf16 (three (unit b)), R2 .bf16 0, R2 .bf16 0⟩ : Half Ideal) := by
  simp only [half,
    pay35_R, pay36_R, pay37_R, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181,
    truncf_R, extf_R, addf_R, subf_R, tr_fold, tr_R, cB_R, cC_R, cA_R, c2A_R, chalf_R, half_R16, cAA_R, cAAA_R,
    catG_fold, catH_fold, catL_fold, catR_fold, catW_fold, gramG, gramH, mulR, mulW, mulf_R,
    sub_self, smul_zero, Matrix.zero_mul, Matrix.mul_zero, Matrix.transpose_zero, add_zero, half_gr,
    pe_fold, nx_fold, d1_fold, d2_fold, three_fold]

theorem norm_R (a b c : Mat 256 640) :
    Run.norm (⟨R2 .f32 a, R2 .f32 b, R2 .f32 c, R2 .bf16 a, R2 .bf16 0, R2 .bf16 0, R2 .bf16 b, R2 .bf16 0, R2 .bf16 0⟩ : Half Ideal)
      = (⟨R2 .f32 b, R2 .f32 c, R2 .bf16 b, R2 .bf16 0, R2 .bf16 0, R2 .bf16 c, R2 .bf16 0, R2 .bf16 0,
          R2 .f32 (d1 (gr b)), R2 .f32 (d1 (gr c)), R2 .f32 (cAA • a), R2 .f32 (d1 (gr a) * a)⟩ : Norm Ideal) := by
  simp only [Run.norm,
    k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197,
    k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227,
    k0_pay228, k0_pay229, k0_pay230, k0_pay231, k0_pay232, k0_pay233, k0_pay234,
    truncf_R, extf_R, addf_R, subf_R, tr_fold, tr_R, cB_R, cC_R, cA_R, c2A_R, chalf_R, half_R16, cAA_R, cAAA_R,
    catG_fold, catH_fold, catL_fold, catR_fold, catW_fold, gramG, gramH, mulR, mulW, mulf_R,
    sub_self, smul_zero, Matrix.zero_mul, Matrix.mul_zero, Matrix.transpose_zero, add_zero, half_gr,
    pe_fold, nx_fold, d1_fold, d2_fold]

end Cert.Lact

end
-- ==== Proof.KReal.lean ====
/-
  A chunk of the kernel on real numbers: what it stores and the scratch it leaves, as the model's functions.
-/
module

public import proofs.«01_k».proof.Proof.NormR
public import proofs.«01_k».proof.Proof.Mask

@[expose] public section

set_option maxRecDepth 65536

noncomputable section

namespace Cert.Lact

open Idealize.ShloMosaic Cert.KernelIdeal Cert.KernelIdeal.Gen
open Matrix

/-- A column, a row, and a matrix behind one or two unit axes. -/
def RC {n : ℕ} (φ : FTy) (s : Fin n → ℝ) : FVec Ideal ⟨2, ![n, 1]⟩ φ := fun i => er (s (i 0))
def RR {n : ℕ} (φ : FTy) (s : Fin n → ℝ) : FVec Ideal ⟨2, ![1, n]⟩ φ := fun i => er (s (i 1))
def R3 {n m : ℕ} (φ : FTy) (A : Mat n m) : FVec Ideal ⟨3, ![1, n, m]⟩ φ := fun i => er (A (i 1) (i 2))
def R4 {n m : ℕ} (φ : FTy) (A : Mat n m) : FVec Ideal ⟨4, ![1, 1, n, m]⟩ φ := fun i => er (A (i 2) (i 3))

/-! ## The masks -/

theorem slt_all : ∀ (c : Fin 3) (r : Fin 384), r.val < (if c.val = 2 then 128 else 384) →
    Scalar.cmpi .slt (BitVec.ofNat 32 r.val) (Scalar.subi 896#32 (Scalar.muli (BitVec.ofNat 32 c.val) 384#32)) = 1#1 := by decide +kernel

theorem mask_of_lt (i : grid0.Coords) (j : S384x1.Idx) (h : (j 0).val < Run.rows i) : k0_pay12 i j = 1#1 := by
  refine Eq.trans ?_ (slt_all (i 2) ⟨(j 0).val, (j 0).isLt⟩ h)
  unfold k0_pay12
  show Scalar.cmpi .slt (iota .tc S384x1 32 [0] iota_S384x1_d0_w32 j) _ = _
  rw [iota_single_apply]
  rfl

theorem pay12_eq (i : grid0.Coords) (j : S384x1.Idx) : k0_pay12 i j = if (j 0).val < Run.rows i then 1#1 else 0#1 := by
  split
  · exact mask_of_lt i j ‹_›
  · rename_i h
    have := mt (Run.mask_lt i j) h
    revert this
    generalize k0_pay12 i j = b
    revert b; decide

/-- The head's lane on the rows inside, zero below; and the rows inside of a block. -/
def lane (i : grid0.Coords) (X : Mat 384 12) : Fin 384 → ℝ := fun r => if r.val < Run.rows i then X r (i 0) else 0
def maskR {n : ℕ} (i : grid0.Coords) (X : Mat 384 n) : Mat 384 n := Matrix.of fun r j => if r.val < Run.rows i then X r j else 0

theorem lane_bit : ∀ (x h : Fin 12), IntOp.cmpi CmpIPredicate.eq (BitVec.ofNat 32 x.val) (BitVec.ofNat 32 h.val) = if x = h then 1#1 else 0#1 := by
  decide +kernel

theorem lane_sum (h : Fin 12) (f : Fin 12 → ℝ) (p : Prop) [Decidable p] :
    ∑ x : Fin 12, Scalar.select (IntOp.andi (IntOp.cmpi CmpIPredicate.eq (BitVec.ofNat 32 x.val) (BitVec.ofNat 32 h.val)) (if p then 1#1 else 0#1))
      (er (f x)) 0 = er (if p then f h else 0) := by
  have e : ∀ x : Fin 12, Scalar.select (IntOp.andi (IntOp.cmpi CmpIPredicate.eq (BitVec.ofNat 32 x.val) (BitVec.ofNat 32 h.val)) (if p then 1#1 else 0#1))
      (er (f x)) 0 = if x = h then er (if p then f h else 0) else 0 := by
    intro x
    rw [lane_bit]
    by_cases hx : x = h
    · subst hx
      by_cases hp : p <;> simp [hp, Scalar.select, IntOp.andi]
    · by_cases hp : p <;> simp [hx, hp, Scalar.select, IntOp.andi]
  rw [Finset.sum_congr rfl fun x _ => e x]
  simp

theorem sel_bit (p : Prop) [Decidable p] (x : ℝ) : Scalar.select (if p then 1#1 else 0#1) (er x) 0 = er (if p then x else 0) := by
  by_cases hp : p <;> simp [hp, Scalar.select]

theorem pay13_R (i : grid0.Coords) (X : Mat 384 12) : k0_pay13 i (R3 .f32 X) = RC .f32 (lane i X) := by
  funext j; idx_vars j
  unfold k0_pay13
  pointwise [R3, RC]
  simp only [pay12_eq]
  exact lane_sum (i 0) _ _

theorem pay14_R (i : grid0.Coords) (X : Mat 384 12) : k0_pay14 i (R3 .f32 X) = RC .f32 (lane i X) := pay13_R i X
theorem pay18_R (i : grid0.Coords) (X : Mat 384 12) :
    k0_pay18 (k0_pay15 (R3 .f32 X)) (k0_pay16 i) (k0_pay17 (F := Ideal)) = RC .f32 (lane i X) := pay13_R i X

theorem pay19_R (i : grid0.Coords) (X : Mat 384 256) : k0_pay19 (k0_pay12 i) (R3 .fp8e4m3 X) = R2 .bf16 (maskR i X) := by
  funext j; idx_vars j
  unfold k0_pay19
  pointwise [R3, R2]
  simp only [pay12_eq]
  exact sel_bit _ _
theorem pay20_R (i : grid0.Coords) (X : Mat 384 256) : k0_pay20 (k0_pay12 i) (R3 .fp8e4m3 X) = R2 .bf16 (maskR i X) := pay19_R i X
theorem pay21_R (i : grid0.Coords) (X : Mat 384 256) : k0_pay21 (k0_pay12 i) (R3 .bf16 X) = R2 .f32 (maskR i X) := by
  funext j; idx_vars j
  unfold k0_pay21
  pointwise [R3, R2]
  simp only [pay12_eq]
  exact sel_bit _ _

/-! ## Scales -/

section
variable (s : Fin 384 → ℝ)
/-- A column spread over a block's columns. -/
def spr {n m : ℕ} (s : Fin n → ℝ) : Mat n m := Matrix.of fun i _ => s i
theorem col_640 (x : FVec Ideal S384x1 .f32) (h : x = RC .f32 s) : broadcastTo S384x640 x broadcasts_S384x1_S384x640 = R2 .f32 (spr s) := by
  subst h; funext i; idx_vars i; pointwise [R2, RC]; rfl
theorem col_256 (x : FVec Ideal S384x1 .f32) (h : x = RC .f32 s) : broadcastTo S384x256 x broadcasts_S384x1_S384x256 = R2 .f32 (spr s) := by
  subst h; funext i; idx_vars i; pointwise [R2, RC]; rfl
theorem had_spr {n m : ℕ} (s : Fin n → ℝ) (x : Mat n m) : had x (spr s) = sc x s := rfl
theorem spr_had {n m : ℕ} (s : Fin n → ℝ) (x : Mat n m) : had (spr s) x = sc x s := by
  funext i j; exact mul_comm _ _
theorem neg_col : subf (broadcast S384x1 (Scalar.ofBits (F := Ideal) .f32 0x00000000#32)) (RC .f32 s) = RC .f32 fun i => 0 - s i := by
  funext i
  show Ideal.ofBits .f32 0x00000000#32 - er _ = er (0 - _)
  rw [bits_0]; exact (EReal.coe_sub _ _).symm
theorem cast_col (h : FTy.bf16.bits < FTy.f32.bits) : extf .f32 (truncf .bf16 (RC .f32 s) h) h = RC .f32 s := rfl
end

/-! ## The gate -/

section
variable {n m : ℕ} (A : Mat n m)
/-- The exponential. -/
def ex (x : Mat n m) : Mat n m := Matrix.of fun i j => Real.exp (0 - x i j)
theorem exp_R : exp (subf (broadcast ⟨2, ![n, m]⟩ (Scalar.ofBits .f32 0x00000000#32)) (R2 .f32 A)) = R2 .f32 (ex A) := by
  funext i
  show Ideal.exp (Ideal.ofBits .f32 0x00000000#32 - er _) = er (Real.exp (0 - _))
  rw [bits_0]
  have : er 0 - er (A (i 0) (i 1)) = er (0 - A (i 0) (i 1)) := (EReal.coe_sub _ _).symm
  rw [this]; rfl
theorem sig_R : divf (broadcast ⟨2, ![n, m]⟩ (Scalar.ofBits .f32 0x3F800000#32)) (addf (broadcast ⟨2, ![n, m]⟩ (Scalar.ofBits .f32 0x3F800000#32)) (R2 .f32 (ex A)))
    = R2 .f32 (sig A) := by
  funext i
  show Ideal.div (Ideal.ofBits .f32 0x3F800000#32) (Ideal.ofBits .f32 0x3F800000#32 + er _) = er _
  rw [bits_1, er_add, er_div]
  · rfl
  · exact (add_pos one_pos (Real.exp_pos _)).ne'
theorem gate_R : divf (R2 .f32 A) (addf (broadcast ⟨2, ![n, m]⟩ (Scalar.ofBits .f32 0x3F800000#32)) (R2 .f32 (ex A)))
    = R2 .f32 (had A (sig A)) := by
  funext i
  show Ideal.div (er _) (Ideal.ofBits .f32 0x3F800000#32 + er _) = er _
  rw [bits_1, er_add, er_div]
  · show er (_ / _) = er (_ * (1 / _)); rw [mul_one_div]; rfl
  · exact (add_pos one_pos (Real.exp_pos _)).ne'
theorem one_R : broadcast ⟨2, ![n, m]⟩ (Scalar.ofBits (F := Ideal) .f32 0x3F800000#32) = R2 .f32 one := by
  funext i; exact bits_1
end

end Cert.Lact

end
-- ==== Proof.KChunk.lean ====
/-
  A chunk of the kernel on real numbers, whole: its results and the scratch it leaves.
-/
module

public import proofs.«01_k».proof.Proof.KReal

@[expose] public section

set_option maxRecDepth 65536

noncomputable section

namespace Cert.Lact

open Idealize.ShloMosaic Cert.KernelIdeal Cert.KernelIdeal.Gen
open Matrix

/-! ## Norms -/

/-- The sums of a block's columns, as a row; of its rows, as a column. -/
def redC (x : FVec Ideal S256x640 .f32) : FVec Ideal S640 .f32 :=
  multiReduction .add [0] S640 x 0x00000000#32 reduces_S256x640_S640 (.inl rfl) rfl
def redR (x : FVec Ideal S256x640 .f32) : FVec Ideal S256 .f32 :=
  multiReduction .add [1] S256 x 0x00000000#32 reduces_S256x640_S256 (.inl rfl) rfl
/-- The transpose of a weight's block. -/
def trW (x : FVec Ideal S256x640 .f32) : FVec Ideal S640x256 .f32 :=
  transpose S640x256 [1, 0] x transposes_S256x640_p1_0_S640x256

/-- A block over its columns' norms times others; over its rows'. -/
def reC_op (d : FVec Ideal S256x640 .f32) (n : FVec Ideal S1x640 .f32) : FVec Ideal S256x640 .f32 :=
  mulf d (broadcastTo S256x640 (divf n (addf (sqrt (shapeCast S1x640 (redC (mulf d d)) shapeCasts_S640_S1x640))
    (broadcast S1x640 (Scalar.ofBits .f32 0x3727C5AC#32)))) broadcasts_S1x640_S256x640)
def reR_op (d : FVec Ideal S256x640 .f32) (n : FVec Ideal S256x1 .f32) : FVec Ideal S256x640 .f32 :=
  mulf d (broadcastTo S256x640 (divf n (addf (sqrt (shapeCast S256x1 (redR (mulf d d)) shapeCasts_S256_S256x1))
    (broadcast S256x1 (Scalar.ofBits .f32 0x3727C5AC#32)))) broadcasts_S256x1_S256x640)

theorem pay8_eq (x : Vec Ideal S1x640x256 .f32) : k0_pay8 x = shapeCast S1x640 (sqrt (shapeCast S1x640 (redC (mulf (k0_pay2 x) (k0_pay2 x)))
    shapeCasts_S640_S1x640)) shapeCasts_S1x640_S1x640 := rfl
theorem pay9_eq (x : Vec Ideal S1x640x256 .f32) : k0_pay9 x = shapeCast S1x640 (sqrt (shapeCast S1x640 (redC (mulf (k0_pay3 x) (k0_pay3 x)))
    shapeCasts_S640_S1x640)) shapeCasts_S1x640_S1x640 := rfl
theorem pay10_eq (x : Vec Ideal S1x256x640 .f32) : k0_pay10 x = redR (mulf (k0_pay4 x) (k0_pay4 x)) := rfl
theorem pay241_eq (a b w : FVec Ideal S256x640 .f32) (n : FVec Ideal S1x640 .f32) :
    k0_pay241 a b w n = reC_op (subf w (k0_pay235 a b)) n := rfl
theorem pay243_eq (d : FVec Ideal S256x640 .f32) (n : FVec Ideal S1x640 .f32) : k0_pay243 d n = reC_op d n := rfl
theorem pay244_eq (u w : FVec Ideal S256x640 .f32) (n : FVec Ideal S256x1 .f32) : k0_pay244 u w n = reR_op (subf w u) n := rfl
theorem trW_fold (x : FVec Ideal S256x640 .f32) (p : List (Fin S256x640.rank)) (hp : p = [1, 0]) (h : S256x640.Transposes p S640x256) :
    transpose S640x256 p x h = trW x := by subst hp; rfl

theorem colN_R (d : Mat 256 640) : sqrt (shapeCast S1x640 (redC (R2 .f32 (had d d))) shapeCasts_S640_S1x640) = RR .f32 (colN d) := by
  funext i; idx_vars i
  pointwise [redC, R2, RR]
  exact (congrArg Ideal.sqrt (er_sum _ _).symm).trans (er_sqrt (Finset.sum_nonneg fun j _ => mul_self_nonneg (d j i1)))
theorem rowN_R (d : Mat 256 640) : sqrt (shapeCast S256x1 (redR (R2 .f32 (had d d))) shapeCasts_S256_S256x1) = RC .f32 (rowN d) := by
  funext i; idx_vars i
  pointwise [redR, R2, RC]
  exact (congrArg Ideal.sqrt (er_sum _ _).symm).trans (er_sqrt (Finset.sum_nonneg fun j _ => mul_self_nonneg (d i0 j)))
theorem reC_R (n : Fin 640 → ℝ) (d : Mat 256 640) : reC_op (R2 .f32 d) (RR .f32 n) = R2 .f32 (reC n d) := by
  rw [reC_op, mulf_R, colN_R]
  funext i; idx_vars i
  pointwise [R2, RR]
  show er _ * Ideal.div (er _) (er _ + Ideal.ofBits .f32 0x3727C5AC#32) = _
  rw [bits_R, er_add, er_div, er_mul]
  · rfl
  · exact (add_pos_of_nonneg_of_pos (Real.sqrt_nonneg _) cR_pos).ne'
theorem reR_R (n : Fin 256 → ℝ) (d : Mat 256 640) : reR_op (R2 .f32 d) (RC .f32 n) = R2 .f32 (reR n d) := by
  rw [reR_op, mulf_R, rowN_R]
  funext i; idx_vars i
  pointwise [R2, RC]
  show er _ * Ideal.div (er _) (er _ + Ideal.ofBits .f32 0x3727C5AC#32) = _
  rw [bits_R, er_add, er_div, er_mul]
  · rfl
  · exact (add_pos_of_nonneg_of_pos (Real.sqrt_nonneg _) cR_pos).ne'

/-! ## Casts -/

section
variable (A : Mat 256 640)
theorem up3 (B : Mat 384 640) : shapeCast S1x384x640 (R2 .bf16 B) shapeCasts_S384x640_S1x384x640 = R3 .bf16 B := by
  funext i; idx_vars i; pointwise [R2, R3]
theorem up3' (B : Mat 384 256) : shapeCast S1x384x256 (R2 .bf16 B) shapeCasts_S384x256_S1x384x256 = R3 .bf16 B := by
  funext i; idx_vars i; pointwise [R2, R3]
theorem up4 : shapeCast S1x1x256x640 (R2 .f32 A) shapeCasts_S256x640_S1x1x256x640 = R4 .f32 A := by
  funext i; idx_vars i; pointwise [R2, R4]
theorem up4t : shapeCast S1x1x640x256 (trW (R2 .f32 A)) shapeCasts_S640x256_S1x1x640x256 = R4 .f32 Aᵀ := by
  funext i; idx_vars i; pointwise [trW, R2, R4]; rfl
theorem same_R {φ : FTy} (x : FVec Ideal S256x640 φ) : shapeCast S256x640 x shapeCasts_S256x640_S256x640 = x := shapeCast_self _ _
theorem pay2_R (B : Mat 640 256) : k0_pay2 (R3 .f32 B) = R2 .f32 Bᵀ := by
  unfold k0_pay2; funext i; idx_vars i; pointwise [R2, R3]; rfl
theorem pay4_R (A : Mat 256 640) : k0_pay4 (R3 .f32 A) = R2 .f32 A := by
  unfold k0_pay4; funext i; idx_vars i; pointwise [R2, R3]
end

/-! ## The chunk -/

/-- The scratch that holds weights and the norms of others. -/
def scrR (w o : W) : Run.Scr Ideal := ⟨R2 .f32 w.w1, R2 .f32 w.w3, R2 .f32 w.w2, RR .f32 (colN o.w1), RR .f32 (colN o.w3), RC .f32 (rowN o.w2)⟩

section
variable (w o : W)
theorem scr1 : (scrR w o).w1 = R2 .f32 w.w1 := rfl
theorem scr3 : (scrR w o).w3 = R2 .f32 w.w3 := rfl
theorem scr2 : (scrR w o).w2 = R2 .f32 w.w2 := rfl
theorem scn1 : (scrR w o).n1 = RR .f32 (colN o.w1) := rfl
theorem scn3 : (scrR w o).n3 = RR .f32 (colN o.w3) := rfl
theorem scn2 : (scrR w o).n2 = RC .f32 (rowN o.w2) := rfl
end

theorem fresh_R (A B : Mat 640 256) (C : Mat 256 640) :
    Run.fresh (R3 .f32 A) (R3 .f32 B) (R3 .f32 C) = scrR ⟨Aᵀ, Bᵀ, C⟩ ⟨Aᵀ, Bᵀ, C⟩ := by
  have h3 : ∀ X : Mat 640 256, k0_pay3 (R3 .f32 X) = R2 .f32 Xᵀ := pay2_R
  simp only [Run.fresh, k0_pay5, k0_pay6, k0_pay7, pay8_eq, pay9_eq, pay10_eq, k0_pay11, pay2_R, h3, pay4_R, mulf_R, shapeCast_self, colN_R, rowN_R]; rfl

/-- The chunk's blocks give the chunk. -/
structure Is (i : grid0.Coords) (x : Run.Blocks Ideal) (C : Chunk) : Prop where
  ks : Run.vks i x = RC .f32 C.ks
  lr : Run.vlr i x = RC .f32 C.lr
  qs : Run.vqs i x = RC .f32 C.qs
  k : Run.vk i x = R2 .bf16 C.k
  q : Run.vq i x = R2 .bf16 C.q
  v : Run.vv i x = R2 .f32 C.v

variable {i : grid0.Coords} {x : Run.Blocks Ideal} {C : Chunk} (H : Is i x C) (w o : W)
include H

theorem h1_R : Run.h1 i x (scrR w o) = R2 .f32 (h1 C w) := by
  have e := H.k
  unfold Run.vk at e
  simp only [Run.h1, k0_pay22, e, H.ks, scr1, scr3, scr2, scn1, scn3, scn2, truncf_R, mul_h, col_640 _ _ rfl, mulf_R, had_spr]; rfl
theorem h3_R : Run.h3 i x (scrR w o) = R2 .f32 (h3 C w) := by
  have e := H.k
  unfold Run.vk at e
  simp only [Run.h3, k0_pay23, e, H.ks, scr1, scr3, scr2, scn1, scn3, scn2, truncf_R, mul_h, col_640 _ _ rfl, mulf_R, had_spr]; rfl
theorem ex_R : Run.ex i x (scrR w o) = R2 .f32 (ex (h1 C w)) := by
  have e := h1_R H w o
  unfold Run.h1 at e
  simp only [Run.ex, k0_pay24, e]
  exact exp_R _
omit H in
theorem pay25_R (A : Mat 384 640) : k0_pay25 (R2 .f32 (ex A)) Run.one = R2 .f32 (sig A) := by
  simp only [k0_pay25, Run.one]; exact sig_R A
omit H in
theorem pay29_R (l : Fin 384 → ℝ) (V : Mat 384 256) (A : Mat 256 640) :
    k0_pay29 (RC .f32 l) (R2 .f32 V) (R2 .f32 A) = R2 .f32 (sc (V * A) fun i => 0 - l i) := by
  simp only [k0_pay29, truncf_R, mul_h, neg_col, col_640 _ _ rfl, mulf_R, spr_had]

theorem gOf_R : Run.gOf i x (scrR w o) = R3 .bf16 (gk C w) := by
  simp only [Run.gOf, h1_R H, h3_R H, ex_R H, k0_pay28, k0_pay27, k0_pay26, pay25_R, mulf_R, truncf_R, up3]; rfl
theorem g1_R : Run.g1 i x (scrR w o) = R2 .f32 (g1 C w) := by
  have e : broadcast S384x640 (Scalar.ofBits (F := Ideal) .f32 0x3F800000#32) = R2 .f32 one := one_R
  simp only [Run.g1, h1_R H, h3_R H, ex_R H, k0_pay31, k0_pay30, pay25_R, H.ks, H.lr, H.k, H.v, scr1, scr3, scr2, scn1, scn3, scn2, pay29_R, e, mulf_R, subf_R, addf_R,
    truncf_R, extf_R, cast_col, col_256 _ _ rfl, had_spr, mul_g]; rfl
theorem g3_R : Run.g3 i x (scrR w o) = R2 .f32 (g3 C w) := by
  simp only [Run.g3, h1_R H, ex_R H, k0_pay32, k0_pay30, k0_pay26, pay25_R, H.ks, H.lr, H.k, H.v, scr1, scr3, scr2, scn1, scn3, scn2, pay29_R, mulf_R, subf_R, addf_R,
    truncf_R, extf_R, cast_col, col_256 _ _ rfl, had_spr, mul_g]; rfl
theorem g2_R : Run.g2 i x (scrR w o) = R2 .f32 (g2 C w) := by
  simp only [Run.g2, h1_R H, h3_R H, ex_R H, k0_pay33, k0_pay27, k0_pay26, pay25_R, H.lr, H.v, neg_col, mulf_R,
    truncf_R, extf_R, col_256 _ _ rfl, spr_had, mul_g]; rfl
theorem sq1_R : Run.sq1 i x (scrR w o) = shapeCast S1x256x640 (R2 .f32 (had (g1 C w) (g1 C w))) shapeCasts_S256x640_S1x256x640 := by
  have e := g1_R H w o
  unfold Run.g1 at e
  simp only [Run.sq1, k0_pay34, e, mulf_R]

/-- What the normalisation leaves, of three gradients. -/
def nrmR (a b c : Mat 256 640) : Run.Norm Ideal :=
  ⟨R2 .f32 b, R2 .f32 c, R2 .bf16 b, R2 .bf16 0, R2 .bf16 0, R2 .bf16 c, R2 .bf16 0, R2 .bf16 0,
    R2 .f32 (d1 (gr b)), R2 .f32 (d1 (gr c)), R2 .f32 (cAA • a), R2 .f32 (d1 (gr a) * a)⟩

theorem nrm_R : Run.nrm i x (scrR w o) = nrmR (three (unit (g1 C w))) (three (unit (g3 C w))) (three (unit (g2 C w))) := by
  simp only [Run.nrm, g1_R H, g3_R H, g2_R H, sq1_R H, half_R]
  exact norm_R _ _ _
omit H

section
variable (a b c : Mat 256 640)
theorem pay235_R : k0_pay235 (nrmR a b c).v1111 (nrmR a b c).v1121 = R2 .f32 (two a) := by
  simp only [nrmR, k0_pay235, addf_R]; rfl
theorem pay236_R : k0_pay236 (nrmR a b c).v745 (nrmR a b c).v766 (nrmR a b c).v769 (nrmR a b c).v772 (nrmR a b c).v1103 = R2 .f32 (two b) := by
  simp only [nrmR, k0_pay236, cAA_R, truncf_R, extf_R, subf_R, sub_self, catL_fold, catW_fold, mulW, addf_R,
    Matrix.zero_mul, Matrix.mul_zero, add_zero]; rfl
theorem pay237_R : k0_pay237 (nrmR a b c).v758 (nrmR a b c).v773 (nrmR a b c).v776 (nrmR a b c).v779 (nrmR a b c).v1109 = R2 .f32 (two c) := by
  simp only [nrmR, k0_pay237, cAA_R, truncf_R, extf_R, subf_R, sub_self, catL_fold, catW_fold, mulW, addf_R,
    Matrix.zero_mul, Matrix.mul_zero, add_zero]; rfl
end

/-- The normalised gradients of the chunk. -/
def chunkN (C : Chunk) (w : W) : Run.Norm Ideal := nrmR (three (unit (g1 C w))) (three (unit (g3 C w))) (three (unit (g2 C w)))

variable (C)
theorem u1Of_R : Run.u1Of (chunkN C w) = R4 .f32 (us C w).w1ᵀ := by
  simp only [Run.u1Of, chunkN, k0_pay238, pay235_R, ns_eq, trW_fold, up4t]; rfl
theorem u3Of_R : Run.u3Of (chunkN C w) = R4 .f32 (us C w).w3ᵀ := by
  simp only [Run.u3Of, chunkN, k0_pay239, pay236_R, ns_eq, trW_fold, up4t]; rfl
theorem u2Of_R : Run.u2Of (chunkN C w) = R4 .f32 (us C w).w2 := by
  simp only [Run.u2Of, chunkN, k0_pay240, pay237_R, ns_eq, up4]; rfl
theorem m1_R : Run.m1 (chunkN C w) (scrR w o) = R2 .f32 (nextW C w o).w1 := by
  simp only [Run.m1, chunkN, pay241_eq, pay235_R, ns_eq, scr1, scr3, scr2, scn1, scn3, scn2, subf_R, mulf_R, reC_R]; rfl
theorem pay243_R : k0_pay243 (Run.d3 (chunkN C w) (scrR w o)) (scrR w o).n3 = R2 .f32 (nextW C w o).w3 := by
  simp only [Run.d3, chunkN, k0_pay242, pay243_eq, pay236_R, ns_eq, scr1, scr3, scr2, scn1, scn3, scn2, subf_R, mulf_R, reC_R]; rfl
theorem pay244_R : k0_pay244 (Run.u2 (chunkN C w)) (scrR w o).w2 (scrR w o).n2 = R2 .f32 (nextW C w o).w2 := by
  simp only [Run.u2, chunkN, pay244_eq, pay237_R, ns_eq, scr1, scr3, scr2, scn1, scn3, scn2, subf_R, mulf_R, reR_R]; rfl
theorem next_R : Run.next (chunkN C w) (scrR w o) = scrR (nextW C w o) o := by
  have e1 := m1_R C w o
  have e2 := pay243_R C w o
  have e3 := pay244_R C w o
  simp only [Run.next, k0_pay245, k0_pay246, k0_pay247, e1, e2, e3, shapeCast_self]; rfl
theorem w1Of_R : Run.w1Of (chunkN C w) (scrR w o) = R4 .f32 (nextW C w o).w1ᵀ := by
  simp only [Run.w1Of, k0_pay248, m1_R, trW_fold, up4t]
theorem w3Of_R : Run.w3Of (chunkN C w) (scrR w o) = R4 .f32 (nextW C w o).w3ᵀ := by
  simp only [Run.w3Of, k0_pay249, pay243_R, trW_fold, up4t]
theorem w2Of_R : Run.w2Of (chunkN C w) (scrR w o) = R4 .f32 (nextW C w o).w2 := by
  simp only [Run.w2Of, k0_pay250, pay244_R, up4]

variable {C}
include H
theorem yOf_R : Run.yOf i x (chunkN C w) (scrR w o) = R3 .bf16 (yo C (nextW C w o)) := by
  simp only [Run.yOf, m1_R, pay243_R, pay244_R, H.qs, H.q, k0_pay1, k0_pay251, truncf_R, mul_h, col_640 _ _ rfl, mulf_R, had_spr]
  have e := exp_R (sc (C.q * (nextW C w o).w1) C.qs)
  have e' := gate_R (sc (C.q * (nextW C w o).w1) C.qs)
  rw [e, e']
  simp only [mulf_R, truncf_R, mul_y, up3']
  rfl

end Cert.Lact

end
-- ==== Proof.Values.lean ====
/-
  The values of the results over real inputs: the chunks of a sequence, the weights they leave one after another, and
  the arrays made of them.
-/
module

public import proofs.«01_k».proof.Proof.Model
public import proofs.«01_k».proof.Proof.Real2

@[expose] public section

noncomputable section

namespace Cert.Lact

open Idealize.ShloMosaic
open Matrix

/-- The inputs: codes of the queries and of the keys, the values, by batch, row and column; scales and rates by batch,
    row and head; the weights by head. -/
structure In where
  Q : ℕ → ℕ → ℕ → ℝ
  QS : ℕ → ℕ → ℕ → ℝ
  K : ℕ → ℕ → ℕ → ℝ
  KS : ℕ → ℕ → ℕ → ℝ
  V : ℕ → ℕ → ℕ → ℝ
  LR : ℕ → ℕ → ℕ → ℝ
  W1 : ℕ → ℕ → ℕ → ℝ
  W3 : ℕ → ℕ → ℕ → ℝ
  W2 : ℕ → ℕ → ℕ → ℝ

/-- An array of real numbers given by its coordinates. -/
def T3 {a b c : ℕ} (φ : FTy) (f : ℕ → ℕ → ℕ → ℝ) : FVec Ideal ⟨3, ![a, b, c]⟩ φ := fun i => er (f (i 0).val (i 1).val (i 2).val)
def T4 {a b c d : ℕ} (φ : FTy) (f : ℕ → ℕ → ℕ → ℕ → ℝ) : FVec Ideal ⟨4, ![a, b, c, d]⟩ φ :=
  fun i => er (f (i 0).val (i 1).val (i 2).val (i 3).val)

variable (I : In) (b h : ℕ)

/-- A chunk of a sequence for a head: zeros past the sequence's end. -/
def chk (c : ℕ) : Chunk where
  q := Matrix.of fun r j => if 384 * c + r.val < 896 then I.Q b (384 * c + r.val) (256 * h + j.val) else 0
  qs := fun r => if 384 * c + r.val < 896 then I.QS b (384 * c + r.val) h else 0
  k := Matrix.of fun r j => if 384 * c + r.val < 896 then I.K b (384 * c + r.val) (256 * h + j.val) else 0
  ks := fun r => if 384 * c + r.val < 896 then I.KS b (384 * c + r.val) h else 0
  v := Matrix.of fun r j => if 384 * c + r.val < 896 then I.V b (384 * c + r.val) (256 * h + j.val) else 0
  lr := fun r => if 384 * c + r.val < 896 then I.LR b (384 * c + r.val) h else 0

/-- A head's weights, width first. -/
def w0 : W := ⟨Matrix.of fun d f => I.W1 h f.val d.val, Matrix.of fun d f => I.W3 h f.val d.val, Matrix.of fun d f => I.W2 h d.val f.val⟩

/-- The weights before each chunk. -/
def wn : ℕ → W
  | 0 => w0 I h
  | c + 1 => nextW (chk I b h c) (wn c) (w0 I h)

/-- An entry of a matrix at any two numbers. -/
def ent {n m : ℕ} (A : Mat n m) (i j : ℕ) : ℝ := if hi : i < n then if hj : j < m then A ⟨i, hi⟩ ⟨j, hj⟩ else 0 else 0

theorem ent_fin {n m : ℕ} (A : Mat n m) (i : Fin n) (j : Fin m) : ent A i.val j.val = A i j := by
  unfold ent; rw [dif_pos i.isLt, dif_pos j.isLt]

/-- What the sequences' results are. -/
def yV (s x : ℕ) : ℝ := ent (yo (chk I b (x / 256) (s / 384)) (wn I b (x / 256) (s / 384 + 1))) (s % 384) (x % 256)
def gV (s : ℕ) (h f : ℕ) : ℝ := ent (gk (chk I b h (s / 384)) (wn I b h (s / 384))) (s % 384) f
def w1V (i j : ℕ) : ℝ := ent (wn I b h 3).w1ᵀ i j
def w3V (i j : ℕ) : ℝ := ent (wn I b h 3).w3ᵀ i j
def w2V (i j : ℕ) : ℝ := ent (wn I b h 3).w2 i j
def u1V (i j : ℕ) : ℝ := ent (us (chk I b h 0) (w0 I h)).w1ᵀ i j
def u3V (i j : ℕ) : ℝ := ent (us (chk I b h 0) (w0 I h)).w3ᵀ i j
def u2V (i j : ℕ) : ℝ := ent (us (chk I b h 0) (w0 I h)).w2 i j

end Cert.Lact

end
-- ==== Proof.KRun.lean ====
/-
  The kernel's arrays over real inputs.
-/
module

public import proofs.«01_k».proof.Proof.KChunk
public import proofs.«01_k».proof.Proof.Values
public import proofs.«01_k».proof.Proof.Run
public import Idealize.ShloMosaic.Lib.Pipeline.ValueKit

@[expose] public section

set_option maxRecDepth 65536

noncomputable section

namespace Cert.Lact

open Idealize.ShloMosaic Idealize.ShloMosaic.TcCoe Cert.KernelIdeal Cert.KernelIdeal.Gen
open Matrix

variable (m : (ℓ : Loc nD τ Cert.KernelIdeal.sig) → Buf (Elt Ideal) ℓ) (c : Dev nD) (I : In)

/-- The arrays the region reads hold the inputs. -/
structure Reads : Prop where
  q : V m c main_v0 = (T3 .fp8e4m3 I.Q : FVec Ideal S2x896x3072 .fp8e4m3)
  qs : V m c main_arg1 = (T3 .f32 I.QS : FVec Ideal S2x896x12 .f32)
  k : V m c main_v1 = (T3 .fp8e4m3 I.K : FVec Ideal S2x896x3072 .fp8e4m3)
  ks : V m c main_arg3 = (T3 .f32 I.KS : FVec Ideal S2x896x12 .f32)
  v : V m c main_arg4 = (T3 .bf16 I.V : FVec Ideal S2x896x3072 .bf16)
  lr : V m c main_arg5 = (T3 .f32 I.LR : FVec Ideal S2x896x12 .f32)
  w1 : V m c main_arg6 = (T3 .f32 I.W1 : FVec Ideal S12x640x256 .f32)
  w3 : V m c main_arg7 = (T3 .f32 I.W3 : FVec Ideal S12x640x256 .f32)
  w2 : V m c main_arg8 = (T3 .f32 I.W2 : FVec Ideal S12x256x640 .f32)

theorem idx0 : ∀ t : Fin cfg0.N, win0_0.index t = ![(grid0.coords t 1).val, (grid0.coords t 2).val, (grid0.coords t 0).val] := by decide +kernel
theorem idx1 : ∀ t : Fin cfg0.N, win0_1.index t = ![(grid0.coords t 1).val, (grid0.coords t 2).val, 0] := by decide +kernel
theorem idx2 : ∀ t : Fin cfg0.N, win0_2.index t = ![(grid0.coords t 1).val, (grid0.coords t 2).val, (grid0.coords t 0).val] := by decide +kernel
theorem idx3 : ∀ t : Fin cfg0.N, win0_3.index t = ![(grid0.coords t 1).val, (grid0.coords t 2).val, 0] := by decide +kernel
theorem idx4 : ∀ t : Fin cfg0.N, win0_4.index t = ![(grid0.coords t 1).val, (grid0.coords t 2).val, (grid0.coords t 0).val] := by decide +kernel
theorem idx5 : ∀ t : Fin cfg0.N, win0_5.index t = ![(grid0.coords t 1).val, (grid0.coords t 2).val, 0] := by decide +kernel
theorem idx6 : ∀ t : Fin cfg0.N, win0_6.index t = ![(grid0.coords t 0).val, 0, 0] := by decide +kernel
theorem idx7 : ∀ t : Fin cfg0.N, win0_7.index t = ![(grid0.coords t 0).val, 0, 0] := by decide +kernel
theorem idx8 : ∀ t : Fin cfg0.N, win0_8.index t = ![(grid0.coords t 0).val, 0, 0] := by decide +kernel

variable {m c I}

theorem crd0 : ∀ t : Fin cfg0.N, (grid0.coords t 0).val = t.val / 6 := by decide +kernel
theorem crd1 : ∀ t : Fin cfg0.N, (grid0.coords t 1).val = t.val / 3 % 2 := by decide +kernel
theorem crd2 : ∀ t : Fin cfg0.N, (grid0.coords t 2).val = t.val % 3 := by decide +kernel

theorem rows_iff (t : Fin cfg0.N) (r : Fin 384) : r.val < Run.rows (grid0.coords t) ↔ 384 * (t.val % 3) + r.val < 896 := by
  have := r.isLt
  unfold Run.rows; rw [crd2]
  split <;> omega

theorem er3 (f : ℕ → ℕ → ℕ → ℝ) {a a' b b' d d' : ℕ} (h0 : a = a') (h1 : b = b') (h2 : d = d') : er (f a b d) = er (f a' b' d') := by
  rw [h0, h1, h2]

/-! ## What the chunks read -/

theorem rd6 (H : Reads m c I) (t : Fin cfg0.N) :
    (iblk m c 6 t : Vec Ideal S1x640x256 .f32) = R3 .f32 (Matrix.of fun r j => I.W1 (t.val / 6) r.val j.val : Mat 640 256) := by
  funext y
  show V m c main_arg6 (((cfg0.win 6).blk t).view.emb y) = _
  rw [H.w1]
  show er (I.W1 _ _ _) = er (I.W1 _ _ _)
  have h0 := crd0 t
  blk_simp [idx6 t]
  exact er3 _ (by dsimp only; omega) (by dsimp only) (by dsimp only)

theorem rd7 (H : Reads m c I) (t : Fin cfg0.N) :
    (iblk m c 7 t : Vec Ideal S1x640x256 .f32) = R3 .f32 (Matrix.of fun r j => I.W3 (t.val / 6) r.val j.val : Mat 640 256) := by
  funext y
  show V m c main_arg7 (((cfg0.win 7).blk t).view.emb y) = _
  rw [H.w3]
  show er (I.W3 _ _ _) = er (I.W3 _ _ _)
  have h0 := crd0 t
  blk_simp [idx7 t]
  exact er3 _ (by dsimp only; omega) (by dsimp only) (by dsimp only)

theorem rd8 (H : Reads m c I) (t : Fin cfg0.N) :
    (iblk m c 8 t : Vec Ideal S1x256x640 .f32) = R3 .f32 (Matrix.of fun r j => I.W2 (t.val / 6) r.val j.val : Mat 256 640) := by
  funext y
  show V m c main_arg8 (((cfg0.win 8).blk t).view.emb y) = _
  rw [H.w2]
  show er (I.W2 _ _ _) = er (I.W2 _ _ _)
  have h0 := crd0 t
  blk_simp [idx8 t]
  exact er3 _ (by dsimp only; omega) (by dsimp only) (by dsimp only)

theorem rd0 (H : Reads m c I) (t : Fin cfg0.N) : Run.Same (n := 256) (grid0.coords t) (Run.xs m c t).q
    (R3 .fp8e4m3 (Matrix.of fun r j => I.Q (t.val / 3 % 2) (384 * (t.val % 3) + r.val) (256 * (t.val / 6) + j.val) : Mat 384 256)) := by
  intro j hj
  have hm : win0_0.moved (grid0.coords t) j = true := (win0_0.moved_iff _ j).mpr fun a => by
    rw [Run.xsize0 t a]
    match a with
    | ⟨0, _⟩ => exact (j 0).isLt
    | ⟨1, _⟩ => exact hj
    | ⟨2, _⟩ => exact (j 2).isLt
  unfold Run.xs Pipeline.Window.fill
  dsimp only
  rw [dif_pos hm]
  show V m c main_v0 (((cfg0.win 0).blk t).view.emb _) = _
  rw [H.q]
  show er (I.Q _ _ _) = er (I.Q _ _ _)
  blk_simp [idx0 t]
  have h0 := crd0 t; have h1 := crd1 t; have h2 := crd2 t
  exact er3 _ (by dsimp only; omega) (by dsimp only; omega) (by dsimp only; omega)

theorem rd1 (H : Reads m c I) (t : Fin cfg0.N) : Run.Same (n := 12) (grid0.coords t) (Run.xs m c t).qs
    (R3 .f32 (Matrix.of fun r j => I.QS (t.val / 3 % 2) (384 * (t.val % 3) + r.val) (j.val) : Mat 384 12)) := by
  intro j hj
  have hm : win0_1.moved (grid0.coords t) j = true := (win0_1.moved_iff _ j).mpr fun a => by
    rw [Run.xsize1 t a]
    match a with
    | ⟨0, _⟩ => exact (j 0).isLt
    | ⟨1, _⟩ => exact hj
    | ⟨2, _⟩ => exact (j 2).isLt
  unfold Run.xs Pipeline.Window.fill
  dsimp only
  rw [dif_pos hm]
  show V m c main_arg1 (((cfg0.win 1).blk t).view.emb _) = _
  rw [H.qs]
  show er (I.QS _ _ _) = er (I.QS _ _ _)
  blk_simp [idx1 t]
  have h0 := crd0 t; have h1 := crd1 t; have h2 := crd2 t
  exact er3 _ (by dsimp only; omega) (by dsimp only; omega) rfl

theorem rd2 (H : Reads m c I) (t : Fin cfg0.N) : Run.Same (n := 256) (grid0.coords t) (Run.xs m c t).k
    (R3 .fp8e4m3 (Matrix.of fun r j => I.K (t.val / 3 % 2) (384 * (t.val % 3) + r.val) (256 * (t.val / 6) + j.val) : Mat 384 256)) := by
  intro j hj
  have hm : win0_2.moved (grid0.coords t) j = true := (win0_2.moved_iff _ j).mpr fun a => by
    rw [Run.xsize2 t a]
    match a with
    | ⟨0, _⟩ => exact (j 0).isLt
    | ⟨1, _⟩ => exact hj
    | ⟨2, _⟩ => exact (j 2).isLt
  unfold Run.xs Pipeline.Window.fill
  dsimp only
  rw [dif_pos hm]
  show V m c main_v1 (((cfg0.win 2).blk t).view.emb _) = _
  rw [H.k]
  show er (I.K _ _ _) = er (I.K _ _ _)
  blk_simp [idx2 t]
  have h0 := crd0 t; have h1 := crd1 t; have h2 := crd2 t
  exact er3 _ (by dsimp only; omega) (by dsimp only; omega) (by dsimp only; omega)

theorem rd3 (H : Reads m c I) (t : Fin cfg0.N) : Run.Same (n := 12) (grid0.coords t) (Run.xs m c t).ks
    (R3 .f32 (Matrix.of fun r j => I.KS (t.val / 3 % 2) (384 * (t.val % 3) + r.val) (j.val) : Mat 384 12)) := by
  intro j hj
  have hm : win0_3.moved (grid0.coords t) j = true := (win0_3.moved_iff _ j).mpr fun a => by
    rw [Run.xsize3 t a]
    match a with
    | ⟨0, _⟩ => exact (j 0).isLt
    | ⟨1, _⟩ => exact hj
    | ⟨2, _⟩ => exact (j 2).isLt
  unfold Run.xs Pipeline.Window.fill
  dsimp only
  rw [dif_pos hm]
  show V m c main_arg3 (((cfg0.win 3).blk t).view.emb _) = _
  rw [H.ks]
  show er (I.KS _ _ _) = er (I.KS _ _ _)
  blk_simp [idx3 t]
  have h0 := crd0 t; have h1 := crd1 t; have h2 := crd2 t
  exact er3 _ (by dsimp only; omega) (by dsimp only; omega) rfl

theorem rd4 (H : Reads m c I) (t : Fin cfg0.N) : Run.Same (n := 256) (grid0.coords t) (Run.xs m c t).v
    (R3 .bf16 (Matrix.of fun r j => I.V (t.val / 3 % 2) (384 * (t.val % 3) + r.val) (256 * (t.val / 6) + j.val) : Mat 384 256)) := by
  intro j hj
  have hm : win0_4.moved (grid0.coords t) j = true := (win0_4.moved_iff _ j).mpr fun a => by
    rw [Run.xsize4 t a]
    match a with
    | ⟨0, _⟩ => exact (j 0).isLt
    | ⟨1, _⟩ => exact hj
    | ⟨2, _⟩ => exact (j 2).isLt
  unfold Run.xs Pipeline.Window.fill
  dsimp only
  rw [dif_pos hm]
  show V m c main_arg4 (((cfg0.win 4).blk t).view.emb _) = _
  rw [H.v]
  show er (I.V _ _ _) = er (I.V _ _ _)
  blk_simp [idx4 t]
  have h0 := crd0 t; have h1 := crd1 t; have h2 := crd2 t
  exact er3 _ (by dsimp only; omega) (by dsimp only; omega) (by dsimp only; omega)

theorem rd5 (H : Reads m c I) (t : Fin cfg0.N) : Run.Same (n := 12) (grid0.coords t) (Run.xs m c t).lr
    (R3 .f32 (Matrix.of fun r j => I.LR (t.val / 3 % 2) (384 * (t.val % 3) + r.val) (j.val) : Mat 384 12)) := by
  intro j hj
  have hm : win0_5.moved (grid0.coords t) j = true := (win0_5.moved_iff _ j).mpr fun a => by
    rw [Run.xsize5 t a]
    match a with
    | ⟨0, _⟩ => exact (j 0).isLt
    | ⟨1, _⟩ => exact hj
    | ⟨2, _⟩ => exact (j 2).isLt
  unfold Run.xs Pipeline.Window.fill
  dsimp only
  rw [dif_pos hm]
  show V m c main_arg5 (((cfg0.win 5).blk t).view.emb _) = _
  rw [H.lr]
  show er (I.LR _ _ _) = er (I.LR _ _ _)
  blk_simp [idx5 t]
  have h0 := crd0 t; have h1 := crd1 t; have h2 := crd2 t
  exact er3 _ (by dsimp only; omega) (by dsimp only; omega) rfl

/-- A point's chunk: batch, head and number. -/
abbrev chkAt (I : In) (t : Fin cfg0.N) : Chunk := chk I (t.val / 3 % 2) (t.val / 6) (t.val % 3)

theorem lane_eq (f : ℕ → ℕ → ℕ → ℝ) (t : Fin cfg0.N) (b : ℕ) :
    lane (grid0.coords t) (Matrix.of fun r j => f b (384 * (t.val % 3) + r.val) j.val)
      = fun r => if 384 * (t.val % 3) + r.val < 896 then f b (384 * (t.val % 3) + r.val) (t.val / 6) else 0 := by
  funext r
  have e : (Matrix.of fun (r : Fin 384) (j : Fin 12) => f b (384 * (t.val % 3) + r.val) j.val) r (grid0.coords t 0)
      = f b (384 * (t.val % 3) + r.val) (t.val / 6) := congrArg (f b _) (crd0 t)
  unfold lane
  rw [e]
  exact if_congr (rows_iff t r) rfl rfl

theorem mask_eq (f : ℕ → ℕ → ℕ → ℝ) (t : Fin cfg0.N) (b h : ℕ) :
    maskR (grid0.coords t) (Matrix.of fun r j => f b (384 * (t.val % 3) + r.val) (256 * h + j.val) : Mat 384 256)
      = Matrix.of fun r j => if 384 * (t.val % 3) + r.val < 896 then f b (384 * (t.val % 3) + r.val) (256 * h + j.val) else 0 := by
  funext r j
  exact if_congr (rows_iff t r) rfl rfl

theorem xs_is (H : Reads m c I) (t : Fin cfg0.N) : Is (grid0.coords t) (Run.xs m c t) (chkAt I t) where
  ks := (Run.same13 (rd3 H t)).trans ((pay13_R _ _).trans (congrArg (RC .f32) (lane_eq I.KS t _)))
  lr := (Run.same14 (rd5 H t)).trans ((pay14_R _ _).trans (congrArg (RC .f32) (lane_eq I.LR t _)))
  qs := (Run.same18 (rd1 H t)).trans ((pay18_R _ _).trans (congrArg (RC .f32) (lane_eq I.QS t _)))
  k := (Run.same19 (rd2 H t)).trans ((pay19_R _ _).trans (congrArg (R2 .bf16) (mask_eq I.K t _ _)))
  q := (Run.same20 (rd0 H t)).trans ((pay20_R _ _).trans (congrArg (R2 .bf16) (mask_eq I.Q t _ _)))
  v := (Run.same21 (rd4 H t)).trans ((pay21_R _ _).trans (congrArg (R2 .f32) (mask_eq I.V t _ _)))

/-! ## The scratch -/

theorem nAt_of (H : Reads m c I) (t : Fin cfg0.N) {w o : W} (h : Run.sAt m c t = scrR w o) : Run.nAt m c t = chunkN (chkAt I t) w := by
  show Run.nrm (grid0.coords t) (Run.xs m c t) (Run.sAt m c t) = _
  rw [h]; exact nrm_R (xs_is H t) w o

theorem sAt_R (H : Reads m c I) : ∀ (n : ℕ) (hn : n < cfg0.N),
    Run.sAt m c ⟨n, hn⟩ = scrR (wn I (n / 3 % 2) (n / 6) (n % 3)) (w0 I (n / 6)) := by
  intro n
  induction n with
  | zero =>
    intro hn
    unfold Run.sAt Run.beg Run.begin
    rw [if_pos ((Run.cond2_iff ⟨0, hn⟩).mpr rfl), rd6 H, rd7 H, rd8 H]
    exact fresh_R _ _ _
  | succ n ih =>
    intro hn
    have hn' : n < cfg0.N := by omega
    by_cases e : (n + 1) % 3 = 0
    · unfold Run.sAt Run.beg Run.begin
      rw [if_pos ((Run.cond2_iff ⟨n + 1, hn⟩).mpr e), rd6 H, rd7 H, rd8 H, e]
      exact fresh_R _ _ _
    · unfold Run.sAt Run.beg Run.begin
      rw [if_neg (fun he => e ((Run.cond2_iff ⟨n + 1, hn⟩).mp he))]
      have h1 := ih hn'
      have h2 := (Run.scr_succ m c ⟨n, hn'⟩).trans (congrArg₂ Run.next (nAt_of H _ h1) h1)
      refine h2.trans ((next_R _ _ _).trans ?_)
      have e1 : (n + 1) / 3 = n / 3 := by omega
      have e2 : (n + 1) / 6 = n / 6 := by omega
      have e3 : (n + 1) % 3 = n % 3 + 1 := by omega
      rw [e1, e2, e3]
      rfl

theorem sAt_eq (H : Reads m c I) (t : Fin cfg0.N) :
    Run.sAt m c t = scrR (wn I (t.val / 3 % 2) (t.val / 6) (t.val % 3)) (w0 I (t.val / 6)) := sAt_R H t.val t.isLt
theorem nAt_eq (H : Reads m c I) (t : Fin cfg0.N) :
    Run.nAt m c t = chunkN (chkAt I t) (wn I (t.val / 3 % 2) (t.val / 6) (t.val % 3)) := nAt_of H t (sAt_eq H t)

/-! ## The arrays -/

theorem idx9 : ∀ t : Fin cfg0.N, win0_9.index t = ![(grid0.coords t 1).val, (grid0.coords t 2).val, (grid0.coords t 0).val] := by decide +kernel
theorem idx10 : ∀ t : Fin cfg0.N, win0_10.index t = ![(grid0.coords t 1).val, (grid0.coords t 2).val, (grid0.coords t 0).val] := by decide +kernel
theorem idx11 : ∀ t : Fin cfg0.N, win0_11.index t = ![(grid0.coords t 1).val, (grid0.coords t 0).val, 0, 0] := by decide +kernel
theorem idx12 : ∀ t : Fin cfg0.N, win0_12.index t = ![(grid0.coords t 1).val, (grid0.coords t 0).val, 0, 0] := by decide +kernel
theorem idx13 : ∀ t : Fin cfg0.N, win0_13.index t = ![(grid0.coords t 1).val, (grid0.coords t 0).val, 0, 0] := by decide +kernel
theorem idx14 : ∀ t : Fin cfg0.N, win0_14.index t = ![(grid0.coords t 1).val, (grid0.coords t 0).val, 0, 0] := by decide +kernel
theorem idx15 : ∀ t : Fin cfg0.N, win0_15.index t = ![(grid0.coords t 1).val, (grid0.coords t 0).val, 0, 0] := by decide +kernel
theorem idx16 : ∀ t : Fin cfg0.N, win0_16.index t = ![(grid0.coords t 1).val, (grid0.coords t 0).val, 0, 0] := by decide +kernel

theorem er4 (f : ℕ → ℕ → ℕ → ℕ → ℝ) {a a' b b' d d' e e' : ℕ} (h0 : a = a') (h1 : b = b') (h2 : d = d') (h3 : e = e') :
    er (f a b d e) = er (f a' b' d' e') := by
  rw [h0, h1, h2, h3]

theorem yV_at (I : In) (b h c : ℕ) (r : Fin 384) (j : Fin 256) :
    yV I b (c * 384 + r.val) (h * 256 + j.val) = yo (chk I b h c) (wn I b h (c + 1)) r j := by
  have hr := r.isLt
  have hj := j.isLt
  unfold yV
  rw [show (h * 256 + j.val) / 256 = h by omega, show (c * 384 + r.val) / 384 = c by omega,
    show (h * 256 + j.val) % 256 = j.val by omega, show (c * 384 + r.val) % 384 = r.val by omega]
  exact ent_fin _ r j

theorem gV_at (I : In) (b h c : ℕ) (r : Fin 384) (j : Fin 640) :
    gV I b (c * 384 + r.val) ((h * 640 + j.val) / 640) ((h * 640 + j.val) % 640) = gk (chk I b h c) (wn I b h c) r j := by
  have hr := r.isLt
  have hj := j.isLt
  unfold gV
  rw [show (h * 640 + j.val) / 640 = h by omega, show (c * 384 + r.val) / 384 = c by omega,
    show (h * 640 + j.val) % 640 = j.val by omega, show (c * 384 + r.val) % 384 = r.val by omega]
  exact ent_fin _ r j

theorem y_arr (H : Reads m c I) : (Run.dats m 0 c).arrAt 9 cfg0.N = (T3 .bf16 (yV I) : FVec Ideal S2x896x3072 .bf16) := by
  refine (Run.dats m 0 c).arrAt_eq_of_covers 9 (T3 .bf16 (yV I) : FVec Ideal S2x896x3072 .bf16) (by decide +kernel) fun t hf y => ?_
  blk_simp
  show (Run.yOf _ _ _ _ : FVec Ideal S1x384x256 .bf16) _ = er (yV I _ _ _)
  rw [nAt_eq H, sAt_eq H, yOf_R (xs_is H t)]
  show er (yo _ _ _ _) = _
  blk_simp [idx9 t, crd0 t, crd1 t, crd2 t]
  have h0 : (y 0).val < 1 := ((cfg0.win 9).xinj (cfg0.grid.coords t) y 0).isLt
  refine (congrArg er (yV_at I (t.val / 3 % 2) (t.val / 6) (t.val % 3) _ _).symm).trans (er3 (yV I) ?_ rfl rfl)
  omega

/-- The gates as the region leaves them, a head's columns after another's. -/
def gF (I : In) (b s x : ℕ) : ℝ := gV I b s (x / 640) (x % 640)

theorem g_arr (H : Reads m c I) : (Run.dats m 0 c).arrAt 10 cfg0.N = (T3 .bf16 (gF I) : FVec Ideal S2x896x7680 .bf16) := by
  refine (Run.dats m 0 c).arrAt_eq_of_covers 10 (T3 .bf16 (gF I) : FVec Ideal S2x896x7680 .bf16) (by decide +kernel) fun t hf y => ?_
  blk_simp
  show (Run.gOf _ _ _ : FVec Ideal S1x384x640 .bf16) _ = er (gF I _ _ _)
  rw [sAt_eq H, gOf_R (xs_is H t)]
  show er (gk _ _ _ _) = _
  blk_simp [idx10 t, crd0 t, crd1 t, crd2 t]
  have h0 : (y 0).val < 1 := ((cfg0.win 10).xinj (cfg0.grid.coords t) y 0).isLt
  refine (congrArg er (gV_at I (t.val / 3 % 2) (t.val / 6) (t.val % 3) _ _).symm).trans (er3 (gF I) ?_ rfl rfl)
  omega

theorem wn_three (I : In) (t : Fin cfg0.N) (e : t.val % 3 = 2) :
    nextW (chkAt I t) (wn I (t.val / 3 % 2) (t.val / 6) (t.val % 3)) (w0 I (t.val / 6)) = wn I (t.val / 3 % 2) (t.val / 6) 3 := by
  unfold chkAt; rw [e]; rfl

theorem last (n : Fin cfg0.W) (t : Fin cfg0.N) (h : (cfg0.win n).flush t = decide (t.val % 3 = 2)) (hf : (cfg0.win n).flush t = true) :
    t.val % 3 = 2 := of_decide_eq_true (h.symm.trans hf)

theorem w1_arr (H : Reads m c I) : (Run.dats m 0 c).arrAt 11 cfg0.N = (T4 .f32 (w1V I) : FVec Ideal S2x12x640x256 .f32) := by
  refine (Run.dats m 0 c).arrAt_eq_of_covers 11 (T4 .f32 (w1V I) : FVec Ideal S2x12x640x256 .f32) (by decide +kernel) fun t hf y => ?_
  blk_simp
  show (Run.w1Of _ _ : FVec Ideal S1x1x640x256 .f32) _ = er (w1V I _ _ _ _)
  rw [nAt_eq H, sAt_eq H, w1Of_R, wn_three I t (last 11 t (Run.flush11 t) hf)]
  show er (_) = _
  blk_simp [idx11 t, crd0 t, crd1 t, crd2 t]
  have h0 : (y 0).val < 1 := (y 0).isLt
  have h1 : (y 1).val < 1 := (y 1).isLt
  refine (congrArg er (ent_fin (wn I (t.val / 3 % 2) (t.val / 6) 3).w1ᵀ (y 2) (y 3)).symm).trans (er4 (w1V I) ?_ ?_ ?_ ?_) <;> omega

theorem w3_arr (H : Reads m c I) : (Run.dats m 0 c).arrAt 12 cfg0.N = (T4 .f32 (w3V I) : FVec Ideal S2x12x640x256 .f32) := by
  refine (Run.dats m 0 c).arrAt_eq_of_covers 12 (T4 .f32 (w3V I) : FVec Ideal S2x12x640x256 .f32) (by decide +kernel) fun t hf y => ?_
  blk_simp
  show (Run.w3Of _ _ : FVec Ideal S1x1x640x256 .f32) _ = er (w3V I _ _ _ _)
  rw [nAt_eq H, sAt_eq H, w3Of_R, wn_three I t (last 12 t (Run.flush12 t) hf)]
  show er (_) = _
  blk_simp [idx12 t, crd0 t, crd1 t, crd2 t]
  have h0 : (y 0).val < 1 := (y 0).isLt
  have h1 : (y 1).val < 1 := (y 1).isLt
  refine (congrArg er (ent_fin (wn I (t.val / 3 % 2) (t.val / 6) 3).w3ᵀ (y 2) (y 3)).symm).trans (er4 (w3V I) ?_ ?_ ?_ ?_) <;> omega

theorem w2_arr (H : Reads m c I) : (Run.dats m 0 c).arrAt 13 cfg0.N = (T4 .f32 (w2V I) : FVec Ideal S2x12x256x640 .f32) := by
  refine (Run.dats m 0 c).arrAt_eq_of_covers 13 (T4 .f32 (w2V I) : FVec Ideal S2x12x256x640 .f32) (by decide +kernel) fun t hf y => ?_
  blk_simp
  show (Run.w2Of _ _ : FVec Ideal S1x1x256x640 .f32) _ = er (w2V I _ _ _ _)
  rw [nAt_eq H, sAt_eq H, w2Of_R, wn_three I t (last 13 t (Run.flush13 t) hf)]
  show er (_) = _
  blk_simp [idx13 t, crd0 t, crd1 t, crd2 t]
  have h0 : (y 0).val < 1 := (y 0).isLt
  have h1 : (y 1).val < 1 := (y 1).isLt
  refine (congrArg er (ent_fin (wn I (t.val / 3 % 2) (t.val / 6) 3).w2 (y 2) (y 3)).symm).trans (er4 (w2V I) ?_ ?_ ?_ ?_) <;> omega

theorem nAt_grp (H : Reads m c I) (t : Fin cfg0.N) :
    Run.nAt m c (Run.grp t) = chunkN (chk I (t.val / 3 % 2) (t.val / 6) 0) (w0 I (t.val / 6)) := by
  have h := nAt_eq H (Run.grp t)
  unfold chkAt at h
  rw [show (Run.grp t).val / 3 % 2 = t.val / 3 % 2 by show 3 * (t.val / 3) / 3 % 2 = _; omega,
    show (Run.grp t).val / 6 = t.val / 6 by show 3 * (t.val / 3) / 6 = _; omega,
    show (Run.grp t).val % 3 = 0 by show 3 * (t.val / 3) % 3 = _; omega] at h
  exact h

theorem u1_arr (H : Reads m c I) : (Run.dats m 0 c).arrAt 14 cfg0.N = (T4 .f32 (u1V I) : FVec Ideal S2x12x640x256 .f32) := by
  refine (Run.dats m 0 c).arrAt_eq_of_covers 14 (T4 .f32 (u1V I) : FVec Ideal S2x12x640x256 .f32) (by decide +kernel) fun t hf y => ?_
  blk_simp
  show (Run.u1Of _ : FVec Ideal S1x1x640x256 .f32) _ = er (u1V I _ _ _ _)
  rw [nAt_grp H, u1Of_R]
  show er (_) = _
  blk_simp [idx14 t, crd0 t, crd1 t, crd2 t]
  have h0 : (y 0).val < 1 := (y 0).isLt
  have h1 : (y 1).val < 1 := (y 1).isLt
  refine (congrArg er (ent_fin (us (chk I (t.val / 3 % 2) (t.val / 6) 0) (w0 I (t.val / 6))).w1ᵀ (y 2) (y 3)).symm).trans (er4 (u1V I) ?_ ?_ ?_ ?_) <;> omega

theorem u3_arr (H : Reads m c I) : (Run.dats m 0 c).arrAt 15 cfg0.N = (T4 .f32 (u3V I) : FVec Ideal S2x12x640x256 .f32) := by
  refine (Run.dats m 0 c).arrAt_eq_of_covers 15 (T4 .f32 (u3V I) : FVec Ideal S2x12x640x256 .f32) (by decide +kernel) fun t hf y => ?_
  blk_simp
  show (Run.u3Of _ : FVec Ideal S1x1x640x256 .f32) _ = er (u3V I _ _ _ _)
  rw [nAt_grp H, u3Of_R]
  show er (_) = _
  blk_simp [idx15 t, crd0 t, crd1 t, crd2 t]
  have h0 : (y 0).val < 1 := (y 0).isLt
  have h1 : (y 1).val < 1 := (y 1).isLt
  refine (congrArg er (ent_fin (us (chk I (t.val / 3 % 2) (t.val / 6) 0) (w0 I (t.val / 6))).w3ᵀ (y 2) (y 3)).symm).trans (er4 (u3V I) ?_ ?_ ?_ ?_) <;> omega

theorem u2_arr (H : Reads m c I) : (Run.dats m 0 c).arrAt 16 cfg0.N = (T4 .f32 (u2V I) : FVec Ideal S2x12x256x640 .f32) := by
  refine (Run.dats m 0 c).arrAt_eq_of_covers 16 (T4 .f32 (u2V I) : FVec Ideal S2x12x256x640 .f32) (by decide +kernel) fun t hf y => ?_
  blk_simp
  show (Run.u2Of _ : FVec Ideal S1x1x256x640 .f32) _ = er (u2V I _ _ _ _)
  rw [nAt_grp H, u2Of_R]
  show er (_) = _
  blk_simp [idx16 t, crd0 t, crd1 t, crd2 t]
  have h0 : (y 0).val < 1 := (y 0).isLt
  have h1 : (y 1).val < 1 := (y 1).isLt
  refine (congrArg er (ent_fin (us (chk I (t.val / 3 % 2) (t.val / 6) 0) (w0 I (t.val / 6))).w2 (y 2) (y 3)).symm).trans (er4 (u2V I) ?_ ?_ ?_ ?_) <;> omega

end Cert.Lact

end
-- ==== Proof.KOut.lean ====
/-
  What the kernel leaves: its arrays' contents with the second result reshaped, as functions of the arguments.
-/
module

public import proofs.«01_k».proof.Proof.KRun

@[expose] public section

set_option maxRecDepth 65536

noncomputable section

namespace Cert.Lact

open Idealize.ShloMosaic Idealize.ShloMosaic.TcCoe Cert.KernelIdeal Cert.KernelIdeal.Gen

variable (m : (ℓ : Loc nD τ Cert.KernelIdeal.sig) → Buf (Elt Ideal) ℓ) (ρ : Dev nD → PrngReg) (c : Dev nD)

/-- The arguments. -/
structure Args (I : In) : Prop where
  a0 : m ((c.tc : Thread nD τ).loc main_arg0) = (T3 .f32 I.Q : FVec Ideal S2x896x3072 .f32)
  a1 : m ((c.tc : Thread nD τ).loc main_arg1) = (T3 .f32 I.QS : FVec Ideal S2x896x12 .f32)
  a2 : m ((c.tc : Thread nD τ).loc main_arg2) = (T3 .f32 I.K : FVec Ideal S2x896x3072 .f32)
  a3 : m ((c.tc : Thread nD τ).loc main_arg3) = (T3 .f32 I.KS : FVec Ideal S2x896x12 .f32)
  a4 : m ((c.tc : Thread nD τ).loc main_arg4) = (T3 .bf16 I.V : FVec Ideal S2x896x3072 .bf16)
  a5 : m ((c.tc : Thread nD τ).loc main_arg5) = (T3 .f32 I.LR : FVec Ideal S2x896x12 .f32)
  a6 : m ((c.tc : Thread nD τ).loc main_arg6) = (T3 .f32 I.W1 : FVec Ideal S12x640x256 .f32)
  a7 : m ((c.tc : Thread nD τ).loc main_arg7) = (T3 .f32 I.W3 : FVec Ideal S12x640x256 .f32)
  a8 : m ((c.tc : Thread nD τ).loc main_arg8) = (T3 .f32 I.W2 : FVec Ideal S12x256x640 .f32)

variable {m c} {I : In}

theorem reads (H : Args m c I) : Reads m c I where
  q := by
    have e : V m c main_v0 = (Host.convertf (φ := .f32) .fp8e4m3 (m ((c.tc : Thread nD τ).loc main_arg0) : FVec Ideal S2x896x3072 .f32) : FVec Ideal S2x896x3072 .fp8e4m3) := by
      show StableHlo.after hostOps0 _ _ = _
      after_results_simp
    rw [e, H.a0]; rfl
  qs := (V_main_arg1 m c).trans H.a1
  k := by
    have e : V m c main_v1 = (Host.convertf (φ := .f32) .fp8e4m3 (m ((c.tc : Thread nD τ).loc main_arg2) : FVec Ideal S2x896x3072 .f32) : FVec Ideal S2x896x3072 .fp8e4m3) := by
      show StableHlo.after hostOps0 _ _ = _
      after_results_simp
    rw [e, H.a2]; rfl
  ks := (V_main_arg3 m c).trans H.a3
  v := (V_main_arg4 m c).trans H.a4
  lr := (V_main_arg5 m c).trans H.a5
  w1 := (V_main_arg6 m c).trans H.a6
  w3 := (V_main_arg7 m c).trans H.a7
  w2 := (V_main_arg8 m c).trans H.a8

theorem g_cast (I : In) : shapeCast S2x896x12x640 (T3 .bf16 (gF I) : FVec Ideal S2x896x7680 .bf16) shapeCasts_S2x896x7680_S2x896x12x640
    = (T4 .bf16 (gV I) : FVec Ideal S2x896x12x640 .bf16) := by
  funext i; idx_vars i
  pointwise [T3, T4]
  refine congrArg er ?_
  show gV I _ _ ((i2.val * 640 + i3.val) / 640) ((i2.val * 640 + i3.val) % 640) = gV I _ _ i2.val i3.val
  rw [show (i2.val * 640 + i3.val) / 640 = i2.val by omega, show (i2.val * 640 + i3.val) % 640 = i3.val by omega]

theorem tail_g (H : Reads m c I) :
    Pipeline.afterTail₀ cfgs (Run.dats m) 0 (V0 m) [hostOps1] c main_v3 = (T4 .bf16 (gV I) : FVec Ideal S2x896x12x640 .bf16) := by
  unfold Pipeline.afterTail₀
  show StableHlo.after hostOps1 _ _ = _
  after_results_simp
  have e : Pipeline.withArrays spec0 c (V0 m c) (fun w => (Run.dats m 0 c).arrAt w cfg0.N) (Proc.devRef .tc main_v2_1) = (T3 .bf16 (gF I) : FVec Ideal S2x896x7680 .bf16) :=
    (Pipeline.withArrays_arr spec0 (by decide) c (V0 m c) (fun w => (Run.dats m 0 c).arrAt w cfg0.N) 10).trans (g_arr H)
  refine Eq.trans ?_ (g_cast I)
  rw [← e]
  rfl

/-- The kernel's run. -/
theorem krun (m : (ℓ : Loc nD τ Cert.KernelIdeal.sig) → Buf (Elt Ideal) ℓ) (I : Dev nD → In) (H : ∀ c, Args m c (I c)) :
    θ_run (defs (F := Ideal)) (onTc (τ := τ) (main (F := Ideal))) ⟨m, fun _ => 0, ρ⟩ fun r => ∀ c : Dev nD,
      r.2.mem ((c.tc : Thread nD τ).loc main_v2_0) = (T3 .bf16 (yV (I c)) : FVec Ideal S2x896x3072 .bf16)
      ∧ r.2.mem ((c.tc : Thread nD τ).loc main_v3) = (T4 .bf16 (gV (I c)) : FVec Ideal S2x896x12x640 .bf16)
      ∧ r.2.mem ((c.tc : Thread nD τ).loc main_v2_2) = (T4 .f32 (w1V (I c)) : FVec Ideal S2x12x640x256 .f32)
      ∧ r.2.mem ((c.tc : Thread nD τ).loc main_v2_3) = (T4 .f32 (w3V (I c)) : FVec Ideal S2x12x640x256 .f32)
      ∧ r.2.mem ((c.tc : Thread nD τ).loc main_v2_4) = (T4 .f32 (w2V (I c)) : FVec Ideal S2x12x256x640 .f32)
      ∧ r.2.mem ((c.tc : Thread nD τ).loc main_v2_5) = (T4 .f32 (u1V (I c)) : FVec Ideal S2x12x640x256 .f32)
      ∧ r.2.mem ((c.tc : Thread nD τ).loc main_v2_6) = (T4 .f32 (u3V (I c)) : FVec Ideal S2x12x640x256 .f32)
      ∧ r.2.mem ((c.tc : Thread nD τ).loc main_v2_7) = (T4 .f32 (u2V (I c)) : FVec Ideal S2x12x256x640 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have R := reads (H c)
    ⟨((h.1 c).1 9).trans (y_arr R),
     ((h.1 c).2 main_v3 (Pipeline.mem_restRefs_of main_v3 (by decide) (by decide))).trans (tail_g R),
     ((h.1 c).1 11).trans (w1_arr R),
     ((h.1 c).1 12).trans (w3_arr R),
     ((h.1 c).1 13).trans (w2_arr R),
     ((h.1 c).1 14).trans (u1_arr R),
     ((h.1 c).1 15).trans (u3_arr R),
     ((h.1 c).1 16).trans (u2_arr R),
     Run.args_of m c h.1⟩) (Run.run_main m ρ)

end Cert.Lact

end
-- ==== Proof.RReal.lean ====
/-
  The reference's array operations on arrays of real matrices, one matrix for each sequence and head.
-/
module

public import proofs.«01_k».proof.Proof.Values
public import proofs.«01_k».proof.Proof.Gen.ReferenceIdeal

@[expose] public section

set_option maxRecDepth 65536

noncomputable section

namespace Cert.Lact.Ref

open Idealize.ShloMosaic Cert.ReferenceIdeal Cert.ReferenceIdeal.Gen Cert.Lact
open Matrix

/-- A matrix for each sequence and head, stored head by head. -/
def B4 {n m : ℕ} (φ : FTy) (X : Fin 2 → Fin 12 → Mat n m) : FVec Ideal ⟨4, ![2, 12, n, m]⟩ φ := fun i => er (X (i 0) (i 1) (i 2) (i 3))
/-- The same, stored row by row. -/
def C4 {n m : ℕ} (φ : FTy) (X : Fin 2 → Fin 12 → Mat n m) : FVec Ideal ⟨4, ![2, n, 12, m]⟩ φ := fun i => er (X (i 0) (i 2) (i 1) (i 3))
/-- A vector for each sequence and head, stored row by row. -/
def C3 {n : ℕ} (φ : FTy) (s : Fin 2 → Fin 12 → Fin n → ℝ) : FVec Ideal ⟨3, ![2, n, 12]⟩ φ := fun i => er (s (i 0) (i 2) (i 1))
def K4 {n : ℕ} (φ : FTy) (s : Fin 2 → Fin 12 → Fin n → ℝ) : FVec Ideal ⟨4, ![2, n, 12, 1]⟩ φ := fun i => er (s (i 0) (i 2) (i 1))

section ops
variable {n m : ℕ} {φ ψ : FTy} (X Y : Fin 2 → Fin 12 → Mat n m) (x : ℝ)

theorem truncf_B (h : ψ.bits < φ.bits) : truncf ψ (B4 φ X) h = B4 ψ X := rfl
theorem truncf_C (h : ψ.bits < φ.bits) : truncf ψ (C4 φ X) h = C4 ψ X := rfl
theorem extf_C (h : φ.bits < ψ.bits) : extf ψ (C4 φ X) h = C4 ψ X := rfl
theorem addf_B : addf (B4 φ X) (B4 φ Y) = B4 φ fun b h => X b h + Y b h := by funext i; exact (EReal.coe_add _ _).symm
theorem subf_B : subf (B4 φ X) (B4 φ Y) = B4 φ fun b h => X b h - Y b h := by funext i; exact (EReal.coe_sub _ _).symm
theorem mulf_B : mulf (B4 φ X) (B4 φ Y) = B4 φ fun b h => had (X b h) (Y b h) := by funext i; exact (EReal.coe_mul _ _).symm
theorem addf_C : addf (C4 φ X) (C4 φ Y) = C4 φ fun b h => X b h + Y b h := by funext i; exact (EReal.coe_add _ _).symm
theorem subf_C : subf (C4 φ X) (C4 φ Y) = C4 φ fun b h => X b h - Y b h := by funext i; exact (EReal.coe_sub _ _).symm
theorem mulf_C : mulf (C4 φ X) (C4 φ Y) = C4 φ fun b h => had (X b h) (Y b h) := by funext i; exact (EReal.coe_mul _ _).symm
theorem negf_K (s : Fin 2 → Fin 12 → Fin n → ℝ) : Host.negf (K4 φ s) = K4 φ fun b h i => 0 - s b h i := by
  funext i; show -(er _) = er (0 - _); rw [zero_sub]; exact (EReal.coe_neg _).symm
end ops

section dots
variable (X Y : Fin 2 → Fin 12 → Mat 256 640) (A B : Fin 2 → Fin 12 → Mat 256 256) (p : Option ContractPrecision)
theorem gram_B : Host.dotGeneral dot_S2x12x256x640_S2x12x256x640_S2x12x256x256_3_3_2_2_01_01 p (B4 .f32 X) (B4 .f32 Y)
    = (B4 .f32 fun b h => X b h * (Y b h)ᵀ : FVec Ideal S2x12x256x256 .f32) := by
  funext i; idx_vars i
  pointwise [B4]
  rw [er_mul_sum, Matrix.mul_apply]; rfl
theorem sq_B : Host.dotGeneral dot_S2x12x256x256_S2x12x256x256_S2x12x256x256_3_2_2_3_01_01 p (B4 .f32 A) (B4 .f32 B)
    = (B4 .f32 fun b h => A b h * B b h : FVec Ideal S2x12x256x256 .f32) := by
  funext i; idx_vars i
  pointwise [B4]
  rw [er_mul_sum, Matrix.mul_apply]
theorem mulR_B : Host.dotGeneral dot_S2x12x256x256_S2x12x256x640_S2x12x256x640_3_2_2_3_01_01 p (B4 .f32 A) (B4 .f32 X)
    = (B4 .f32 fun b h => A b h * X b h : FVec Ideal S2x12x256x640 .f32) := by
  funext i; idx_vars i
  pointwise [B4]
  rw [er_mul_sum, Matrix.mul_apply]
end dots

theorem bc_640 (a : BitVec 32) (x : ℝ) (h : Ideal.ofBits .f32 a = er x) :
    broadcastInDim S2x12x256x640 ![] bcast_S_S2x12x256x640 (constant (F := Ideal) S_ .f32 a) = (B4 .f32 fun _ _ => Matrix.of fun _ _ => x : FVec Ideal S2x12x256x640 .f32) := by
  funext i; exact h
theorem bc_256 (a : BitVec 32) (x : ℝ) (h : Ideal.ofBits .f32 a = er x) :
    broadcastInDim S2x12x256x256 ![] bcast_S_S2x12x256x256 (constant (F := Ideal) S_ .f32 a) = (B4 .f32 fun _ _ => Matrix.of fun _ _ => x : FVec Ideal S2x12x256x256 .f32) := by
  funext i; exact h

/-- A polynomial step. -/
theorem step_B (x : FVec Ideal S2x12x256x640 .f32) (a : FVec Ideal S2x12x256x256 .f32) (X : Fin 2 → Fin 12 → Mat 256 640)
    (hx : x = B4 .f32 X) (ha : a = Host.dotGeneral dot_S2x12x256x640_S2x12x256x640_S2x12x256x256_3_3_2_2_01_01 (some .fp32) x x) :
    addf (mulf (broadcastInDim S2x12x256x640 ![] bcast_S_S2x12x256x640 (constant S_ .f32 0x405C72B0#32)) x) (Host.dotGeneral dot_S2x12x256x256_S2x12x256x640_S2x12x256x640_3_2_2_3_01_01 (some .fp32) (addf (mulf (broadcastInDim S2x12x256x256 ![] bcast_S_S2x12x256x256 (constant S_ .f32 0xC098CCCD#32)) a) (mulf (broadcastInDim S2x12x256x256 ![] bcast_S_S2x12x256x256 (constant S_ .f32 0x40020419#32)) (Host.dotGeneral dot_S2x12x256x256_S2x12x256x256_S2x12x256x256_3_2_2_3_01_01 (some .fp32) a a))) x)
      = (B4 .f32 fun b h => nsStep (X b h) : FVec Ideal S2x12x256x640 .f32) := by
  subst ha; subst hx
  rw [gram_B, sq_B, bc_640 _ _ bits_A, bc_256 _ _ bits_B, bc_256 _ _ bits_C, mulf_B, mulf_B, mulf_B, addf_B, mulR_B, addf_B]
  rfl

theorem unit_at {n m : ℕ} (X : Mat n m) (i : Fin n) (j : Fin m) :
    Ideal.div (er (X i j)) (Ideal.sqrt (∑ x, ∑ y, er (had X X x y)) + Ideal.ofBits .f32 869711765#32) = er (unit X i j) := by
  rw [show Ideal.ofBits .f32 869711765#32 = er cE from bits_E]
  have e : (∑ x, ∑ y, er (had X X x y)) = er (∑ x, ∑ y, X x y * X x y) := by
    rw [er_sum]; exact Finset.sum_congr rfl fun k _ => (er_sum _ _).symm
  have e2 : Ideal.sqrt (er (∑ x, ∑ y, X x y * X x y)) = er (nrm X) :=
    er_sqrt (Finset.sum_nonneg fun a _ => Finset.sum_nonneg fun b _ => mul_self_nonneg (X a b))
  have h0 : nrm X + cE ≠ 0 := ne_of_gt (add_pos_of_nonneg_of_pos (Real.sqrt_nonneg _) cE_pos)
  rw [e, e2, er_add]
  refine (er_div h0).trans ?_
  show er (_ / (nrm X + cE)) = er (_ * (1 / (nrm X + cE)))
  rw [mul_one_div]

/-- A matrix over its norm. -/
theorem unit_B (x : FVec Ideal S2x12x256x640 .f32) (X : Fin 2 → Fin 12 → Mat 256 640) (hx : x = B4 .f32 X) :
    Host.divf x (broadcastInDim S2x12x256x640 ![0, 1, 2, 3] bcast_S2x12x1x1_S2x12x256x640_0_1_2_3 (addf (Host.sqrt (broadcastInDim S2x12x1x1 ![0, 1] bcast_S2x12_S2x12x1x1_0_1 (Host.reduceAdd (mulf x x) (constant S_ .f32 0x00000000#32) reducesTo_S2x12x256x640_S2x12_d2_3 h_S_))) (broadcastInDim S2x12x1x1 ![] bcast_S_S2x12x1x1 (constant S_ .f32 0x33D6BF95#32))))
      = (B4 .f32 fun b h => unit (X b h) : FVec Ideal S2x12x256x640 .f32) := by
  subst hx
  rw [mulf_B]
  funext i; idx_vars i
  pointwise [B4]
  exact unit_at _ _ _

/-- The rows of a weight over their norms, times given norms. -/
def reN {n m : ℕ} (N : Fin n → ℝ) (Z : Mat n m) : Mat n m := Matrix.of fun i j => Z i j / (Real.sqrt (∑ k, Z i k * Z i k) + cR) * N i
/-- A vector for each head. -/
def N2 {n : ℕ} (s : Fin 12 → Fin n → ℝ) : FVec Ideal ⟨2, ![12, n]⟩ .f32 := fun i => er (s (i 0) (i 1))

theorem reN_at {n m : ℕ} (N : Fin n → ℝ) (Z : Mat n m) (i : Fin n) (j : Fin m) :
    Ideal.div (er (Z i j)) (Ideal.sqrt (∑ k, er (had Z Z i k)) + Ideal.ofBits .f32 925353388#32) * er (N i) = er (reN N Z i j) := by
  rw [show Ideal.ofBits .f32 925353388#32 = er cR from bits_R]
  have e : (∑ k, er (had Z Z i k)) = er (∑ k, Z i k * Z i k) := (er_sum _ _).symm
  rw [e, er_sqrt (Finset.sum_nonneg fun a _ => mul_self_nonneg _), er_add,
    er_div (ne_of_gt (add_pos_of_nonneg_of_pos (Real.sqrt_nonneg _) cR_pos)), er_mul]
  rfl

theorem re_640 (d : FVec Ideal S2x12x640x256 .f32) (v : FVec Ideal S12x640 .f32) (Z : Fin 2 → Fin 12 → Mat 640 256) (N : Fin 12 → Fin 640 → ℝ)
    (hd : d = B4 .f32 Z) (hv : v = N2 N) :
    mulf (Host.divf d (broadcastInDim S2x12x640x256 ![0, 1, 2, 3] bcast_S2x12x640x1_S2x12x640x256_0_1_2_3 (addf (Host.sqrt (broadcastInDim S2x12x640x1 ![0, 1, 2] bcast_S2x12x640_S2x12x640x1_0_1_2 (Host.reduceAdd (mulf d d) (constant S_ .f32 0x00000000#32) reducesTo_S2x12x640x256_S2x12x640_d3 h_S_))) (broadcastInDim S2x12x640x1 ![] bcast_S_S2x12x640x1 (constant S_ .f32 0x3727C5AC#32))))) (broadcastInDim S2x12x640x256 ![0, 1, 2, 3] bcast_S1x12x640x1_S2x12x640x256_0_1_2_3 (broadcastInDim S1x12x640x1 ![1, 2, 3] bcast_S12x640x1_S1x12x640x1_1_2_3 (broadcastInDim S12x640x1 ![0, 1] bcast_S12x640_S12x640x1_0_1 v)))
      = (B4 .f32 fun b h => reN (N h) (Z b h) : FVec Ideal S2x12x640x256 .f32) := by
  subst hd; subst hv
  rw [mulf_B]
  funext i; idx_vars i
  pointwise [B4, N2]
  exact reN_at _ _ _ _

theorem re_256 (d : FVec Ideal S2x12x256x640 .f32) (v : FVec Ideal S12x256 .f32) (Z : Fin 2 → Fin 12 → Mat 256 640) (N : Fin 12 → Fin 256 → ℝ)
    (hd : d = B4 .f32 Z) (hv : v = N2 N) :
    mulf (Host.divf d (broadcastInDim S2x12x256x640 ![0, 1, 2, 3] bcast_S2x12x256x1_S2x12x256x640_0_1_2_3 (addf (Host.sqrt (broadcastInDim S2x12x256x1 ![0, 1, 2] bcast_S2x12x256_S2x12x256x1_0_1_2 (Host.reduceAdd (mulf d d) (constant S_ .f32 0x00000000#32) reducesTo_S2x12x256x640_S2x12x256_d3 h_S_))) (broadcastInDim S2x12x256x1 ![] bcast_S_S2x12x256x1 (constant S_ .f32 0x3727C5AC#32))))) (broadcastInDim S2x12x256x640 ![0, 1, 2, 3] bcast_S1x12x256x1_S2x12x256x640_0_1_2_3 (broadcastInDim S1x12x256x1 ![1, 2, 3] bcast_S12x256x1_S1x12x256x1_1_2_3 (broadcastInDim S12x256x1 ![0, 1] bcast_S12x256_S12x256x1_0_1 v)))
      = (B4 .f32 fun b h => reN (N h) (Z b h) : FVec Ideal S2x12x256x640 .f32) := by
  subst hd; subst hv
  rw [mulf_B]
  funext i; idx_vars i
  pointwise [B4, N2]
  exact reN_at _ _ _ _

section chunk
variable (p : Option ContractPrecision)

/-- Keys or queries times a weight, laid out row by row. -/
theorem up_B (w : Fin 2 → Fin 12 → Mat 640 256) (k : Fin 2 → Fin 12 → Mat 384 256) :
    transpose S2x384x12x640 [0, 3, 1, 2] (Host.dotGeneral dot_S2x12x640x256_S2x384x12x256_S2x12x640x384_3_3_2_1_01_02 p (B4 .bf16 w) (C4 .bf16 k)) transposes_S2x12x640x384_S2x384x12x640_0_3_1_2
      = (C4 .f32 fun b h => k b h * (w b h)ᵀ : FVec Ideal S2x384x12x640 .f32) := by
  funext i; idx_vars i
  pointwise [B4, C4]
  rw [er_mul_sum, Matrix.mul_apply]
  exact congrArg er (Finset.sum_congr rfl fun _ _ => mul_comm _ _)

/-- Values times a weight. -/
theorem down_B (w : Fin 2 → Fin 12 → Mat 256 640) (v : Fin 2 → Fin 12 → Mat 384 256) :
    transpose S2x384x12x640 [0, 3, 1, 2] (Host.dotGeneral dot_S2x12x256x640_S2x384x12x256_S2x12x640x384_2_3_3_1_01_02 p (B4 .bf16 w) (C4 .bf16 v)) transposes_S2x12x640x384_S2x384x12x640_0_3_1_2
      = (C4 .f32 fun b h => v b h * w b h : FVec Ideal S2x384x12x640 .f32) := by
  funext i; idx_vars i
  pointwise [B4, C4]
  rw [er_mul_sum, Matrix.mul_apply]
  exact congrArg er (Finset.sum_congr rfl fun _ _ => mul_comm _ _)

/-- Gates times a weight's transpose. -/
theorem out_B (w : Fin 2 → Fin 12 → Mat 256 640) (a : Fin 2 → Fin 12 → Mat 384 640) :
    transpose S2x384x12x256 [0, 3, 1, 2] (Host.dotGeneral dot_S2x12x256x640_S2x384x12x640_S2x12x256x384_3_3_2_1_01_02 p (B4 .bf16 w) (C4 .bf16 a)) transposes_S2x12x256x384_S2x384x12x256_0_3_1_2
      = (C4 .f32 fun b h => a b h * (w b h)ᵀ : FVec Ideal S2x384x12x256 .f32) := by
  funext i; idx_vars i
  pointwise [B4, C4]
  rw [er_mul_sum, Matrix.mul_apply]
  exact congrArg er (Finset.sum_congr rfl fun _ _ => mul_comm _ _)

/-- Gradients of the weights over their rows. -/
theorem grad_B (d : Fin 2 → Fin 12 → Mat 384 640) (k : Fin 2 → Fin 12 → Mat 384 256) :
    transpose S2x12x256x640 [0, 1, 3, 2] (Host.dotGeneral dot_S2x384x12x640_S2x384x12x256_S2x12x640x256_1_1_3_3_02_02 p (C4 .bf16 d) (C4 .bf16 k)) transposes_S2x12x640x256_S2x12x256x640_0_1_3_2
      = (B4 .f32 fun b h => (k b h)ᵀ * d b h : FVec Ideal S2x12x256x640 .f32) := by
  funext i; idx_vars i
  pointwise [B4, C4]
  rw [er_mul_sum, Matrix.mul_apply]
  exact congrArg er (Finset.sum_congr rfl fun _ _ => mul_comm _ _)
theorem grad2_B (v : Fin 2 → Fin 12 → Mat 384 256) (g : Fin 2 → Fin 12 → Mat 384 640) :
    Host.dotGeneral dot_S2x384x12x256_S2x384x12x640_S2x12x256x640_1_1_3_3_02_02 p (C4 .bf16 v) (C4 .bf16 g)
      = (B4 .f32 fun b h => (v b h)ᵀ * g b h : FVec Ideal S2x12x256x640 .f32) := by
  funext i; idx_vars i
  pointwise [B4, C4]
  rw [er_mul_sum, Matrix.mul_apply]; rfl

theorem tr_B (X : Fin 2 → Fin 12 → Mat 256 640) :
    transpose S2x12x640x256 [0, 1, 3, 2] (B4 .f32 X) transposes_S2x12x256x640_S2x12x640x256_0_1_3_2
      = (B4 .f32 fun b h => (X b h)ᵀ : FVec Ideal S2x12x640x256 .f32) := by
  funext i; idx_vars i
  pointwise [B4]; rfl

/-- A column along the rows. -/
theorem col_640 (φ : FTy) (s : Fin 2 → Fin 12 → Fin 384 → ℝ) :
    broadcastInDim S2x384x12x640 ![0, 1, 2, 3] bcast_S2x384x12x1_S2x384x12x640_0_1_2_3 (K4 φ s)
      = (C4 φ fun b h => Matrix.of fun i _ => s b h i : FVec Ideal S2x384x12x640 φ) := by
  funext i; idx_vars i
  pointwise [C4, K4]; rfl
theorem col_256 (φ : FTy) (s : Fin 2 → Fin 12 → Fin 384 → ℝ) :
    broadcastInDim S2x384x12x256 ![0, 1, 2, 3] bcast_S2x384x12x1_S2x384x12x256_0_1_2_3 (K4 φ s)
      = (C4 φ fun b h => Matrix.of fun i _ => s b h i : FVec Ideal S2x384x12x256 φ) := by
  funext i; idx_vars i
  pointwise [C4, K4]; rfl
theorem col_K (φ : FTy) (s : Fin 2 → Fin 12 → Fin 384 → ℝ) :
    broadcastInDim S2x384x12x1 ![0, 1, 2] bcast_S2x384x12_S2x384x12x1_0_1_2 (C3 φ s) = (K4 φ s : FVec Ideal S2x384x12x1 φ) := by
  funext i; idx_vars i
  pointwise [C3, K4]

theorem one_C : broadcastInDim S2x384x12x640 ![] bcast_S_S2x384x12x640 (constant (F := Ideal) S_ .f32 0x3F800000#32)
    = (C4 .f32 fun _ _ => one : FVec Ideal S2x384x12x640 .f32) := by
  funext i; exact bits_1

/-- The logistic function. -/
theorem sig_C (x : FVec Ideal S2x384x12x640 .f32) (X : Fin 2 → Fin 12 → Mat 384 640) (hx : x = C4 .f32 X) :
    Host.divf (broadcastInDim S2x384x12x640 ![] bcast_S_S2x384x12x640 (constant S_ .f32 0x3F800000#32)) (addf (broadcastInDim S2x384x12x640 ![] bcast_S_S2x384x12x640 (constant S_ .f32 0x3F800000#32)) (Host.exp (Host.negf x)))
      = (C4 .f32 fun b h => sig (X b h) : FVec Ideal S2x384x12x640 .f32) := by
  subst hx
  funext i
  show Ideal.div (Ideal.ofBits .f32 0x3F800000#32) (Ideal.ofBits .f32 0x3F800000#32 + Ideal.exp (-(er _))) = er (1 / (1 + Real.exp (0 - _)))
  rw [bits_1, ← EReal.coe_neg]
  show Ideal.div _ (_ + er (Real.exp _)) = _
  rw [er_add, er_div (ne_of_gt (add_pos_of_pos_of_nonneg one_pos (Real.exp_nonneg _))), zero_sub]
end chunk

end Cert.Lact.Ref

end
-- ==== Proof.RStack.lean ====
/-
  Reading a chunk out of a stack of three and writing one into it.
-/
module

public import proofs.«01_k».proof.Proof.RReal
public import Idealize.ShloMosaic.Lib.DynamicIndex
public import Idealize.ShloMosaic.Lib.WordCmp

@[expose] public section

set_option maxRecDepth 65536

noncomputable section

namespace Cert.Lact.Ref

open Idealize.ShloMosaic Cert.ReferenceIdeal Cert.ReferenceIdeal.Gen Cert.Lact
open Matrix

/-- A stack of chunks of matrices, and one of vectors. -/
def S5 {n m : ℕ} (φ : FTy) (X : ℕ → Fin 2 → Fin 12 → Mat n m) : FVec Ideal ⟨5, ![3, 2, n, 12, m]⟩ φ :=
  fun i => er (X (i 0).val (i 1) (i 3) (i 2) (i 4))
def S4 {n : ℕ} (φ : FTy) (s : ℕ → Fin 2 → Fin 12 → Fin n → ℝ) : FVec Ideal ⟨4, ![3, 2, n, 12]⟩ φ :=
  fun i => er (s (i 0).val (i 1) (i 3) (i 2))

/-- The loop's counter. -/
abbrev cnt (j : ℕ) : IVec S_ 32 := constantI S_ 32 (BitVec.ofNat 32 j)

theorem start5 (j : ℕ) (hj : j < 3) (k : Fin 5) :
    ((((![cnt j, constantI S_ 32 0#32, constantI S_ 32 0#32, constantI S_ 32 0#32, constantI S_ 32 0#32] : Fin 5 → (⟨S_, .i32⟩ : BufTy).Contents (Elt Ideal))) k (Shape.Idx.first h_S_)).toInt)
      = ((![j, 0, 0, 0, 0] : Fin 5 → ℕ) k : Int) := by
  interval_cases j <;> fin_cases k <;> rfl
theorem start4 (j : ℕ) (hj : j < 3) (k : Fin 4) :
    ((((![cnt j, constantI S_ 32 0#32, constantI S_ 32 0#32, constantI S_ 32 0#32] : Fin 4 → (⟨S_, .i32⟩ : BufTy).Contents (Elt Ideal))) k (Shape.Idx.first h_S_)).toInt)
      = ((![j, 0, 0, 0] : Fin 4 → ℕ) k : Int) := by
  interval_cases j <;> fin_cases k <;> rfl

theorem slice5 (φ : FTy) (X : ℕ → Fin 2 → Fin 12 → Mat 384 256) (j : ℕ) (hj : j < 3) :
    shapeCast S2x384x12x256 (Host.dynamicSlice S1x2x384x12x256 (S5 φ X : FVec Ideal S3x2x384x12x256 φ) (fun k => (((![cnt j, constantI S_ 32 0#32, constantI S_ 32 0#32, constantI S_ 32 0#32, constantI S_ 32 0#32] : Fin 5 → (⟨S_, .i32⟩ : BufTy).Contents (Elt Ideal))) k (Shape.Idx.first h_S_)).toInt) sliceFits_S3x2x384x12x256_S1x2x384x12x256) shapeCasts_S1x2x384x12x256_S2x384x12x256
      = C4 φ (X j) := by
  have hoff : S3x2x384x12x256.Slices (![j, 0, 0, 0, 0] : Fin 5 → ℕ) S1x2x384x12x256 := by
    interval_cases j <;> decide
  rw [Host.dynamicSlice_eq_extractStridedSlice _ _ _ ![j, 0, 0, 0, 0] _ hoff (start5 j hj)]
  funext i; idx_vars i
  pointwise [S5, C4]

theorem slice4 (φ : FTy) (X : ℕ → Fin 2 → Fin 12 → Fin 384 → ℝ) (j : ℕ) (hj : j < 3) :
    shapeCast S2x384x12 (Host.dynamicSlice S1x2x384x12 (S4 φ X : FVec Ideal S3x2x384x12 φ) (fun k => (((![cnt j, constantI S_ 32 0#32, constantI S_ 32 0#32, constantI S_ 32 0#32] : Fin 4 → (⟨S_, .i32⟩ : BufTy).Contents (Elt Ideal))) k (Shape.Idx.first h_S_)).toInt) sliceFits_S3x2x384x12_S1x2x384x12) shapeCasts_S1x2x384x12_S2x384x12
      = C3 φ (X j) := by
  have hoff : S3x2x384x12.Slices (![j, 0, 0, 0] : Fin 4 → ℕ) S1x2x384x12 := by
    interval_cases j <;> decide
  rw [Host.dynamicSlice_eq_extractStridedSlice _ _ _ ![j, 0, 0, 0] _ hoff (start4 j hj)]
  funext i; idx_vars i
  pointwise [S4, C3]

/-- The stack's first entries are given. -/
def Stk {α : Type} {a b c d : ℕ} (j : ℕ) (x : (⟨5, ![3, a, b, c, d]⟩ : Shape).Idx → α) (Y : ℕ → (⟨4, ![a, b, c, d]⟩ : Shape).Idx → α) : Prop :=
  ∀ i, (i 0).val < j → x i = Y (i 0).val (fun k : Fin 4 => (i k.succ : Fin (![a, b, c, d] k)))

theorem stk_step {α : Type} {a b c d : ℕ} {j : ℕ} (hj : j < 3) {x : (⟨5, ![3, a, b, c, d]⟩ : Shape).Idx → α} {Y : ℕ → (⟨4, ![a, b, c, d]⟩ : Shape).Idx → α}
    (H : Stk j x Y) (upd : (⟨5, ![1, a, b, c, d]⟩ : Shape).Idx → α) (hu : ∀ i, upd i = Y j (fun k : Fin 4 => (i k.succ : Fin (![a, b, c, d] k))))
    (h : (⟨5, ![3, a, b, c, d]⟩ : Shape).Slices (fun _ => 0) ⟨5, ![1, a, b, c, d]⟩) :
    Stk (j + 1) (Host.dynamicUpdateSlice x upd (fun k => (((![cnt j, constantI S_ 32 0#32, constantI S_ 32 0#32, constantI S_ 32 0#32, constantI S_ 32 0#32] : Fin 5 → (⟨S_, .i32⟩ : BufTy).Contents (Elt Ideal))) k (Shape.Idx.first h_S_)).toInt) h) Y := by
  intro i hi
  have hk : (⟨5, ![3, a, b, c, d]⟩ : Shape).Slices (![j, 0, 0, 0, 0] : Fin 5 → ℕ) ⟨5, ![1, a, b, c, d]⟩ := by
    refine ⟨rfl, fun k => ?_⟩
    fin_cases k
    · show j + 1 ≤ 3; omega
    · exact (Nat.zero_add _).le
    · exact (Nat.zero_add _).le
    · exact (Nat.zero_add _).le
    · exact (Nat.zero_add _).le
  rw [Idealize.ShloMosaic.WordCmp.dynamicUpdateSlice_eq_update _ _ _ _ ![j, 0, 0, 0, 0] hk (start5 j hj)]
  unfold updateSlice
  by_cases e : (i 0).val = j
  · have hin : ∀ t : Fin 5, (![j, 0, 0, 0, 0] : Fin 5 → ℕ) t ≤ (i t).val ∧ (i t).val < (![j, 0, 0, 0, 0] : Fin 5 → ℕ) t + (![1, a, b, c, d] : Fin 5 → ℕ) t := by
      intro t
      fin_cases t
      · show j ≤ (i 0).val ∧ (i 0).val < j + 1; omega
      · exact ⟨Nat.zero_le _, (i 1).isLt.trans_eq (Nat.zero_add _).symm⟩
      · exact ⟨Nat.zero_le _, (i 2).isLt.trans_eq (Nat.zero_add _).symm⟩
      · exact ⟨Nat.zero_le _, (i 3).isLt.trans_eq (Nat.zero_add _).symm⟩
      · exact ⟨Nat.zero_le _, (i 4).isLt.trans_eq (Nat.zero_add _).symm⟩
    refine (dif_pos hin).trans ?_
    rw [hu, e]
    congr 1
    funext k
    fin_cases k <;> exact Fin.ext (Nat.sub_zero _)
  · refine (dif_neg fun hin => ?_).trans (H i (by omega))
    have := (hin 0).1
    have : j ≤ (i 0).val := this
    omega

end Cert.Lact.Ref

end
-- ==== Proof.RVal.lean ====
/-
  What one trip of the reference's loop computes, on arrays of real matrices.
-/
module

public import proofs.«01_k».proof.Proof.RStack
public import proofs.«01_k».proof.Proof.Gen.ReferenceIdeal.Run

@[expose] public section

set_option maxRecDepth 65536

noncomputable section

namespace Cert.Lact.Ref

open Idealize.ShloMosaic Cert.ReferenceIdeal Cert.ReferenceIdeal.Gen Cert.ReferenceIdeal.Value Cert.Lact
open Matrix

variable (I : In)

/-- The chunks, the weights before them and the weights a sequence starts from. -/
abbrev cj (j : ℕ) (b : Fin 2) (h : Fin 12) : Chunk := chk I b h j
abbrev wj (j : ℕ) (b : Fin 2) (h : Fin 12) : W := wn I b h j
abbrev oj (h : Fin 12) : W := w0 I h

/-- The scales with ones past the sequence's end. -/
def ksR (j : ℕ) (b : Fin 2) (h : Fin 12) (r : Fin 384) : ℝ := if 384 * j + r.val < 896 then I.KS b (384 * j + r.val) h else 1
def qsR (j : ℕ) (b : Fin 2) (h : Fin 12) (r : Fin 384) : ℝ := if 384 * j + r.val < 896 then I.QS b (384 * j + r.val) h else 1

section pad
variable {n : ℕ} (j : ℕ) (b : Fin 2) (h : Fin 12) (w : Mat 256 n)

theorem sc_k : sc ((cj I j b h).k * w) (ksR I j b h) = sc ((cj I j b h).k * w) (cj I j b h).ks := by
  ext r f
  show (_ * _ : ℝ) = _ * _
  by_cases hr : 384 * j + r.val < 896
  · exact congrArg _ ((if_pos hr).trans (if_pos hr).symm)
  · have e : ((cj I j b h).k * w) r f = 0 := by
      rw [Matrix.mul_apply]
      refine Finset.sum_eq_zero fun x _ => ?_
      rw [show (cj I j b h).k r x = 0 from if_neg hr, zero_mul]
    rw [e, zero_mul, zero_mul]
theorem sc_q : sc ((cj I j b h).q * w) (qsR I j b h) = sc ((cj I j b h).q * w) (cj I j b h).qs := by
  ext r f
  show (_ * _ : ℝ) = _ * _
  by_cases hr : 384 * j + r.val < 896
  · exact congrArg _ ((if_pos hr).trans (if_pos hr).symm)
  · have e : ((cj I j b h).q * w) r f = 0 := by
      rw [Matrix.mul_apply]
      refine Finset.sum_eq_zero fun x _ => ?_
      rw [show (cj I j b h).q r x = 0 from if_neg hr, zero_mul]
    rw [e, zero_mul, zero_mul]
theorem sc_kq : sc (cj I j b h).k (ksR I j b h) = kq (cj I j b h) := by
  ext r f
  show (_ * _ : ℝ) = _ * _
  by_cases hr : 384 * j + r.val < 896
  · exact congrArg _ ((if_pos hr).trans (if_pos hr).symm)
  · rw [show (cj I j b h).k r f = 0 from if_neg hr, zero_mul, zero_mul]
end pad

theorem had_col {n m : ℕ} (A : Mat n m) (s : Fin n → ℝ) : had A (Matrix.of fun i _ => s i) = sc A s := rfl
theorem col_had {n m : ℕ} (A : Mat n m) (s : Fin n → ℝ) : had (Matrix.of fun i _ => s i) A = sc A s := by
  ext i j; exact mul_comm _ _

theorem reN_tr (N : Fin 640 → ℝ) (Z : Mat 256 640) : reN N Zᵀ = (reC N Z)ᵀ := by
  ext i j
  show Z j i / (_ + cR) * N i = Z j i * (N i / (_ + cR))
  rw [div_mul_eq_mul_div, mul_div_assoc]; rfl
theorem reN_R (N : Fin 256 → ℝ) (Z : Mat 256 640) : reN N Z = reR N Z := by
  ext i j
  show Z i j / (_ + cR) * N i = Z i j * (N i / (_ + cR))
  rw [div_mul_eq_mul_div, mul_div_assoc]; rfl

/-- What the loop's arrays hold before trip `j`. -/
structure Holds (V : Valuation τ Cert.ReferenceIdeal.sig (Elt Ideal)) (j : ℕ) : Prop where
  n : V (Proc.devRef .tc main_v41_9) = cnt j
  f0 : V (Proc.devRef .tc main_v41_0) = (S5 .bf16 fun j b h => (cj I j b h).q : FVec Ideal S3x2x384x12x256 .bf16)
  f1 : V (Proc.devRef .tc main_v41_1) = (S4 .f32 (qsR I) : FVec Ideal S3x2x384x12 .f32)
  f2 : V (Proc.devRef .tc main_v41_2) = (S5 .bf16 fun j b h => (cj I j b h).k : FVec Ideal S3x2x384x12x256 .bf16)
  f3 : V (Proc.devRef .tc main_v41_3) = (S4 .f32 (ksR I) : FVec Ideal S3x2x384x12 .f32)
  f4 : V (Proc.devRef .tc main_v41_4) = (S5 .bf16 fun j b h => (cj I j b h).v : FVec Ideal S3x2x384x12x256 .bf16)
  f5 : V (Proc.devRef .tc main_v41_5) = (S4 .f32 fun j b h => (cj I j b h).lr : FVec Ideal S3x2x384x12 .f32)
  f6 : V (Proc.devRef .tc main_v41_6) = (N2 fun h => colN (oj I h).w1 : FVec Ideal S12x640 .f32)
  f7 : V (Proc.devRef .tc main_v41_7) = (N2 fun h => colN (oj I h).w3 : FVec Ideal S12x640 .f32)
  f8 : V (Proc.devRef .tc main_v41_8) = (N2 fun h => rowN (oj I h).w2 : FVec Ideal S12x256 .f32)
  f10 : V (Proc.devRef .tc main_v41_10) = (B4 .f32 fun b h => (wj I j b h).w1ᵀ : FVec Ideal S2x12x640x256 .f32)
  f11 : V (Proc.devRef .tc main_v41_11) = (B4 .f32 fun b h => (wj I j b h).w3ᵀ : FVec Ideal S2x12x640x256 .f32)
  f12 : V (Proc.devRef .tc main_v41_12) = (B4 .f32 fun b h => (wj I j b h).w2 : FVec Ideal S2x12x256x640 .f32)
  f13 : Stk j (V (Proc.devRef .tc main_v41_13) : FVec Ideal S3x2x384x12x256 .f32)
    fun j => (C4 .f32 fun b h => yo (cj I j b h) (wj I (j + 1) b h) : FVec Ideal S2x384x12x256 .f32)
  f14 : Stk j (V (Proc.devRef .tc main_v41_14) : FVec Ideal S3x2x384x12x640 .bf16)
    fun j => (C4 .bf16 fun b h => gk (cj I j b h) (wj I j b h) : FVec Ideal S2x384x12x640 .bf16)
  f15 : Stk j (V (Proc.devRef .tc main_v41_15) : FVec Ideal S3x2x12x640x256 .f32)
    fun j => (B4 .f32 fun b h => (us (cj I j b h) (wj I j b h)).w1ᵀ : FVec Ideal S2x12x640x256 .f32)
  f16 : Stk j (V (Proc.devRef .tc main_v41_16) : FVec Ideal S3x2x12x640x256 .f32)
    fun j => (B4 .f32 fun b h => (us (cj I j b h) (wj I j b h)).w3ᵀ : FVec Ideal S2x12x640x256 .f32)
  f17 : Stk j (V (Proc.devRef .tc main_v41_17) : FVec Ideal S3x2x12x256x640 .f32)
    fun j => (B4 .f32 fun b h => (us (cj I j b h) (wj I j b h)).w2 : FVec Ideal S2x12x256x640 .f32)

variable {I} {V : Valuation τ Cert.ReferenceIdeal.sig (Elt Ideal)} {j : ℕ} (H : Holds I V j) (hj : j < 3)
include H hj

theorem v55 : res_main_while0b_v55 V = (C4 .bf16 fun b h => (cj I j b h).q : FVec Ideal S2x384x12x256 .bf16) := by
  unfold res_main_while0b_v55; rw [H.f0, H.n]; exact slice5 _ _ j hj
theorem v57 : res_main_while0b_v57 V = (C4 .bf16 fun b h => (cj I j b h).k : FVec Ideal S2x384x12x256 .bf16) := by
  unfold res_main_while0b_v57; rw [H.f2, H.n]; exact slice5 _ _ j hj
theorem v59 : res_main_while0b_v59 V = (C4 .bf16 fun b h => (cj I j b h).v : FVec Ideal S2x384x12x256 .bf16) := by
  unfold res_main_while0b_v59; rw [H.f4, H.n]; exact slice5 _ _ j hj
theorem v58 : res_main_while0b_v58 V = (C3 .f32 (ksR I j) : FVec Ideal S2x384x12 .f32) := by
  unfold res_main_while0b_v58; rw [H.f3, H.n]; exact slice4 _ _ j hj
theorem v64 : res_main_while0b_v64 V = (K4 .f32 (ksR I j) : FVec Ideal S2x384x12x1 .f32) := by
  unfold res_main_while0b_v64; rw [v58 H hj]; exact col_K _ _
theorem v346 : res_main_while0b_v346 V = (K4 .f32 (qsR I j) : FVec Ideal S2x384x12x1 .f32) := by
  unfold res_main_while0b_v346; rw [H.f1, H.n]
  exact (congrArg _ (slice4 .f32 (qsR I) j hj)).trans (col_K _ _)
theorem v82 : res_main_while0b_v82 V = (K4 .f32 fun b h => (cj I j b h).lr : FVec Ideal S2x384x12x1 .f32) := by
  unfold res_main_while0b_v82; rw [H.f5, H.n]
  exact (congrArg _ (slice4 .f32 (fun j b h => (cj I j b h).lr) j hj)).trans (col_K _ _)

theorem v68 : res_main_while0b_v68 V = (C4 .f32 fun b h => h1 (cj I j b h) (wj I j b h) : FVec Ideal S2x384x12x640 .f32) := by
  unfold res_main_while0b_v68
  rw [H.f10, v57 H hj, v64 H hj, truncf_B, up_B, col_640, mulf_C]
  congr 1; funext b h
  rw [had_col, Matrix.transpose_transpose]
  exact sc_k I j b h _
theorem v72 : res_main_while0b_v72 V = (C4 .f32 fun b h => h3 (cj I j b h) (wj I j b h) : FVec Ideal S2x384x12x640 .f32) := by
  unfold res_main_while0b_v72
  rw [H.f11, v57 H hj, v64 H hj, truncf_B, up_B, col_640, mulf_C]
  congr 1; funext b h
  rw [had_col, Matrix.transpose_transpose]
  exact sc_k I j b h _
theorem v78 : res_main_while0b_v78 V = (C4 .f32 fun b h => Lact.sig (h1 (cj I j b h) (wj I j b h)) : FVec Ideal S2x384x12x640 .f32) := by
  unfold res_main_while0b_v78
  exact sig_C _ _ (v68 H hj)
theorem v79 : res_main_while0b_v79 V = (C4 .f32 fun b h => act1 (cj I j b h) (wj I j b h) : FVec Ideal S2x384x12x640 .f32) := by
  unfold res_main_while0b_v79
  rw [v68 H hj, v78 H hj, mulf_C]; rfl
theorem v81 : res_main_while0b_v81 V = (C4 .bf16 fun b h => gk (cj I j b h) (wj I j b h) : FVec Ideal S2x384x12x640 .bf16) := by
  unfold res_main_while0b_v81
  rw [v79 H hj, v72 H hj, mulf_C, truncf_C]; rfl
theorem v91 : res_main_while0b_v91 V = (C4 .f32 fun b h => dg (cj I j b h) (wj I j b h) : FVec Ideal S2x384x12x640 .f32) := by
  unfold res_main_while0b_v91
  rw [H.f12, v59 H hj, v82 H hj, negf_K, truncf_B, down_B, col_640, mulf_C]
  congr 1; funext b h
  exact col_had _ _
theorem v104 : res_main_while0b_v104 V = (C4 .bf16 fun b h => kq (cj I j b h) : FVec Ideal S2x384x12x256 .bf16) := by
  unfold res_main_while0b_v104
  rw [v57 H hj, v58 H hj, show truncf (F := Ideal) .bf16 (C3 .f32 (ksR I j) : FVec Ideal S2x384x12 .f32) bitsLt_bf16_f32 = C3 .bf16 (ksR I j) from rfl,
    col_K, col_256, mulf_C]
  congr 1; funext b h
  rw [had_col]; exact sc_kq I j b h
theorem v106 : res_main_while0b_v106 V = (B4 .f32 fun b h => g2 (cj I j b h) (wj I j b h) : FVec Ideal S2x12x256x640 .f32) := by
  unfold res_main_while0b_v106
  rw [v59 H hj, v82 H hj, v81 H hj, negf_K, col_256, extf_C, mulf_C, truncf_C, grad2_B]
  congr 1; funext b h
  rw [col_had]; rfl
theorem v111 : res_main_while0b_v111 V = (B4 .f32 fun b h => g1 (cj I j b h) (wj I j b h) : FVec Ideal S2x12x256x640 .f32) := by
  unfold res_main_while0b_v111
  rw [v91 H hj, v72 H hj, v78 H hj, v68 H hj, v104 H hj, one_C, mulf_C, mulf_C, subf_C, mulf_C, addf_C, mulf_C, truncf_C, grad_B]
  rfl
theorem v176 : res_main_while0b_v176 V = (B4 .f32 fun b h => g3 (cj I j b h) (wj I j b h) : FVec Ideal S2x12x256x640 .f32) := by
  unfold res_main_while0b_v176
  rw [v91 H hj, v79 H hj, v104 H hj, mulf_C, truncf_C, grad_B]
  rfl

theorem v175 : res_main_while0b_v175 V = (B4 .f32 fun b h => (us (cj I j b h) (wj I j b h)).w1ᵀ : FVec Ideal S2x12x640x256 .f32) := by
  have e119 : res_main_while0b_v119 V = _ := unit_B _ _ (v111 H hj)
  have e130 : res_main_while0b_v130 V = _ := step_B _ (res_main_while0b_v120 V) _ e119 rfl
  have e141 : res_main_while0b_v141 V = _ := step_B _ (res_main_while0b_v131 V) _ e130 rfl
  have e152 : res_main_while0b_v152 V = _ := step_B _ (res_main_while0b_v142 V) _ e141 rfl
  have e163 : res_main_while0b_v163 V = _ := step_B _ (res_main_while0b_v153 V) _ e152 rfl
  have e174 := step_B _ (res_main_while0b_v164 V) _ e163 rfl
  exact (congrArg (fun x => transpose S2x12x640x256 [0, 1, 3, 2] x transposes_S2x12x256x640_S2x12x640x256_0_1_3_2) e174).trans (tr_B _)
theorem v240 : res_main_while0b_v240 V = (B4 .f32 fun b h => (us (cj I j b h) (wj I j b h)).w3ᵀ : FVec Ideal S2x12x640x256 .f32) := by
  have e184 : res_main_while0b_v184 V = _ := unit_B _ _ (v176 H hj)
  have e195 : res_main_while0b_v195 V = _ := step_B _ (res_main_while0b_v185 V) _ e184 rfl
  have e206 : res_main_while0b_v206 V = _ := step_B _ (res_main_while0b_v196 V) _ e195 rfl
  have e217 : res_main_while0b_v217 V = _ := step_B _ (res_main_while0b_v207 V) _ e206 rfl
  have e228 : res_main_while0b_v228 V = _ := step_B _ (res_main_while0b_v218 V) _ e217 rfl
  have e239 := step_B _ (res_main_while0b_v229 V) _ e228 rfl
  exact (congrArg (fun x => transpose S2x12x640x256 [0, 1, 3, 2] x transposes_S2x12x256x640_S2x12x640x256_0_1_3_2) e239).trans (tr_B _)
theorem v303 : res_main_while0b_v303 V = (B4 .f32 fun b h => (us (cj I j b h) (wj I j b h)).w2 : FVec Ideal S2x12x256x640 .f32) := by
  have e248 : res_main_while0b_v248 V = _ := unit_B _ _ (v106 H hj)
  have e259 : res_main_while0b_v259 V = _ := step_B _ (res_main_while0b_v249 V) _ e248 rfl
  have e270 : res_main_while0b_v270 V = _ := step_B _ (res_main_while0b_v260 V) _ e259 rfl
  have e281 : res_main_while0b_v281 V = _ := step_B _ (res_main_while0b_v271 V) _ e270 rfl
  have e292 : res_main_while0b_v292 V = _ := step_B _ (res_main_while0b_v282 V) _ e281 rfl
  exact step_B _ (res_main_while0b_v293 V) _ e292 rfl

theorem v316 : res_main_while0b_v316 V = (B4 .f32 fun b h => (wj I (j + 1) b h).w1ᵀ : FVec Ideal S2x12x640x256 .f32) := by
  have e : res_main_while0b_v304 V = (B4 .f32 fun b h => ((wj I j b h).w1 - (us (cj I j b h) (wj I j b h)).w1)ᵀ : FVec Ideal S2x12x640x256 .f32) := by
    unfold res_main_while0b_v304
    rw [H.f10, v175 H hj, subf_B]; rfl
  unfold res_main_while0b_v316
  refine (re_640 _ _ _ _ e H.f6).trans ?_
  congr 1; funext b h
  exact reN_tr _ _
theorem v329 : res_main_while0b_v329 V = (B4 .f32 fun b h => (wj I (j + 1) b h).w3ᵀ : FVec Ideal S2x12x640x256 .f32) := by
  have e : res_main_while0b_v317 V = (B4 .f32 fun b h => ((wj I j b h).w3 - (us (cj I j b h) (wj I j b h)).w3)ᵀ : FVec Ideal S2x12x640x256 .f32) := by
    unfold res_main_while0b_v317
    rw [H.f11, v240 H hj, subf_B]; rfl
  unfold res_main_while0b_v329
  refine (re_640 _ _ _ _ e H.f7).trans ?_
  congr 1; funext b h
  exact reN_tr _ _
theorem v342 : res_main_while0b_v342 V = (B4 .f32 fun b h => (wj I (j + 1) b h).w2 : FVec Ideal S2x12x256x640 .f32) := by
  have e : res_main_while0b_v330 V = (B4 .f32 fun b h => (wj I j b h).w2 - (us (cj I j b h) (wj I j b h)).w2 : FVec Ideal S2x12x256x640 .f32) := by
    unfold res_main_while0b_v330
    rw [H.f12, v303 H hj, subf_B]
  unfold res_main_while0b_v342
  refine (re_256 _ _ _ _ e H.f8).trans ?_
  congr 1; funext b h
  exact reN_R _ _
theorem v350 : res_main_while0b_v350 V = (C4 .f32 fun b h => p1 (cj I j b h) (wj I (j + 1) b h) : FVec Ideal S2x384x12x640 .f32) := by
  unfold res_main_while0b_v350
  rw [v316 H hj, v55 H hj, v346 H hj, truncf_B, up_B, col_640, mulf_C]
  congr 1; funext b h
  rw [had_col, Matrix.transpose_transpose]
  exact sc_q I j b h _

/-- A trip. -/
theorem holds_step : Holds I (STEP V) (j + 1) where
  n := by
    rw [STEP_main_v41_9]; unfold step_main_v41_9
    rw [H.n]; interval_cases j <;> rfl
  f0 := (STEP_main_v41_0 V).trans H.f0
  f1 := (STEP_main_v41_1 V).trans H.f1
  f2 := (STEP_main_v41_2 V).trans H.f2
  f3 := (STEP_main_v41_3 V).trans H.f3
  f4 := (STEP_main_v41_4 V).trans H.f4
  f5 := (STEP_main_v41_5 V).trans H.f5
  f6 := (STEP_main_v41_6 V).trans H.f6
  f7 := (STEP_main_v41_7 V).trans H.f7
  f8 := (STEP_main_v41_8 V).trans H.f8
  f10 := (STEP_main_v41_10 V).trans (v316 H hj)
  f11 := (STEP_main_v41_11 V).trans (v329 H hj)
  f12 := (STEP_main_v41_12 V).trans (v342 H hj)
  f13 := by
    rw [STEP_main_v41_13]; unfold step_main_v41_13
    rw [H.n]
    refine stk_step hj H.f13 _ ?_ _
    have e3 : mulf (F := Ideal) (transpose S2x384x12x640 [0, 3, 1, 2] (Host.dotGeneral (φ₂ := .bf16) dot_S2x12x640x256_S2x384x12x256_S2x12x640x384_3_3_2_1_01_02 none (truncf .bf16 (res_main_while0b_v329 V) bitsLt_bf16_f32) (res_main_while0b_v55 V)) transposes_S2x12x640x384_S2x384x12x640_0_3_1_2) (broadcastInDim S2x384x12x640 ![0, 1, 2, 3] bcast_S2x384x12x1_S2x384x12x640_0_1_2_3 (res_main_while0b_v346 V))
        = (C4 .f32 fun b h => p3 (cj I j b h) (wj I (j + 1) b h) : FVec Ideal S2x384x12x640 .f32) := by
      rw [v329 H hj, v55 H hj, v346 H hj, truncf_B, up_B, col_640, mulf_C]
      congr 1; funext b h
      rw [had_col, Matrix.transpose_transpose]
      exact sc_q I j b h _
    rw [e3, sig_C _ _ (v350 H hj), v350 H hj, v342 H hj, mulf_C, mulf_C, truncf_C, truncf_B, out_B]
    intro i; idx_vars i
    pointwise [C4]; rfl
  f14 := by
    rw [STEP_main_v41_14]; unfold step_main_v41_14
    rw [H.n]
    refine stk_step hj H.f14 _ ?_ _
    rw [v81 H hj]
    intro i; idx_vars i
    pointwise [C4]
  f15 := by
    rw [STEP_main_v41_15]; unfold step_main_v41_15
    rw [H.n]
    refine stk_step hj H.f15 _ ?_ _
    rw [v175 H hj]
    intro i; idx_vars i
    pointwise [B4]
  f16 := by
    rw [STEP_main_v41_16]; unfold step_main_v41_16
    rw [H.n]
    refine stk_step hj H.f16 _ ?_ _
    rw [v240 H hj]
    intro i; idx_vars i
    pointwise [B4]
  f17 := by
    rw [STEP_main_v41_17]; unfold step_main_v41_17
    rw [H.n]
    refine stk_step hj H.f17 _ ?_ _
    rw [v303 H hj]
    intro i; idx_vars i
    pointwise [B4]

end Cert.Lact.Ref

end
-- ==== Proof.REntry.lean ====
/-
  What the reference's loop starts from.
-/
module

public import proofs.«01_k».proof.Proof.RVal
public import Idealize.ShloMosaic.Lib.Pipeline.ValueKit

@[expose] public section

set_option maxRecDepth 65536

noncomputable section

namespace Cert.Lact.Ref

open Idealize.ShloMosaic Idealize.ShloMosaic.TcCoe Cert.ReferenceIdeal Cert.ReferenceIdeal.Gen Cert.ReferenceIdeal.Value Cert.Lact
open Matrix

theorem er_ite (p : Prop) [Decidable p] (x y : ℝ) : (if p then er x else er y) = er (if p then x else y) := by
  split <;> rfl

/-- The sequences' rows in three chunks, with zeros past the end. -/
theorem chunks5 (f : ℕ → ℕ → ℕ → ℝ) :
    transpose S3x2x384x12x256 [1, 0, 2, 3, 4] (shapeCast S2x3x384x12x256 (pad S2x1152x12x256 ![0, 0, 0, 0] ![0, 256, 0, 0] ![0, 0, 0, 0]
        (shapeCast S2x896x12x256 (T3 .bf16 f : FVec Ideal S2x896x3072 .bf16) shapeCasts_S2x896x3072_S2x896x12x256)
        (sitofp (F := Ideal) .bf16 (constantI S_ 32 0#32)) pads_S2x896x12x256_S2x1152x12x256_000_02560_000_000 h_S_) shapeCasts_S2x1152x12x256_S2x3x384x12x256)
        transposes_S2x3x384x12x256_S3x2x384x12x256_1_0_2_3_4
      = (S5 .bf16 fun j b h => Matrix.of fun r x => if 384 * j + r.val < 896 then f b (384 * j + r.val) (256 * h + x.val) else 0 : FVec Ideal S3x2x384x12x256 .bf16) := by
  funext i; idx_vars i
  pointwise [T3, S5]
  have e0 : (FloatOps.sitofp (F := Ideal) FTy.bf16 0#32 : EReal) = er 0 := by
    show (((0#32 : BitVec 32).toInt : ℝ) : EReal) = ((0 : ℝ) : EReal)
    norm_num
  rw [e0, mul_comm i0.val 384, mul_comm i3.val 256]
  exact er_ite _ _ _

theorem chunks4 (f : ℕ → ℕ → ℕ → ℝ) (a : BitVec 32) (z : ℝ) (ha : Ideal.ofBits .f32 a = er z) :
    transpose S3x2x384x12 [1, 0, 2, 3] (shapeCast S2x3x384x12 (pad S2x1152x12 ![0, 0, 0] ![0, 256, 0] ![0, 0, 0]
        (T3 .f32 f : FVec Ideal S2x896x12 .f32)
        (id (constant (F := Ideal) S_ .f32 a)) pads_S2x896x12_S2x1152x12_000_02560_000 h_S_) shapeCasts_S2x1152x12_S2x3x384x12)
        transposes_S2x3x384x12_S3x2x384x12_1_0_2_3
      = (S4 .f32 fun j b h r => if 384 * j + r.val < 896 then f b (384 * j + r.val) h else z : FVec Ideal S3x2x384x12 .f32) := by
  funext i; idx_vars i
  pointwise [T3, S4]
  have e0 : (id (constant (F := Ideal) S_ FTy.f32 a) (Shape.Idx.first h_S_) : EReal) = er z := ha
  rw [e0, mul_comm i0.val 384]
  exact er_ite _ _ _

theorem norm_at {n m : ℕ} (Z : Fin n → Fin m → ℝ) (i : Fin n) : Ideal.sqrt (∑ k, er (Z i k) * er (Z i k)) = er (Real.sqrt (∑ k, Z i k * Z i k)) := by
  have e : (∑ k, er (Z i k) * er (Z i k)) = er (∑ k, Z i k * Z i k) := er_mul_sum _ _
  rw [e]
  exact er_sqrt (Finset.sum_nonneg fun a _ => mul_self_nonneg _)

/-- The norms of a weight's rows. -/
theorem norms_640 (f : ℕ → ℕ → ℕ → ℝ) :
    Host.sqrt (Host.reduceAdd (mulf (T3 .f32 f : FVec Ideal S12x640x256 .f32) (T3 .f32 f : FVec Ideal S12x640x256 .f32)) (constant S_ .f32 0x00000000#32) reducesTo_S12x640x256_S12x640_d2 h_S_)
      = (N2 fun h => colN (Matrix.of fun d g => f h.val g.val d.val) : FVec Ideal S12x640 .f32) := by
  funext i; idx_vars i
  pointwise [T3, N2]
  exact norm_at (fun (i : Fin 640) (k : Fin 256) => f i0.val i.val k.val) i1
theorem norms_256 (f : ℕ → ℕ → ℕ → ℝ) :
    Host.sqrt (Host.reduceAdd (mulf (T3 .f32 f : FVec Ideal S12x256x640 .f32) (T3 .f32 f : FVec Ideal S12x256x640 .f32)) (constant S_ .f32 0x00000000#32) reducesTo_S12x256x640_S12x256_d2 h_S_)
      = (N2 fun h => rowN (Matrix.of fun d g => f h.val d.val g.val) : FVec Ideal S12x256 .f32) := by
  funext i; idx_vars i
  pointwise [T3, N2]
  exact norm_at (fun (i : Fin 256) (k : Fin 640) => f i0.val i.val k.val) i1

theorem bcw_640 (f : ℕ → ℕ → ℕ → ℝ) :
    broadcastInDim S2x12x640x256 ![1, 2, 3] bcast_S12x640x256_S2x12x640x256_1_2_3 (T3 .f32 f : FVec Ideal S12x640x256 .f32)
      = (B4 .f32 fun _ h => (Matrix.of fun (d : Fin 256) (g : Fin 640) => f h.val g.val d.val)ᵀ : FVec Ideal S2x12x640x256 .f32) := by
  funext i; idx_vars i
  pointwise [T3, B4]; rfl
theorem bcw_256 (f : ℕ → ℕ → ℕ → ℝ) :
    broadcastInDim S2x12x256x640 ![1, 2, 3] bcast_S12x256x640_S2x12x256x640_1_2_3 (T3 .f32 f : FVec Ideal S12x256x640 .f32)
      = (B4 .f32 fun _ h => (Matrix.of fun (d : Fin 256) (g : Fin 640) => f h.val d.val g.val) : FVec Ideal S2x12x256x640 .f32) := by
  funext i; idx_vars i
  pointwise [T3, B4]; rfl

variable (m : (ℓ : Loc nD τ Cert.ReferenceIdeal.sig) → Buf (Elt Ideal) ℓ) (ρ : Dev nD → PrngReg) (c : Dev nD)

theorem off3 : (![0, 0, 0] : Fin 3 → ℕ) = fun _ => 0 := by decide

theorem out_q (x0 x1 : Vec Ideal S2x896x3072 .fp8e4m3) : out0_2 x0 x1 = k0_pay1 x0 := by
  unfold out0_2
  rw [View.canon_unit_zero off3, View.ld_unit_zero off3]
theorem out_k (x0 x1 : Vec Ideal S2x896x3072 .fp8e4m3) : out0_3 x0 x1 = k0_pay2 x1 := by
  unfold out0_3
  rw [View.canon_unit_zero off3, View.ld_unit_zero off3]
theorem pay_q (x : Vec Ideal S2x896x3072 .fp8e4m3) : k0_pay1 x = (x : S2x896x3072.Idx → EReal) := by
  unfold k0_pay1
  rw [shapeCast_self]; rfl
theorem pay_k (x : Vec Ideal S2x896x3072 .fp8e4m3) : k0_pay2 x = (x : S2x896x3072.Idx → EReal) := by
  unfold k0_pay2
  rw [shapeCast_self]; rfl

theorem blk_q (V : (c : Dev nD) → (b : Ref Cert.ReferenceIdeal.sig .tc) → Buf (Elt Ideal) ((c.tc : Thread nD τ).loc b)) (f : ℕ → ℕ → ℕ → ℝ) (t : Fin cfg0.N)
    (h : V c main_v0 = (T3 .fp8e4m3 f : FVec Ideal S2x896x3072 .fp8e4m3)) : iblk0 V c 0 t = fun j => er (f (j (0 : Fin 3)).val (j (1 : Fin 3)).val (j (2 : Fin 3)).val) := by
  funext j
  show V c main_v0 (((cfg0.win 0).blk t).view.emb j) = _
  rw [h]
  show er (f (((cfg0.win 0).blk t).view.emb j 0).val (((cfg0.win 0).blk t).view.emb j 1).val (((cfg0.win 0).blk t).view.emb j 2).val) = er (f (j 0).val (j 1).val (j 2).val)
  blk_simp
  have e : ∀ a, win0_0.index t a = 0 := (by decide +kernel : ∀ (t : Fin cfg0.N) a, win0_0.index t a = 0) t
  rw [e, e, e]
  simp only [Nat.zero_mul, Nat.zero_add]
theorem blk_k (V : (c : Dev nD) → (b : Ref Cert.ReferenceIdeal.sig .tc) → Buf (Elt Ideal) ((c.tc : Thread nD τ).loc b)) (f : ℕ → ℕ → ℕ → ℝ) (t : Fin cfg0.N)
    (h : V c main_v1 = (T3 .fp8e4m3 f : FVec Ideal S2x896x3072 .fp8e4m3)) : iblk0 V c 1 t = fun j => er (f (j (0 : Fin 3)).val (j (1 : Fin 3)).val (j (2 : Fin 3)).val) := by
  funext j
  show V c main_v1 (((cfg0.win 1).blk t).view.emb j) = _
  rw [h]
  show er (f (((cfg0.win 1).blk t).view.emb j 0).val (((cfg0.win 1).blk t).view.emb j 1).val (((cfg0.win 1).blk t).view.emb j 2).val) = er (f (j 0).val (j 1).val (j 2).val)
  blk_simp
  have e : ∀ a, win0_1.index t a = 0 := (by decide +kernel : ∀ (t : Fin cfg0.N) a, win0_1.index t a = 0) t
  rw [e, e, e]
  simp only [Nat.zero_mul, Nat.zero_add]

theorem codes_q (f : ℕ → ℕ → ℕ → ℝ) (h : V1 m ρ c main_v0 = (T3 .fp8e4m3 f : FVec Ideal S2x896x3072 .fp8e4m3)) :
    W2 m ρ c (Proc.devRef .tc main_v2_0) = (T3 .bf16 f : FVec Ideal S2x896x3072 .bf16) := by
  refine (W2_arr m ρ c 2).trans ?_
  refine (dat0 (V1 m ρ) c).arrAt_eq_of_after_last 2 ⟨0, by decide⟩ (by decide +kernel) (T3 .bf16 f : FVec Ideal S2x896x3072 .bf16) fun j => ?_
  rw [after0_2, out_q, pay_q, blk_q c _ f _ h]
  show er (f (j 0).val (j 1).val (j 2).val) = er (f ((cfg0.win 2).arr.view.emb j 0).val ((cfg0.win 2).arr.view.emb j 1).val ((cfg0.win 2).arr.view.emb j 2).val)
  rfl
theorem codes_k (f : ℕ → ℕ → ℕ → ℝ) (h : V1 m ρ c main_v1 = (T3 .fp8e4m3 f : FVec Ideal S2x896x3072 .fp8e4m3)) :
    W2 m ρ c (Proc.devRef .tc main_v2_1) = (T3 .bf16 f : FVec Ideal S2x896x3072 .bf16) := by
  refine (W2_arr m ρ c 3).trans ?_
  refine (dat0 (V1 m ρ) c).arrAt_eq_of_after_last 3 ⟨0, by decide⟩ (by decide +kernel) (T3 .bf16 f : FVec Ideal S2x896x3072 .bf16) fun j => ?_
  rw [after0_3, out_k, pay_k, blk_k c _ f _ h]
  show er (f (j 0).val (j 1).val (j 2).val) = er (f ((cfg0.win 3).arr.view.emb j 0).val ((cfg0.win 3).arr.view.emb j 1).val ((cfg0.win 3).arr.view.emb j 2).val)
  rfl

/-- The arguments. -/
structure Args (I : In) : Prop where
  a0 : m ((c.tc : Thread nD τ).loc main_arg0) = (T3 .f32 I.Q : FVec Ideal S2x896x3072 .f32)
  a1 : m ((c.tc : Thread nD τ).loc main_arg1) = (T3 .f32 I.QS : FVec Ideal S2x896x12 .f32)
  a2 : m ((c.tc : Thread nD τ).loc main_arg2) = (T3 .f32 I.K : FVec Ideal S2x896x3072 .f32)
  a3 : m ((c.tc : Thread nD τ).loc main_arg3) = (T3 .f32 I.KS : FVec Ideal S2x896x12 .f32)
  a4 : m ((c.tc : Thread nD τ).loc main_arg4) = (T3 .bf16 I.V : FVec Ideal S2x896x3072 .bf16)
  a5 : m ((c.tc : Thread nD τ).loc main_arg5) = (T3 .f32 I.LR : FVec Ideal S2x896x12 .f32)
  a6 : m ((c.tc : Thread nD τ).loc main_arg6) = (T3 .f32 I.W1 : FVec Ideal S12x640x256 .f32)
  a7 : m ((c.tc : Thread nD τ).loc main_arg7) = (T3 .f32 I.W3 : FVec Ideal S12x640x256 .f32)
  a8 : m ((c.tc : Thread nD τ).loc main_arg8) = (T3 .f32 I.W2 : FVec Ideal S12x256x640 .f32)

variable {m c} {I : In} (H : Args m c I)
include H

theorem v0_eq : V1 m ρ c main_v0 = (T3 .fp8e4m3 I.Q : FVec Ideal S2x896x3072 .fp8e4m3) := by
  have e : V1 m ρ c main_v0 = (Host.convertf (φ := .f32) .fp8e4m3 (m ((c.tc : Thread nD τ).loc main_arg0) : FVec Ideal S2x896x3072 .f32) : FVec Ideal S2x896x3072 .fp8e4m3) := by
    show StableHlo.after hostOps0 _ _ = _
    after_results_simp
  rw [e, H.a0]; rfl
theorem v1_eq : V1 m ρ c main_v1 = (T3 .fp8e4m3 I.K : FVec Ideal S2x896x3072 .fp8e4m3) := by
  have e : V1 m ρ c main_v1 = (Host.convertf (φ := .f32) .fp8e4m3 (m ((c.tc : Thread nD τ).loc main_arg2) : FVec Ideal S2x896x3072 .f32) : FVec Ideal S2x896x3072 .fp8e4m3) := by
    show StableHlo.after hostOps0 _ _ = _
    after_results_simp
  rw [e, H.a2]; rfl

theorem entry : Holds I (Went m ρ c) 0 where
  n := by
    simp only [Went, StableHlo.afterL_cons, StableHlo.afterL_nil]
    after_results_simp
    rfl
  f0 := by
    simp only [Went, StableHlo.afterL_cons, StableHlo.afterL_nil]
    after_results_simp
    rw [codes_q m ρ c _ (v0_eq ρ H)]
    exact chunks5 I.Q
  f1 := by
    simp only [Went, StableHlo.afterL_cons, StableHlo.afterL_nil]
    after_results_simp
    rw [(W2_args m ρ c main_arg1 (by decide)).trans H.a1]
    exact chunks4 I.QS _ _ bits_1
  f2 := by
    simp only [Went, StableHlo.afterL_cons, StableHlo.afterL_nil]
    after_results_simp
    rw [codes_k m ρ c _ (v1_eq ρ H)]
    exact chunks5 I.K
  f3 := by
    simp only [Went, StableHlo.afterL_cons, StableHlo.afterL_nil]
    after_results_simp
    rw [(W2_args m ρ c main_arg3 (by decide)).trans H.a3]
    exact chunks4 I.KS _ _ bits_1
  f4 := by
    simp only [Went, StableHlo.afterL_cons, StableHlo.afterL_nil]
    after_results_simp
    rw [(W2_args m ρ c main_arg4 (by decide)).trans H.a4]
    exact chunks5 I.V
  f5 := by
    simp only [Went, StableHlo.afterL_cons, StableHlo.afterL_nil]
    after_results_simp
    rw [(W2_args m ρ c main_arg5 (by decide)).trans H.a5]
    exact chunks4 I.LR _ _ bits_0
  f6 := by
    simp only [Went, StableHlo.afterL_cons, StableHlo.afterL_nil]
    after_results_simp
    rw [(W2_args m ρ c main_arg6 (by decide)).trans H.a6]
    exact norms_640 I.W1
  f7 := by
    simp only [Went, StableHlo.afterL_cons, StableHlo.afterL_nil]
    after_results_simp
    rw [(W2_args m ρ c main_arg7 (by decide)).trans H.a7]
    exact norms_640 I.W3
  f8 := by
    simp only [Went, StableHlo.afterL_cons, StableHlo.afterL_nil]
    after_results_simp
    rw [(W2_args m ρ c main_arg8 (by decide)).trans H.a8]
    exact norms_256 I.W2
  f10 := by
    simp only [Went, StableHlo.afterL_cons, StableHlo.afterL_nil]
    after_results_simp
    rw [(W2_args m ρ c main_arg6 (by decide)).trans H.a6]
    exact bcw_640 I.W1
  f11 := by
    simp only [Went, StableHlo.afterL_cons, StableHlo.afterL_nil]
    after_results_simp
    rw [(W2_args m ρ c main_arg7 (by decide)).trans H.a7]
    exact bcw_640 I.W3
  f12 := by
    simp only [Went, StableHlo.afterL_cons, StableHlo.afterL_nil]
    after_results_simp
    rw [(W2_args m ρ c main_arg8 (by decide)).trans H.a8]
    exact bcw_256 I.W2
  f13 := fun i h => absurd h (Nat.not_lt_zero _)
  f14 := fun i h => absurd h (Nat.not_lt_zero _)
  f15 := fun i h => absurd h (Nat.not_lt_zero _)
  f16 := fun i h => absurd h (Nat.not_lt_zero _)
  f17 := fun i h => absurd h (Nat.not_lt_zero _)

end Cert.Lact.Ref

end
-- ==== Proof.ROut.lean ====
/-
  What the reference leaves: the three chunks' results put together, the last weights, the first updates.
-/
module

public import proofs.«01_k».proof.Proof.REntry

@[expose] public section

set_option maxRecDepth 65536

noncomputable section

namespace Cert.Lact.Ref

open Idealize.ShloMosaic Idealize.ShloMosaic.TcCoe Cert.ReferenceIdeal Cert.ReferenceIdeal.Gen Cert.ReferenceIdeal.Value Cert.Lact
open Matrix

variable (I : In)

theorem y_out (x : FVec Ideal S3x2x384x12x256 .f32)
    (H : Stk 3 x fun j => (C4 .f32 fun b h => yo (cj I j b h) (wj I (j + 1) b h) : FVec Ideal S2x384x12x256 .f32)) :
    truncf .bf16 (extractStridedSlice S2x896x3072 ![0, 0, 0] (shapeCast S2x1152x3072 (transpose S2x3x384x12x256 [1, 0, 2, 3, 4] x transposes_S3x2x384x12x256_S2x3x384x12x256_1_0_2_3_4) shapeCasts_S2x3x384x12x256_S2x1152x3072) slices_S2x1152x3072_S2x896x3072_0_0_0) bitsLt_bf16_f32
      = (T3 .bf16 (yV I) : FVec Ideal S2x896x3072 .bf16) := by
  funext i; idx_vars i
  pointwise [T3]
  refine (H _ ?_).trans ?_
  · show i1.val / 384 < 3
    omega
  · exact congrArg er (ent_fin (n := 384) (m := 256) _ ⟨i1.val % 384, _⟩ ⟨i2.val % 256, _⟩).symm

theorem g_out (x : FVec Ideal S3x2x384x12x640 .bf16)
    (H : Stk 3 x fun j => (C4 .bf16 fun b h => gk (cj I j b h) (wj I j b h) : FVec Ideal S2x384x12x640 .bf16)) :
    extractStridedSlice S2x896x12x640 ![0, 0, 0, 0] (shapeCast S2x1152x12x640 (transpose S2x3x384x12x640 [1, 0, 2, 3, 4] x transposes_S3x2x384x12x640_S2x3x384x12x640_1_0_2_3_4) shapeCasts_S2x3x384x12x640_S2x1152x12x640) slices_S2x1152x12x640_S2x896x12x640_0_0_0_0
      = (T4 .bf16 (gV I) : FVec Ideal S2x896x12x640 .bf16) := by
  funext i; idx_vars i
  pointwise [T4]
  refine (H _ ?_).trans ?_
  · show i1.val / 384 < 3
    omega
  · exact congrArg er (ent_fin (n := 384) (m := 640) _ ⟨i1.val % 384, _⟩ i3).symm

theorem u_out_640 (x : FVec Ideal S3x2x12x640x256 .f32) (Y : ℕ → Fin 2 → Fin 12 → Mat 640 256)
    (H : Stk 3 x fun j => (B4 .f32 (Y j) : FVec Ideal S2x12x640x256 .f32)) :
    shapeCast S2x12x640x256 (extractStridedSlice S1x2x12x640x256 ![0, 0, 0, 0, 0] x slices_S3x2x12x640x256_S1x2x12x640x256_0_0_0_0_0) shapeCasts_S1x2x12x640x256_S2x12x640x256
      = (B4 .f32 (Y 0) : FVec Ideal S2x12x640x256 .f32) := by
  funext i; idx_vars i
  pointwise [B4]
  refine (H _ ?_).trans ?_
  · exact Nat.zero_lt_succ 2
  · rfl

theorem u_out_256 (x : FVec Ideal S3x2x12x256x640 .f32) (Y : ℕ → Fin 2 → Fin 12 → Mat 256 640)
    (H : Stk 3 x fun j => (B4 .f32 (Y j) : FVec Ideal S2x12x256x640 .f32)) :
    shapeCast S2x12x256x640 (extractStridedSlice S1x2x12x256x640 ![0, 0, 0, 0, 0] x slices_S3x2x12x256x640_S1x2x12x256x640_0_0_0_0_0) shapeCasts_S1x2x12x256x640_S2x12x256x640
      = (B4 .f32 (Y 0) : FVec Ideal S2x12x256x640 .f32) := by
  funext i; idx_vars i
  pointwise [B4]
  refine (H _ ?_).trans ?_
  · exact Nat.zero_lt_succ 2
  · rfl

theorem b4 {n k : ℕ} (Y : ℕ → ℕ → Mat n k) :
    (B4 .f32 (fun b h => Y b.val h.val) : FVec Ideal ⟨4, ![2, 12, n, k]⟩ .f32) = T4 .f32 fun b h i j => ent (Y b h) i j := by
  funext i
  exact congrArg er (ent_fin _ _ _).symm

variable {m : (ℓ : Loc nD τ Cert.ReferenceIdeal.sig) → Buf (Elt Ideal) ℓ} (ρ : Dev nD → PrngReg) {I : In}

theorem last (c : Dev nD) (H : Args m c I) : Holds I (STEP^[nT] (Went m ρ c)) 3 := by
  show Holds I (STEP (STEP (STEP (Went m ρ c)))) 3
  exact holds_step (holds_step (holds_step (entry ρ H) (by decide)) (by decide)) (by decide)

/-- The reference's run. -/
theorem run (I : Dev nD → In) (H : ∀ c, Args m c (I c)) :
    θ_run (defs (F := Ideal)) (onTc (τ := τ) (main (F := Ideal))) ⟨m, fun _ => 0, ρ⟩ fun r => ∀ c : Dev nD,
      r.2.mem ((c.tc : Thread nD τ).loc main_v45) = (T3 .bf16 (yV (I c)) : FVec Ideal S2x896x3072 .bf16)
      ∧ r.2.mem ((c.tc : Thread nD τ).loc main_v48) = (T4 .bf16 (gV (I c)) : FVec Ideal S2x896x12x640 .bf16)
      ∧ r.2.mem ((c.tc : Thread nD τ).loc main_v41_10) = (T4 .f32 (w1V (I c)) : FVec Ideal S2x12x640x256 .f32)
      ∧ r.2.mem ((c.tc : Thread nD τ).loc main_v41_11) = (T4 .f32 (w3V (I c)) : FVec Ideal S2x12x640x256 .f32)
      ∧ r.2.mem ((c.tc : Thread nD τ).loc main_v41_12) = (T4 .f32 (w2V (I c)) : FVec Ideal S2x12x256x640 .f32)
      ∧ r.2.mem ((c.tc : Thread nD τ).loc main_v50) = (T4 .f32 (u1V (I c)) : FVec Ideal S2x12x640x256 .f32)
      ∧ r.2.mem ((c.tc : Thread nD τ).loc main_v52) = (T4 .f32 (u3V (I c)) : FVec Ideal S2x12x640x256 .f32)
      ∧ r.2.mem ((c.tc : Thread nD τ).loc main_v54) = (T4 .f32 (u2V (I c)) : FVec Ideal S2x12x256x640 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := last ρ c (H c)
    ⟨((h c _ (Gen.mem_uc main_v45 (by decide))).trans (final_main_v45 m ρ c)).trans (y_out (I c) _ hk.f13),
     ((h c _ (Gen.mem_uc main_v48 (by decide))).trans (final_main_v48 m ρ c)).trans (g_out (I c) _ hk.f14),
     ((h c _ (Gen.mem_uc main_v41_10 (by decide))).trans (final_main_v41_10 m ρ c)).trans (hk.f10.trans (b4 fun b h => (wn (I c) b h 3).w1ᵀ)),
     ((h c _ (Gen.mem_uc main_v41_11 (by decide))).trans (final_main_v41_11 m ρ c)).trans (hk.f11.trans (b4 fun b h => (wn (I c) b h 3).w3ᵀ)),
     ((h c _ (Gen.mem_uc main_v41_12 (by decide))).trans (final_main_v41_12 m ρ c)).trans (hk.f12.trans (b4 fun b h => (wn (I c) b h 3).w2)),
     ((h c _ (Gen.mem_uc main_v50 (by decide))).trans (final_main_v50 m ρ c)).trans ((u_out_640 _ _ hk.f15).trans (b4 fun b h => (us (chk (I c) b h 0) (w0 (I c) h)).w1ᵀ)),
     ((h c _ (Gen.mem_uc main_v52 (by decide))).trans (final_main_v52 m ρ c)).trans ((u_out_640 _ _ hk.f16).trans (b4 fun b h => (us (chk (I c) b h 0) (w0 (I c) h)).w3ᵀ)),
     ((h c _ (Gen.mem_uc main_v54 (by decide))).trans (final_main_v54 m ρ c)).trans ((u_out_256 _ _ hk.f17).trans (b4 fun b h => (us (chk (I c) b h 0) (w0 (I c) h)).w2)),
     (h c _ (Gen.mem_uc main_arg0 (by decide))).trans (Gen.WN_main_arg0 m ρ c),
     (h c _ (Gen.mem_uc main_arg1 (by decide))).trans (Gen.WN_main_arg1 m ρ c),
     (h c _ (Gen.mem_uc main_arg2 (by decide))).trans (Gen.WN_main_arg2 m ρ c),
     (h c _ (Gen.mem_uc main_arg3 (by decide))).trans (Gen.WN_main_arg3 m ρ c),
     (h c _ (Gen.mem_uc main_arg4 (by decide))).trans (Gen.WN_main_arg4 m ρ c),
     (h c _ (Gen.mem_uc main_arg5 (by decide))).trans (Gen.WN_main_arg5 m ρ c),
     (h c _ (Gen.mem_uc main_arg6 (by decide))).trans (Gen.WN_main_arg6 m ρ c),
     (h c _ (Gen.mem_uc main_arg7 (by decide))).trans (Gen.WN_main_arg7 m ρ c),
     (h c _ (Gen.mem_uc main_arg8 (by decide))).trans (Gen.WN_main_arg8 m ρ c)⟩) (Gen.run_main m ρ)

end Cert.Lact.Ref

end
-- ==== Proof.Finite.lean ====
/-
  Arguments all of whose elements are finite are arrays of real numbers.
-/
module

public import proofs.«01_k».proof.Proof.Values
public import proofs.«01_k».proof.Proof.Gen.Pre_finite_inputs
public import Idealize.ShloMosaic.Lib.ReduceAll
public import Idealize.ShloMosaic.Lib.Pointwise

@[expose] public section

noncomputable section

namespace Cert.Lact.Finite

open Idealize.ShloMosaic Cert.Pre_finite_inputs Cert.Pre_finite_inputs.Facts Cert.Lact

theorem top_32 : Ideal.ofBits .f32 0x7F800000#32 = (⊤ : EReal) := by simp [Ideal.ofBits, Ideal.ieee]
theorem top_16 : Ideal.ofBits .bf16 0x7F80#16 = (⊤ : EReal) := by simp [Ideal.ofBits, Ideal.ieee]

theorem real_of_abs_lt {x : EReal} (h : max x (-x) < ⊤) : x = er x.toReal := by
  induction x with
  | bot => simp at h
  | top => simp at h
  | coe r => rfl

/-- An array each of whose elements is real, by its coordinates. -/
theorem eq_T3 {a b c : ℕ} (φ : FTy) (x : FVec Ideal ⟨3, ![a, b, c]⟩ φ) (h : ∀ i, (x i : EReal) = er (EReal.toReal (x i))) :
    ∃ f : ℕ → ℕ → ℕ → ℝ, x = T3 φ f := by
  refine ⟨fun i j k => if hi : i < a then if hj : j < b then if hk : k < c then EReal.toReal (x (ix3 ⟨i, hi⟩ ⟨j, hj⟩ ⟨k, hk⟩)) else 0 else 0 else 0, ?_⟩
  funext i
  obtain ⟨i0, i1, i2, rfl⟩ : ∃ (i0 : Fin a) (i1 : Fin b) (i2 : Fin c), i = ix3 i0 i1 i2 :=
    ⟨i 0, i 1, i 2, funext fun k => match k with | ⟨0, _⟩ => rfl | ⟨1, _⟩ => rfl | ⟨2, _⟩ => rfl⟩
  refine (h _).trans (congrArg er ?_)
  exact ((dif_pos i0.isLt).trans ((dif_pos i1.isLt).trans (dif_pos i2.isLt))).symm

theorem fin_of {a b c : ℕ} (φ : FTy) (z : BitVec φ.bits) (hz : Ideal.ofBits φ z = (⊤ : EReal)) (x : FVec Ideal ⟨3, ![a, b, c]⟩ φ) (hb : S_.BroadcastsInDim ⟨3, ![a, b, c]⟩ (![] : Fin 0 → Fin 3))
    (hr : (⟨3, ![a, b, c]⟩ : Shape).ReducesTo [0, 1, 2] S_) (hs : 0 < S_.numel) (j : S_.Idx)
    (e : Host.reduce IntOp.andi (cmpf .olt (Host.absf x) (broadcastInDim ⟨3, ![a, b, c]⟩ ![] hb (constant S_ φ z))) (constantI S_ 1 1#1) hr hs j = 1#1) :
    ∃ f : ℕ → ℕ → ℕ → ℝ, x = T3 φ f := by
  haveI : Subsingleton S_.Idx := ⟨fun a b => funext fun i => i.elim0⟩
  refine eq_T3 φ x fun i => real_of_abs_lt ?_
  have e1 := Host.reduce_andi_all _ _ hr hs j e i
  have e2 : Ideal.cmp .olt (max (x i : EReal) (-(x i : EReal))) (Ideal.ofBits φ z) = 1#1 := e1
  rw [hz] at e2
  by_contra hn
  simp [Ideal.cmp, hn] at e2

/-- What the precondition says. -/
theorem args {x0 : FVec Ideal S2x896x3072 .f32} {x1 : FVec Ideal S2x896x12 .f32} {x2 : FVec Ideal S2x896x3072 .f32} {x3 : FVec Ideal S2x896x12 .f32}
    {x4 : FVec Ideal S2x896x3072 .bf16} {x5 : FVec Ideal S2x896x12 .f32} {x6 x7 : FVec Ideal S12x640x256 .f32} {x8 : FVec Ideal S12x256x640 .f32}
    (h : fn (F := Ideal) x0 x1 x2 x3 x4 x5 x6 x7 x8 = fun _ => 1#1) :
    ∃ I : In, x0 = T3 .f32 I.Q ∧ x1 = T3 .f32 I.QS ∧ x2 = T3 .f32 I.K ∧ x3 = T3 .f32 I.KS ∧ x4 = T3 .bf16 I.V ∧ x5 = T3 .f32 I.LR
      ∧ x6 = T3 .f32 I.W1 ∧ x7 = T3 .f32 I.W3 ∧ x8 = T3 .f32 I.W2 := by
  have e := congrFun h (Shape.Idx.first h_S_)
  unfold fn fn_part1 fn_part2 at e
  have and1 : ∀ a b : BitVec 1, IntOp.andi a b = 1#1 → a = 1#1 ∧ b = 1#1 := by decide
  obtain ⟨e, h8⟩ := and1 _ _ e
  obtain ⟨e, h7⟩ := and1 _ _ e
  obtain ⟨e, h6⟩ := and1 _ _ e
  obtain ⟨e, h5⟩ := and1 _ _ e
  obtain ⟨e, h4⟩ := and1 _ _ e
  obtain ⟨e, h3⟩ := and1 _ _ e
  obtain ⟨e, h2⟩ := and1 _ _ e
  obtain ⟨h0, h1⟩ := and1 _ _ e
  obtain ⟨f0, e0⟩ := fin_of .f32 _ top_32 x0 _ _ _ _ h0
  obtain ⟨f1, e1⟩ := fin_of .f32 _ top_32 x1 _ _ _ _ h1
  obtain ⟨f2, e2⟩ := fin_of .f32 _ top_32 x2 _ _ _ _ h2
  obtain ⟨f3, e3⟩ := fin_of .f32 _ top_32 x3 _ _ _ _ h3
  obtain ⟨f4, e4⟩ := fin_of .bf16 _ top_16 x4 _ _ _ _ h4
  obtain ⟨f5, e5⟩ := fin_of .f32 _ top_32 x5 _ _ _ _ h5
  obtain ⟨f6, e6⟩ := fin_of .f32 _ top_32 x6 _ _ _ _ h6
  obtain ⟨f7, e7⟩ := fin_of .f32 _ top_32 x7 _ _ _ _ h7
  obtain ⟨f8, e8⟩ := fin_of .f32 _ top_32 x8 _ _ _ _ h8
  exact ⟨⟨f0, f1, f2, f3, f4, f5, f6, f7, f8⟩, e0, e1, e2, e3, e4, e5, e6, e7, e8⟩

end Cert.Lact.Finite

end
-- ==== Proof.lean ====
/-
  The claims: the kernel, its idealization and the reference run to the end, leave their arguments as they were and
  every counter at zero; the idealization is the kernel's with the two named constants; over finite inputs the
  idealization's eight results are the reference's.
-/
module

public import proofs.«01_k».proof.Defs
public import proofs.«01_k».proof.Proof.RunK
public import proofs.«01_k».proof.Proof.Run
public import proofs.«01_k».proof.Proof.KOut
public import proofs.«01_k».proof.Proof.ROut
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.Pre_finite_inputs
public import Idealize.ShloMosaic.Adequacy
public import Idealize.ShloMosaic.Init

@[expose] public section

noncomputable section

namespace Cert.Proof

open Idealize.ShloMosaic Idealize.SL.Sem

/-- Over finite inputs the results are the same functions of the arguments. -/
theorem algebraic : Cert.algebraic_KernelIdeal_ReferenceIdeal_pre_finite_inputs := by
  intro m g m' g' hp ha
  choose I e0 e1 e2 e3 e4 e5 e6 e7 e8 using fun c => Cert.Lact.Finite.args (hp c)
  have K := Cert.Lact.krun g m I fun c => ⟨e0 c, e1 c, e2 c, e3 c, e4 c, e5 c, e6 c, e7 c, e8 c⟩
  have R := Cert.Lact.Ref.run (m := m') g' I fun c =>
    ⟨(ha c).1.trans (e0 c), (ha c).2.1.trans (e1 c), (ha c).2.2.1.trans (e2 c), (ha c).2.2.2.1.trans (e3 c), (ha c).2.2.2.2.1.trans (e4 c),
      (ha c).2.2.2.2.2.1.trans (e5 c), (ha c).2.2.2.2.2.2.1.trans (e6 c), (ha c).2.2.2.2.2.2.2.1.trans (e7 c), (ha c).2.2.2.2.2.2.2.2.trans (e8 c)⟩
  exact ⟨_, _, _, _, _, _, _, _, K, R⟩

theorem claim : Cert.Claim :=
  ⟨Cert.Kernel.Gen.facts, Cert.KernelIdeal.Gen.facts, Cert.ReferenceIdeal.Gen.facts, Cert.Pre_finite_inputs.Gen.facts,
    fun m ρ _ => Cert.Kernel.Run.quiescent m ρ,
    fun m ρ _ => Cert.KernelIdeal.Run.quiescent m ρ,
    fun m ρ _ => Cert.KernelIdeal.Run.quiescent m ρ,
    fun m ρ _ => Cert.ReferenceIdeal.Gen.frame m ρ,
    fun m ρ _ => Cert.ReferenceIdeal.Gen.frame m ρ,
    ⟨IdealRules.named_const.statement Cert.KernelIdeal.κ "a2" .f32 0x413DD552#32 _ rfl,
      IdealRules.named_const.statement Cert.KernelIdeal.κ "a3" .f32 0x4223785E#32 _ rfl⟩,
    algebraic⟩

end Cert.Proof

end
